-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Nn (m : (ℓ : Loc Cert.Nn.nD Cert.Nn.τ Cert.Nn.sig) → Buf (Elt Bits) ℓ) : Prop :=
  True

def Pre_NnIdeal (m : (ℓ : Loc Cert.NnIdeal.nD Cert.NnIdeal.τ Cert.NnIdeal.sig) → Buf (Elt Ideal) ℓ) : Prop :=
  True

def Pre_Mse [hPre_idx_in_range : Cert.Pre_idx_in_range.Facts] (m : (ℓ : Loc Cert.Mse.nD Cert.Mse.τ Cert.Mse.sig) → Buf (Elt Bits) ℓ) : Prop :=
  ∀ c : Dev Cert.Mse.nD,
    (Cert.Pre_idx_in_range.fn (F := Bits) (m ((c.tc : Thread Cert.Mse.nD Cert.Mse.τ).loc Cert.Mse.main_arg0)) (m ((c.tc : Thread Cert.Mse.nD Cert.Mse.τ).loc Cert.Mse.main_arg1)) (m ((c.tc : Thread Cert.Mse.nD Cert.Mse.τ).loc Cert.Mse.main_arg2))) = (fun _ => 1#1)

def Pre_MseIdeal [hPre_idx_in_range : Cert.Pre_idx_in_range.Facts] (m : (ℓ : Loc Cert.MseIdeal.nD Cert.MseIdeal.τ Cert.MseIdeal.sig) → Buf (Elt Ideal) ℓ) : Prop :=
  ∀ c : Dev Cert.MseIdeal.nD,
    (Cert.Pre_idx_in_range.fn (F := Ideal) (m ((c.tc : Thread Cert.MseIdeal.nD Cert.MseIdeal.τ).loc Cert.MseIdeal.main_arg0)) (m ((c.tc : Thread Cert.MseIdeal.nD Cert.MseIdeal.τ).loc Cert.MseIdeal.main_arg1)) (m ((c.tc : Thread Cert.MseIdeal.nD Cert.MseIdeal.τ).loc Cert.MseIdeal.main_arg2))) = (fun _ => 1#1)

def Pre_MseRefIdeal (m : (ℓ : Loc Cert.MseRefIdeal.nD Cert.MseRefIdeal.τ Cert.MseRefIdeal.sig) → Buf (Elt Ideal) ℓ) : Prop :=
  True

def Pre_MseRefIdeal_idx_in_range [hPre_idx_in_range : Cert.Pre_idx_in_range.Facts] (m : (ℓ : Loc Cert.MseRefIdeal.nD Cert.MseRefIdeal.τ Cert.MseRefIdeal.sig) → Buf (Elt Ideal) ℓ) : Prop :=
  ∀ c : Dev Cert.MseRefIdeal.nD,
    (Cert.Pre_idx_in_range.fn (F := Ideal) (m ((c.tc : Thread Cert.MseRefIdeal.nD Cert.MseRefIdeal.τ).loc Cert.MseRefIdeal.main_arg0)) (m ((c.tc : Thread Cert.MseRefIdeal.nD Cert.MseRefIdeal.τ).loc Cert.MseRefIdeal.main_arg1)) (m ((c.tc : Thread Cert.MseRefIdeal.nD Cert.MseRefIdeal.τ).loc Cert.MseRefIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Nn [hNn : Cert.Nn.Facts] : Prop :=
  ∀ (m : (ℓ : Loc Cert.Nn.nD Cert.Nn.τ Cert.Nn.sig) → Buf (Elt Bits) ℓ) (g : Dev Cert.Nn.nD → PrngReg), Pre_Nn m →
    θ_run (Cert.Nn.defs (F := Bits)) (onTc (τ := Cert.Nn.τ) (Cert.Nn.main (F := Bits))) ⟨m, fun _ => 0, g⟩ (fun r => (∀ c : Dev Cert.Nn.nD,
      r.2.mem ((c.tc : Thread Cert.Nn.nD Cert.Nn.τ).loc Cert.Nn.main_arg0) = m ((c.tc : Thread Cert.Nn.nD Cert.Nn.τ).loc Cert.Nn.main_arg0)
      ∧ r.2.mem ((c.tc : Thread Cert.Nn.nD Cert.Nn.τ).loc Cert.Nn.main_arg1) = m ((c.tc : Thread Cert.Nn.nD Cert.Nn.τ).loc Cert.Nn.main_arg1))
      ∧ r.2.sem = fun _ => 0)

def quiescent_NnIdeal [hNnIdeal : Cert.NnIdeal.Facts] : Prop :=
  ∀ (m : (ℓ : Loc Cert.NnIdeal.nD Cert.NnIdeal.τ Cert.NnIdeal.sig) → Buf (Elt Ideal) ℓ) (g : Dev Cert.NnIdeal.nD → PrngReg), Pre_NnIdeal m →
    θ_run (Cert.NnIdeal.defs (F := Ideal)) (onTc (τ := Cert.NnIdeal.τ) (Cert.NnIdeal.main (F := Ideal))) ⟨m, fun _ => 0, g⟩ (fun r => (∀ c : Dev Cert.NnIdeal.nD,
      r.2.mem ((c.tc : Thread Cert.NnIdeal.nD Cert.NnIdeal.τ).loc Cert.NnIdeal.main_arg0) = m ((c.tc : Thread Cert.NnIdeal.nD Cert.NnIdeal.τ).loc Cert.NnIdeal.main_arg0)
      ∧ r.2.mem ((c.tc : Thread Cert.NnIdeal.nD Cert.NnIdeal.τ).loc Cert.NnIdeal.main_arg1) = m ((c.tc : Thread Cert.NnIdeal.nD Cert.NnIdeal.τ).loc Cert.NnIdeal.main_arg1))
      ∧ r.2.sem = fun _ => 0)

def quiescent_Mse [hMse : Cert.Mse.Facts] [hPre_idx_in_range : Cert.Pre_idx_in_range.Facts] : Prop :=
  ∀ (m : (ℓ : Loc Cert.Mse.nD Cert.Mse.τ Cert.Mse.sig) → Buf (Elt Bits) ℓ) (g : Dev Cert.Mse.nD → PrngReg), Pre_Mse m →
    θ_run (Cert.Mse.defs (F := Bits)) (Cert.Mse.threads (F := Bits)) ⟨m, fun _ => 0, g⟩ (fun r => (∀ c : Dev Cert.Mse.nD,
      r.2.mem ((c.tc : Thread Cert.Mse.nD Cert.Mse.τ).loc Cert.Mse.main_arg0) = m ((c.tc : Thread Cert.Mse.nD Cert.Mse.τ).loc Cert.Mse.main_arg0)
      ∧ r.2.mem ((c.tc : Thread Cert.Mse.nD Cert.Mse.τ).loc Cert.Mse.main_arg1) = m ((c.tc : Thread Cert.Mse.nD Cert.Mse.τ).loc Cert.Mse.main_arg1)
      ∧ r.2.mem ((c.tc : Thread Cert.Mse.nD Cert.Mse.τ).loc Cert.Mse.main_arg2) = m ((c.tc : Thread Cert.Mse.nD Cert.Mse.τ).loc Cert.Mse.main_arg2))
      ∧ r.2.sem = fun _ => 0)

def quiescent_MseIdeal [hMseIdeal : Cert.MseIdeal.Facts] [hPre_idx_in_range : Cert.Pre_idx_in_range.Facts] : Prop :=
  ∀ (m : (ℓ : Loc Cert.MseIdeal.nD Cert.MseIdeal.τ Cert.MseIdeal.sig) → Buf (Elt Ideal) ℓ) (g : Dev Cert.MseIdeal.nD → PrngReg), Pre_MseIdeal m →
    θ_run (Cert.MseIdeal.defs (F := Ideal)) (Cert.MseIdeal.threads (F := Ideal)) ⟨m, fun _ => 0, g⟩ (fun r => (∀ c : Dev Cert.MseIdeal.nD,
      r.2.mem ((c.tc : Thread Cert.MseIdeal.nD Cert.MseIdeal.τ).loc Cert.MseIdeal.main_arg0) = m ((c.tc : Thread Cert.MseIdeal.nD Cert.MseIdeal.τ).loc Cert.MseIdeal.main_arg0)
      ∧ r.2.mem ((c.tc : Thread Cert.MseIdeal.nD Cert.MseIdeal.τ).loc Cert.MseIdeal.main_arg1) = m ((c.tc : Thread Cert.MseIdeal.nD Cert.MseIdeal.τ).loc Cert.MseIdeal.main_arg1)
      ∧ r.2.mem ((c.tc : Thread Cert.MseIdeal.nD Cert.MseIdeal.τ).loc Cert.MseIdeal.main_arg2) = m ((c.tc : Thread Cert.MseIdeal.nD Cert.MseIdeal.τ).loc Cert.MseIdeal.main_arg2))
      ∧ r.2.sem = fun _ => 0)

def quiescent_MseRefIdeal [hMseRefIdeal : Cert.MseRefIdeal.Facts] : Prop :=
  ∀ (m : (ℓ : Loc Cert.MseRefIdeal.nD Cert.MseRefIdeal.τ Cert.MseRefIdeal.sig) → Buf (Elt Ideal) ℓ) (g : Dev Cert.MseRefIdeal.nD → PrngReg), Pre_MseRefIdeal m →
    θ_run (Cert.MseRefIdeal.defs (F := Ideal)) (onTc (τ := Cert.MseRefIdeal.τ) (Cert.MseRefIdeal.main (F := Ideal))) ⟨m, fun _ => 0, g⟩ (fun r => (∀ c : Dev Cert.MseRefIdeal.nD,
      r.2.mem ((c.tc : Thread Cert.MseRefIdeal.nD Cert.MseRefIdeal.τ).loc Cert.MseRefIdeal.main_arg0) = m ((c.tc : Thread Cert.MseRefIdeal.nD Cert.MseRefIdeal.τ).loc Cert.MseRefIdeal.main_arg0)
      ∧ r.2.mem ((c.tc : Thread Cert.MseRefIdeal.nD Cert.MseRefIdeal.τ).loc Cert.MseRefIdeal.main_arg1) = m ((c.tc : Thread Cert.MseRefIdeal.nD Cert.MseRefIdeal.τ).loc Cert.MseRefIdeal.main_arg1)
      ∧ r.2.mem ((c.tc : Thread Cert.MseRefIdeal.nD Cert.MseRefIdeal.τ).loc Cert.MseRefIdeal.main_arg2) = m ((c.tc : Thread Cert.MseRefIdeal.nD Cert.MseRefIdeal.τ).loc Cert.MseRefIdeal.main_arg2))
      ∧ r.2.sem = fun _ => 0)

def quiescent_MseRefIdeal_pre_idx_in_range [hMseRefIdeal : Cert.MseRefIdeal.Facts] [hPre_idx_in_range : Cert.Pre_idx_in_range.Facts] : Prop :=
  ∀ (m : (ℓ : Loc Cert.MseRefIdeal.nD Cert.MseRefIdeal.τ Cert.MseRefIdeal.sig) → Buf (Elt Ideal) ℓ) (g : Dev Cert.MseRefIdeal.nD → PrngReg), Pre_MseRefIdeal_idx_in_range m →
    θ_run (Cert.MseRefIdeal.defs (F := Ideal)) (onTc (τ := Cert.MseRefIdeal.τ) (Cert.MseRefIdeal.main (F := Ideal))) ⟨m, fun _ => 0, g⟩ (fun r => (∀ c : Dev Cert.MseRefIdeal.nD,
      r.2.mem ((c.tc : Thread Cert.MseRefIdeal.nD Cert.MseRefIdeal.τ).loc Cert.MseRefIdeal.main_arg0) = m ((c.tc : Thread Cert.MseRefIdeal.nD Cert.MseRefIdeal.τ).loc Cert.MseRefIdeal.main_arg0)
      ∧ r.2.mem ((c.tc : Thread Cert.MseRefIdeal.nD Cert.MseRefIdeal.τ).loc Cert.MseRefIdeal.main_arg1) = m ((c.tc : Thread Cert.MseRefIdeal.nD Cert.MseRefIdeal.τ).loc Cert.MseRefIdeal.main_arg1)
      ∧ r.2.mem ((c.tc : Thread Cert.MseRefIdeal.nD Cert.MseRefIdeal.τ).loc Cert.MseRefIdeal.main_arg2) = m ((c.tc : Thread Cert.MseRefIdeal.nD Cert.MseRefIdeal.τ).loc Cert.MseRefIdeal.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Nn_NnIdeal : Prop :=
  IdealRules.named_const.Statement Cert.NnIdeal.κ "mask" .f32 0x7149F2CA#32 ⊤

def preserves_Mse_MseIdeal : Prop :=
  True

def algebraic_MseIdeal_MseRefIdeal [hMseIdeal : Cert.MseIdeal.Facts] [hMseRefIdeal : Cert.MseRefIdeal.Facts] [hPre_idx_in_range : Cert.Pre_idx_in_range.Facts] : Prop :=
  ∀ (m : (ℓ : Loc Cert.MseIdeal.nD Cert.MseIdeal.τ Cert.MseIdeal.sig) → Buf (Elt Ideal) ℓ) (g : Dev Cert.MseIdeal.nD → PrngReg)
    (m' : (ℓ : Loc Cert.MseRefIdeal.nD Cert.MseRefIdeal.τ Cert.MseRefIdeal.sig) → Buf (Elt Ideal) ℓ) (g' : Dev Cert.MseRefIdeal.nD → PrngReg), Pre_MseIdeal m →
    (∀ c : Dev Cert.MseIdeal.nD,
      m' ((c.tc : Thread Cert.MseRefIdeal.nD Cert.MseRefIdeal.τ).loc Cert.MseRefIdeal.main_arg0) = m ((c.tc : Thread Cert.MseIdeal.nD Cert.MseIdeal.τ).loc Cert.MseIdeal.main_arg0)
      ∧ m' ((c.tc : Thread Cert.MseRefIdeal.nD Cert.MseRefIdeal.τ).loc Cert.MseRefIdeal.main_arg1) = m ((c.tc : Thread Cert.MseIdeal.nD Cert.MseIdeal.τ).loc Cert.MseIdeal.main_arg1)
      ∧ m' ((c.tc : Thread Cert.MseRefIdeal.nD Cert.MseRefIdeal.τ).loc Cert.MseRefIdeal.main_arg2) = m ((c.tc : Thread Cert.MseIdeal.nD Cert.MseIdeal.τ).loc Cert.MseIdeal.main_arg2)) →
    ∃ (v0 : (c : Dev Cert.MseIdeal.nD) → Buf (Elt Ideal) ((c.tc : Thread Cert.MseIdeal.nD Cert.MseIdeal.τ).loc Cert.MseIdeal.main_v9)),
      θ_run (Cert.MseIdeal.defs (F := Ideal)) (Cert.MseIdeal.threads (F := Ideal)) ⟨m, fun _ => 0, g⟩ (fun r => ∀ c : Dev Cert.MseIdeal.nD,
          r.2.mem ((c.tc : Thread Cert.MseIdeal.nD Cert.MseIdeal.τ).loc Cert.MseIdeal.main_v9) = v0 c
          ∧ r.2.mem ((c.tc : Thread Cert.MseIdeal.nD Cert.MseIdeal.τ).loc Cert.MseIdeal.main_arg0) = m ((c.tc : Thread Cert.MseIdeal.nD Cert.MseIdeal.τ).loc Cert.MseIdeal.main_arg0)
          ∧ r.2.mem ((c.tc : Thread Cert.MseIdeal.nD Cert.MseIdeal.τ).loc Cert.MseIdeal.main_arg1) = m ((c.tc : Thread Cert.MseIdeal.nD Cert.MseIdeal.τ).loc Cert.MseIdeal.main_arg1)
          ∧ r.2.mem ((c.tc : Thread Cert.MseIdeal.nD Cert.MseIdeal.τ).loc Cert.MseIdeal.main_arg2) = m ((c.tc : Thread Cert.MseIdeal.nD Cert.MseIdeal.τ).loc Cert.MseIdeal.main_arg2))
      ∧ θ_run (Cert.MseRefIdeal.defs (F := Ideal)) (onTc (τ := Cert.MseRefIdeal.τ) (Cert.MseRefIdeal.main (F := Ideal))) ⟨m', fun _ => 0, g'⟩ (fun r => ∀ c : Dev Cert.MseRefIdeal.nD,
          r.2.mem ((c.tc : Thread Cert.MseRefIdeal.nD Cert.MseRefIdeal.τ).loc Cert.MseRefIdeal.main_v15) = v0 c
          ∧ r.2.mem ((c.tc : Thread Cert.MseRefIdeal.nD Cert.MseRefIdeal.τ).loc Cert.MseRefIdeal.main_arg0) = m' ((c.tc : Thread Cert.MseRefIdeal.nD Cert.MseRefIdeal.τ).loc Cert.MseRefIdeal.main_arg0)
          ∧ r.2.mem ((c.tc : Thread Cert.MseRefIdeal.nD Cert.MseRefIdeal.τ).loc Cert.MseRefIdeal.main_arg1) = m' ((c.tc : Thread Cert.MseRefIdeal.nD Cert.MseRefIdeal.τ).loc Cert.MseRefIdeal.main_arg1)
          ∧ r.2.mem ((c.tc : Thread Cert.MseRefIdeal.nD Cert.MseRefIdeal.τ).loc Cert.MseRefIdeal.main_arg2) = m' ((c.tc : Thread Cert.MseRefIdeal.nD Cert.MseRefIdeal.τ).loc Cert.MseRefIdeal.main_arg2))

def Claim : Prop :=
  ∃ (hKernelIdeal : Cert.KernelIdeal.Facts) (hReferenceIdeal : Cert.ReferenceIdeal.Facts) (hNn : Cert.Nn.Facts) (hNnIdeal : Cert.NnIdeal.Facts) (hMse : Cert.Mse.Facts) (hMseIdeal : Cert.MseIdeal.Facts) (hMseRefIdeal : Cert.MseRefIdeal.Facts) (hPre_idx_in_range : Cert.Pre_idx_in_range.Facts),
    quiescent_KernelIdeal (hKernelIdeal := hKernelIdeal)
    ∧ quiescent_ReferenceIdeal (hReferenceIdeal := hReferenceIdeal)
    ∧ quiescent_Nn (hNn := hNn)
    ∧ quiescent_NnIdeal (hNnIdeal := hNnIdeal)
    ∧ quiescent_Mse (hMse := hMse) (hPre_idx_in_range := hPre_idx_in_range)
    ∧ quiescent_MseIdeal (hMseIdeal := hMseIdeal) (hPre_idx_in_range := hPre_idx_in_range)
    ∧ quiescent_MseRefIdeal (hMseRefIdeal := hMseRefIdeal)
    ∧ quiescent_MseRefIdeal_pre_idx_in_range (hMseRefIdeal := hMseRefIdeal) (hPre_idx_in_range := hPre_idx_in_range)
    ∧ algebraic_KernelIdeal_ReferenceIdeal (hKernelIdeal := hKernelIdeal) (hReferenceIdeal := hReferenceIdeal)
    ∧ preserves_Nn_NnIdeal
    ∧ preserves_Mse_MseIdeal
    ∧ algebraic_MseIdeal_MseRefIdeal (hMseIdeal := hMseIdeal) (hMseRefIdeal := hMseRefIdeal) (hPre_idx_in_range := hPre_idx_in_range)
-- ==== Pre_idx_in_range.lean ====
abbrev S5120 : Shape := ⟨1, ![5120]⟩
abbrev S5000x4 : Shape := ⟨2, ![5000, 4]⟩
abbrev S20000x4 : Shape := ⟨2, ![20000, 4]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : IVec S5120 32) (main_arg1 : FVec F S5000x4 .f32) (main_arg2 : FVec F S20000x4 .f32) : IVec S5120 1 :=
  let main_c : IVec S_ 32 := constantI S_ 32 0#32
  let main_v0 : IVec S5120 32 := broadcastInDim S5120 ![] bcast_S_S5120 main_c
  let main_v1 : IVec S5120 1 := cmpi .sge main_arg0 main_v0
  let main_c_0 : IVec S_ 32 := constantI S_ 32 20000#32
  let main_v2 : IVec S5120 32 := broadcastInDim S5120 ![] bcast_S_S5120 main_c_0
  let main_v3 : IVec S5120 1 := cmpi .slt main_arg0 main_v2
  let main_v4 : IVec S5120 1 := andi main_v1 main_v3
  main_v4
-- ==== KernelIdeal.lean ====
abbrev S5000x4 : Shape := ⟨2, ![5000, 4]⟩
abbrev S20000x4 : Shape := ⟨2, ![20000, 4]⟩
abbrev S5000x3 : Shape := ⟨2, ![5000, 3]⟩
abbrev S_ : Shape := ⟨0, ![]⟩
abbrev S5000 : Shape := ⟨1, ![5000]⟩
abbrev S5000x1 : Shape := ⟨2, ![5000, 1]⟩
abbrev S5120x8 : Shape := ⟨2, ![5120, 8]⟩
abbrev S1 : Shape := ⟨1, ![1]⟩
abbrev S2 : Shape := ⟨1, ![2]⟩
abbrev S8x20480 : Shape := ⟨2, ![8, 20480]⟩
abbrev S20000x3 : Shape := ⟨2, ![20000, 3]⟩
abbrev S3x20000 : Shape := ⟨2, ![3, 20000]⟩
abbrev S5120x1 : Shape := ⟨2, ![5120, 1]⟩
abbrev S512x8 : Shape := ⟨2, ![512, 8]⟩
abbrev S8x4096 : Shape := ⟨2, ![8, 4096]⟩
abbrev S512x1 : Shape := ⟨2, ![512, 1]⟩
abbrev S512x128 : Shape := ⟨2, ![512, 128]⟩
abbrev S4096 : Shape := ⟨1, ![4096]⟩
abbrev S1x4096 : Shape := ⟨2, ![1, 4096]⟩
abbrev S512x4096 : Shape := ⟨2, ![512, 4096]⟩
abbrev S128x128 : Shape := ⟨2, ![128, 128]⟩
abbrev S128x1 : Shape := ⟨2, ![128, 1]⟩
abbrev S1x128 : Shape := ⟨2, ![1, 128]⟩
abbrev S512 : Shape := ⟨1, ![512]⟩
abbrev S5120 : Shape := ⟨1, ![5120]⟩
abbrev S20000x1 : Shape := ⟨2, ![20000, 1]⟩
abbrev S20000 : Shape := ⟨1, ![20000]⟩
abbrev S32x16 : Shape := ⟨2, ![32, 16]⟩
abbrev S160 : Shape := ⟨1, ![160]⟩
abbrev S16 : Shape := ⟨1, ![16]⟩
abbrev S1x16 : Shape := ⟨2, ![1, 16]⟩

abbrev nBuf : Table → Nat
  | .hbm => 49
  | .local .tc .vmem => 10
  | .local .scVector .vmem => 4
  | _ => 0

abbrev bufTy : (tb : Table) → Fin (nBuf tb) → BufTy
  | .hbm, ⟨0, _⟩ => ⟨S5000x4, .f32⟩
  | .hbm, ⟨1, _⟩ => ⟨S20000x4, .f32⟩
  | .hbm, ⟨2, _⟩ => ⟨S5000x3, .f32⟩
  | .hbm, ⟨3, _⟩ => ⟨S5000x3, .f32⟩
  | .hbm, ⟨4, _⟩ => ⟨S_, .f32⟩
  | .hbm, ⟨5, _⟩ => ⟨S5000, .f32⟩
  | .hbm, ⟨6, _⟩ => ⟨S5000x1, .f32⟩
  | .hbm, ⟨7, _⟩ => ⟨S_, .f32⟩
  | .hbm, ⟨8, _⟩ => ⟨S5120x8, .f32⟩
  | .hbm, ⟨9, _⟩ => ⟨S_, .f32⟩
  | .hbm, ⟨10, _⟩ => ⟨S5000x3, .f32⟩
  | .hbm, ⟨11, _⟩ => ⟨S5000x3, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S5120x8, .f32⟩
  | .hbm, ⟨18, _⟩ => ⟨S_, .f32⟩
  | .hbm, ⟨19, _⟩ => ⟨S8x20480, .f32⟩
  | .hbm, ⟨20, _⟩ => ⟨S20000x3, .f32⟩
  | .hbm, ⟨21, _⟩ => ⟨S3x20000, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x20480, .f32⟩
  | .hbm, ⟨28, _⟩ => ⟨S_, .f32⟩
  | .hbm, ⟨29, _⟩ => ⟨S5120x1, .f32⟩
  | .hbm, ⟨30, _⟩ => ⟨S_, .i32⟩
  | .hbm, ⟨31, _⟩ => ⟨S1, .i32⟩
  | .hbm, ⟨32, _⟩ => ⟨S5120x1, .f32⟩
  | .hbm, ⟨33, _⟩ => ⟨S5120x1, .i32⟩
  | .hbm, ⟨34, _⟩ => ⟨S5120, .i32⟩
  | .hbm, ⟨35, _⟩ => ⟨S_, .f32⟩
  | .hbm, ⟨36, _⟩ => ⟨S5120, .f32⟩
  | .hbm, ⟨37, _⟩ => ⟨S5000x1, .f32⟩
  | .hbm, ⟨38, _⟩ => ⟨S5000, .f32⟩
  | .hbm, ⟨39, _⟩ => ⟨S_, .i32⟩
  | .hbm, ⟨40, _⟩ => ⟨S1, .i32⟩
  | .hbm, ⟨41, _⟩ => ⟨S5120, .f32⟩
  | .hbm, ⟨42, _⟩ => ⟨S20000x1, .f32⟩
  | .hbm, ⟨43, _⟩ => ⟨S20000, .f32⟩
  | .hbm, ⟨44, _⟩ => ⟨S32x16, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local .tc .vmem, ⟨0, _⟩ => ⟨S512x8, .f32⟩
  | .local .tc .vmem, ⟨1, _⟩ => ⟨S512x8, .f32⟩
  | .local .tc .vmem, ⟨2, _⟩ => ⟨S8x4096, .f32⟩
  | .local .tc .vmem, ⟨3, _⟩ => ⟨S8x4096, .f32⟩
  | .local .tc .vmem, ⟨4, _⟩ => ⟨S512x1, .f32⟩
  | .local .tc .vmem, ⟨5, _⟩ => ⟨S512x1, .f32⟩
  | .local .tc .vmem, ⟨6, _⟩ => ⟨S512x1, .i32⟩
  | .local .tc .vmem, ⟨7, _⟩ => ⟨S512x1, .i32⟩
  | .local .tc .vmem, ⟨8, _⟩ => ⟨S512x128, .f32⟩
  | .local .tc .vmem, ⟨9, _⟩ => ⟨S512x128, .f32⟩
  | .local .scVector .vmem, ⟨0, _⟩ => ⟨S160, .i32⟩
  | .local .scVector .vmem, ⟨1, _⟩ => ⟨S160, .f32⟩
  | .local .scVector .vmem, ⟨2, _⟩ => ⟨S20000, .f32⟩
  | .local .scVector .vmem, ⟨3, _⟩ => ⟨S16, .f32⟩
  | _, _ => ⟨S5000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_c_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v22_scv : Ref sig .scVector := ⟨.hbm, 34, rfl⟩
abbrev main_v27_scv : Ref sig .scVector := ⟨.hbm, 41, rfl⟩
abbrev main_v29_scv : Ref sig .scVector := ⟨.hbm, 43, rfl⟩
abbrev main_v30_scv : Ref sig .scVector := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "mask" => some ⊤
  | _ => none

abbrev grid0 : Pipeline.Grid := ⟨2, ![10, 5], ![false, false]⟩

def k0_cond2 (i : grid0.Coords) : BitVec 1 :=
  let arg1 : BitVec 32 := BitVec.ofNat 32 (i 1).val
  let c4_i32_261 : BitVec 32 := 4#32
  let v1721 : BitVec 1 := Scalar.cmpi .eq arg1 c4_i32_261
  let v1722 : BitVec 32 := Scalar.extui v1721
  let c0_i32_262 : BitVec 32 := 0#32
  let v1723 : BitVec 1 := Scalar.cmpi .ne v1722 c0_i32_262
  v1723

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]

def k1_chk1 (v5 : IVec S16 32) : Prop :=
  (∀ a x, ((![v5] : Fin 1 → IVec S16 32) a x).toNat < S20000.size a)
theorem k1_idx1_inb : ∀ (v5 : IVec S16 32) (k1_hw1 : k1_chk1 v5), ∀ a x, ((![v5] : Fin 1 → IVec S16 32) a x).toNat < S20000.size a := fun v5 k1_hw1 => k1_hw1

def k1_chk2 (v18 : IVec S16 32) : Prop :=
  (∀ a x, ((![v18] : Fin 1 → IVec S16 32) a x).toNat < S20000.size a)
theorem k1_idx2_inb : ∀ (v18 : IVec S16 32) (k1_hw2 : k1_chk2 v18), ∀ a x, ((![v18] : Fin 1 → IVec S16 32) a x).toNat < S20000.size a := fun v18 k1_hw2 => k1_hw2

def k1_chk3 (v31 : IVec S16 32) : Prop :=
  (∀ a x, ((![v31] : Fin 1 → IVec S16 32) a x).toNat < S20000.size a)
theorem k1_idx3_inb : ∀ (v31 : IVec S16 32) (k1_hw3 : k1_chk3 v31), ∀ a x, ((![v31] : Fin 1 → IVec S16 32) a x).toNat < S20000.size a := fun v31 k1_hw3 => k1_hw3

def k1_chk4 (v44 : IVec S16 32) : Prop :=
  (∀ a x, ((![v44] : Fin 1 → IVec S16 32) a x).toNat < S20000.size a)
theorem k1_idx4_inb : ∀ (v44 : IVec S16 32) (k1_hw4 : k1_chk4 v44), ∀ a x, ((![v44] : Fin 1 → IVec S16 32) a x).toNat < S20000.size a := fun v44 k1_hw4 => k1_hw4

def k1_chk5 (v57 : IVec S16 32) : Prop :=
  (∀ a x, ((![v57] : Fin 1 → IVec S16 32) a x).toNat < S20000.size a)
theorem k1_idx5_inb : ∀ (v57 : IVec S16 32) (k1_hw5 : k1_chk5 v57), ∀ a x, ((![v57] : Fin 1 → IVec S16 32) a x).toNat < S20000.size a := fun v57 k1_hw5 => k1_hw5

def k1_chk6 (v70 : IVec S16 32) : Prop :=
  (∀ a x, ((![v70] : Fin 1 → IVec S16 32) a x).toNat < S20000.size a)
theorem k1_idx6_inb : ∀ (v70 : IVec S16 32) (k1_hw6 : k1_chk6 v70), ∀ a x, ((![v70] : Fin 1 → IVec S16 32) a x).toNat < S20000.size a := fun v70 k1_hw6 => k1_hw6

def k1_chk7 (v83 : IVec S16 32) : Prop :=
  (∀ a x, ((![v83] : Fin 1 → IVec S16 32) a x).toNat < S20000.size a)
theorem k1_idx7_inb : ∀ (v83 : IVec S16 32) (k1_hw7 : k1_chk7 v83), ∀ a x, ((![v83] : Fin 1 → IVec S16 32) a x).toNat < S20000.size a := fun v83 k1_hw7 => k1_hw7

def k1_chk8 (v96 : IVec S16 32) : Prop :=
  (∀ a x, ((![v96] : Fin 1 → IVec S16 32) a x).toNat < S20000.size a)
theorem k1_idx8_inb : ∀ (v96 : IVec S16 32) (k1_hw8 : k1_chk8 v96), ∀ a x, ((![v96] : Fin 1 → IVec S16 32) a x).toNat < S20000.size a := fun v96 k1_hw8 => k1_hw8

def k1_chk9 (v109 : IVec S16 32) : Prop :=
  (∀ a x, ((![v109] : Fin 1 → IVec S16 32) a x).toNat < S20000.size a)
theorem k1_idx9_inb : ∀ (v109 : IVec S16 32) (k1_hw9 : k1_chk9 v109), ∀ a x, ((![v109] : Fin 1 → IVec S16 32) a x).toNat < S20000.size a := fun v109 k1_hw9 => k1_hw9

def k1_chk10 (v122 : IVec S16 32) : Prop :=
  (∀ a x, ((![v122] : Fin 1 → IVec S16 32) a x).toNat < S20000.size a)
theorem k1_idx10_inb : ∀ (v122 : IVec S16 32) (k1_hw10 : k1_chk10 v122), ∀ a x, ((![v122] : Fin 1 → IVec S16 32) a x).toNat < S20000.size a := fun v122 k1_hw10 => k1_hw10
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5000x4 : Shape := ⟨2, ![5000, 4]⟩
abbrev S20000x4 : Shape := ⟨2, ![20000, 4]⟩
abbrev S5000x1 : Shape := ⟨2, ![5000, 1]⟩
abbrev S5000 : Shape := ⟨1, ![5000]⟩
abbrev S20000x1 : Shape := ⟨2, ![20000, 1]⟩
abbrev S20000 : Shape := ⟨1, ![20000]⟩
abbrev S5000x3 : Shape := ⟨2, ![5000, 3]⟩
abbrev S20000x3 : Shape := ⟨2, ![20000, 3]⟩
abbrev S_ : Shape := ⟨0, ![]⟩
abbrev S1x20000 : Shape := ⟨2, ![1, 20000]⟩
abbrev S5000x20000 : Shape := ⟨2, ![5000, 20000]⟩
abbrev S3x20000 : Shape := ⟨2, ![3, 20000]⟩

abbrev nBuf : Space → Nat
  | .hbm => 46
  | .vmem => 0
  | .smem => 0
  | _ => 0

abbrev bufTy : (tb : Table) → Fin (tcTables nBuf tb) → BufTy
  | .hbm, ⟨0, _⟩ => ⟨S5000x4, .f32⟩
  | .hbm, ⟨1, _⟩ => ⟨S20000x4, .f32⟩
  | .hbm, ⟨2, _⟩ => ⟨S5000x1, .f32⟩
  | .hbm, ⟨3, _⟩ => ⟨S5000, .f32⟩
  | .hbm, ⟨4, _⟩ => ⟨S20000x1, .f32⟩
  | .hbm, ⟨5, _⟩ => ⟨S20000, .f32⟩
  | .hbm, ⟨6, _⟩ => ⟨S5000x3, .f32⟩
  | .hbm, ⟨7, _⟩ => ⟨S20000x3, .f32⟩
  | .hbm, ⟨8, _⟩ => ⟨S5000x3, .f32⟩
  | .hbm, ⟨9, _⟩ => ⟨S_, .f32⟩
  | .hbm, ⟨10, _⟩ => ⟨S5000, .f32⟩
  | .hbm, ⟨11, _⟩ => ⟨S5000x1, .f32⟩
  | .hbm, ⟨12, _⟩ => ⟨S20000x3, .f32⟩
  | .hbm, ⟨13, _⟩ => ⟨S_, .f32⟩
  | .hbm, ⟨14, _⟩ => ⟨S20000, .f32⟩
  | .hbm, ⟨15, _⟩ => ⟨S20000x1, .f32⟩
  | .hbm, ⟨16, _⟩ => ⟨S1x20000, .f32⟩
  | .hbm, ⟨17, _⟩ => ⟨S5000x20000, .f32⟩
  | .hbm, ⟨18, _⟩ => ⟨S5000x20000, .f32⟩
  | .hbm, ⟨19, _⟩ => ⟨S5000x20000, .f32⟩
  | .hbm, ⟨20, _⟩ => ⟨S3x20000, .f32⟩
  | .hbm, ⟨21, _⟩ => ⟨S5000x20000, .f32⟩
  | .hbm, ⟨22, _⟩ => ⟨S_, .f32⟩
  | .hbm, ⟨23, _⟩ => ⟨S5000x20000, .f32⟩
  | .hbm, ⟨24, _⟩ => ⟨S5000x20000, .f32⟩
  | .hbm, ⟨25, _⟩ => ⟨S5000x20000, .f32⟩
  | .hbm, ⟨26, _⟩ => ⟨S5000x20000, .i32⟩
  | .hbm, ⟨27, _⟩ => ⟨S_, .f32⟩
  | .hbm, ⟨28, _⟩ => ⟨S_, .i32⟩
  | .hbm, ⟨29, _⟩ => ⟨S5000, .f32⟩
  | .hbm, ⟨30, _⟩ => ⟨S5000, .i32⟩
  | .hbm, ⟨31, _⟩ => ⟨S_, .i32⟩
  | .hbm, ⟨32, _⟩ => ⟨S5000, .i32⟩
  | .hbm, ⟨33, _⟩ => ⟨S5000, .i1⟩
  | .hbm, ⟨34, _⟩ => ⟨S_, .i32⟩
  | .hbm, ⟨35, _⟩ => ⟨S5000, .i32⟩
  | .hbm, ⟨36, _⟩ => ⟨S5000, .i32⟩
  | .hbm, ⟨37, _⟩ => ⟨S5000, .i32⟩
  | .hbm, ⟨38, _⟩ => ⟨S5000x1, .i32⟩
  | .hbm, ⟨39, _⟩ => ⟨S5000, .f32⟩
  | .hbm, ⟨40, _⟩ => ⟨S5000, .f32⟩
  | .hbm, ⟨41, _⟩ => ⟨S5000, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Nn.lean ====
abbrev S5000x4 : Shape := ⟨2, ![5000, 4]⟩
abbrev S20000x4 : Shape := ⟨2, ![20000, 4]⟩
abbrev S5000x3 : Shape := ⟨2, ![5000, 3]⟩
abbrev S_ : Shape := ⟨0, ![]⟩
abbrev S5000 : Shape := ⟨1, ![5000]⟩
abbrev S5000x1 : Shape := ⟨2, ![5000, 1]⟩
abbrev S5120x8 : Shape := ⟨2, ![5120, 8]⟩
abbrev S1 : Shape := ⟨1, ![1]⟩
abbrev S2 : Shape := ⟨1, ![2]⟩
abbrev S8x20480 : Shape := ⟨2, ![8, 20480]⟩
abbrev S20000x3 : Shape := ⟨2, ![20000, 3]⟩
abbrev S3x20000 : Shape := ⟨2, ![3, 20000]⟩
abbrev S5120x1 : Shape := ⟨2, ![5120, 1]⟩
abbrev S512x8 : Shape := ⟨2, ![512, 8]⟩
abbrev S8x4096 : Shape := ⟨2, ![8, 4096]⟩
abbrev S512x1 : Shape := ⟨2, ![512, 1]⟩
abbrev S512x128 : Shape := ⟨2, ![512, 128]⟩
abbrev S4096 : Shape := ⟨1, ![4096]⟩
abbrev S1x4096 : Shape := ⟨2, ![1, 4096]⟩
abbrev S512x4096 : Shape := ⟨2, ![512, 4096]⟩
abbrev S128x128 : Shape := ⟨2, ![128, 128]⟩
abbrev S128x1 : Shape := ⟨2, ![128, 1]⟩
abbrev S1x128 : Shape := ⟨2, ![1, 128]⟩
abbrev S512 : Shape := ⟨1, ![512]⟩

abbrev nBuf : Space → Nat
  | .hbm => 34
  | .vmem => 10
  | .smem => 0
  | _ => 0

abbrev bufTy : (tb : Table) → Fin (tcTables nBuf tb) → BufTy
  | .hbm, ⟨0, _⟩ => ⟨S5000x4, .f32⟩
  | .hbm, ⟨1, _⟩ => ⟨S20000x4, .f32⟩
  | .hbm, ⟨2, _⟩ => ⟨S5000x3, .f32⟩
  | .hbm, ⟨3, _⟩ => ⟨S5000x3, .f32⟩
  | .hbm, ⟨4, _⟩ => ⟨S_, .f32⟩
  | .hbm, ⟨5, _⟩ => ⟨S5000, .f32⟩
  | .hbm, ⟨6, _⟩ => ⟨S5000x1, .f32⟩
  | .hbm, ⟨7, _⟩ => ⟨S_, .f32⟩
  | .hbm, ⟨8, _⟩ => ⟨S5120x8, .f32⟩
  | .hbm, ⟨9, _⟩ => ⟨S_, .f32⟩
  | .hbm, ⟨10, _⟩ => ⟨S5000x3, .f32⟩
  | .hbm, ⟨11, _⟩ => ⟨S5000x3, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S5120x8, .f32⟩
  | .hbm, ⟨18, _⟩ => ⟨S_, .f32⟩
  | .hbm, ⟨19, _⟩ => ⟨S8x20480, .f32⟩
  | .hbm, ⟨20, _⟩ => ⟨S20000x3, .f32⟩
  | .hbm, ⟨21, _⟩ => ⟨S3x20000, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x20480, .f32⟩
  | .hbm, ⟨28, _⟩ => ⟨S_, .f32⟩
  | .hbm, ⟨29, _⟩ => ⟨S5120x1, .f32⟩
  | .hbm, ⟨30, _⟩ => ⟨S_, .i32⟩
  | .hbm, ⟨31, _⟩ => ⟨S1, .i32⟩
  | .hbm, ⟨32, _⟩ => ⟨S5120x1, .f32⟩
  | .hbm, ⟨33, _⟩ => ⟨S5120x1, .i32⟩
  | .local _ .vmem, ⟨0, _⟩ => ⟨S512x8, .f32⟩
  | .local _ .vmem, ⟨1, _⟩ => ⟨S512x8, .f32⟩
  | .local _ .vmem, ⟨2, _⟩ => ⟨S8x4096, .f32⟩
  | .local _ .vmem, ⟨3, _⟩ => ⟨S8x4096, .f32⟩
  | .local _ .vmem, ⟨4, _⟩ => ⟨S512x1, .f32⟩
  | .local _ .vmem, ⟨5, _⟩ => ⟨S512x1, .f32⟩
  | .local _ .vmem, ⟨6, _⟩ => ⟨S512x1, .i32⟩
  | .local _ .vmem, ⟨7, _⟩ => ⟨S512x1, .i32⟩
  | .local _ .vmem, ⟨8, _⟩ => ⟨S512x128, .f32⟩
  | .local _ .vmem, ⟨9, _⟩ => ⟨S512x128, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_c_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 5], ![false, false]⟩

def k0_cond2 (i : grid0.Coords) : BitVec 1 :=
  let arg1 : BitVec 32 := BitVec.ofNat 32 (i 1).val
  let c4_i32_261 : BitVec 32 := 4#32
  let v1721 : BitVec 1 := Scalar.cmpi .eq arg1 c4_i32_261
  let v1722 : BitVec 32 := Scalar.extui v1721
  let c0_i32_262 : BitVec 32 := 0#32
  let v1723 : BitVec 1 := Scalar.cmpi .ne v1722 c0_i32_262
  v1723

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== NnIdeal.lean ====
variable {F : FTy → Type} [FloatOps F] [Named F]
def κ : String → Option EReal := fun
  | "mask" => some ⊤
  | _ => none
-- ==== Mse.lean ====
abbrev S5120 : Shape := ⟨1, ![5120]⟩
abbrev S5000x4 : Shape := ⟨2, ![5000, 4]⟩
abbrev S20000x4 : Shape := ⟨2, ![20000, 4]⟩
abbrev S_ : Shape := ⟨0, ![]⟩
abbrev S5000x1 : Shape := ⟨2, ![5000, 1]⟩
abbrev S5000 : Shape := ⟨1, ![5000]⟩
abbrev S1 : Shape := ⟨1, ![1]⟩
abbrev S20000x1 : Shape := ⟨2, ![20000, 1]⟩
abbrev S20000 : Shape := ⟨1, ![20000]⟩
abbrev S32x16 : Shape := ⟨2, ![32, 16]⟩
abbrev S160 : Shape := ⟨1, ![160]⟩
abbrev S16 : Shape := ⟨1, ![16]⟩
abbrev S1x16 : Shape := ⟨2, ![1, 16]⟩

abbrev nBuf : Table → Nat
  | .hbm => 17
  | .local .scVector .vmem => 4
  | _ => 0

abbrev bufTy : (tb : Table) → Fin (nBuf tb) → BufTy
  | .hbm, ⟨0, _⟩ => ⟨S5120, .i32⟩
  | .hbm, ⟨1, _⟩ => ⟨S5000x4, .f32⟩
  | .hbm, ⟨2, _⟩ => ⟨S20000x4, .f32⟩
  | .hbm, ⟨3, _⟩ => ⟨S_, .f32⟩
  | .hbm, ⟨4, _⟩ => ⟨S5120, .f32⟩
  | .hbm, ⟨5, _⟩ => ⟨S5000x1, .f32⟩
  | .hbm, ⟨6, _⟩ => ⟨S5000, .f32⟩
  | .hbm, ⟨7, _⟩ => ⟨S_, .i32⟩
  | .hbm, ⟨8, _⟩ => ⟨S1, .i32⟩
  | .hbm, ⟨9, _⟩ => ⟨S5120, .f32⟩
  | .hbm, ⟨10, _⟩ => ⟨S20000x1, .f32⟩
  | .hbm, ⟨11, _⟩ => ⟨S20000, .f32⟩
  | .hbm, ⟨12, _⟩ => ⟨S32x16, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local .scVector .vmem, ⟨0, _⟩ => ⟨S160, .i32⟩
  | .local .scVector .vmem, ⟨1, _⟩ => ⟨S160, .f32⟩
  | .local .scVector .vmem, ⟨2, _⟩ => ⟨S20000, .f32⟩
  | .local .scVector .vmem, ⟨3, _⟩ => ⟨S16, .f32⟩
  | _, _ => ⟨S5120, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_arg0_scv : Ref sig .scVector := ⟨.hbm, 0, rfl⟩
abbrev main_v4_scv : Ref sig .scVector := ⟨.hbm, 9, rfl⟩
abbrev main_v6_scv : Ref sig .scVector := ⟨.hbm, 11, rfl⟩
abbrev main_v7_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]

def k0_chk1 (v5 : IVec S16 32) : Prop :=
  (∀ a x, ((![v5] : Fin 1 → IVec S16 32) a x).toNat < S20000.size a)
theorem k0_idx1_inb : ∀ (v5 : IVec S16 32) (k0_hw1 : k0_chk1 v5), ∀ a x, ((![v5] : Fin 1 → IVec S16 32) a x).toNat < S20000.size a := fun v5 k0_hw1 => k0_hw1

def k0_chk2 (v18 : IVec S16 32) : Prop :=
  (∀ a x, ((![v18] : Fin 1 → IVec S16 32) a x).toNat < S20000.size a)
theorem k0_idx2_inb : ∀ (v18 : IVec S16 32) (k0_hw2 : k0_chk2 v18), ∀ a x, ((![v18] : Fin 1 → IVec S16 32) a x).toNat < S20000.size a := fun v18 k0_hw2 => k0_hw2

def k0_chk3 (v31 : IVec S16 32) : Prop :=
  (∀ a x, ((![v31] : Fin 1 → IVec S16 32) a x).toNat < S20000.size a)
theorem k0_idx3_inb : ∀ (v31 : IVec S16 32) (k0_hw3 : k0_chk3 v31), ∀ a x, ((![v31] : Fin 1 → IVec S16 32) a x).toNat < S20000.size a := fun v31 k0_hw3 => k0_hw3

def k0_chk4 (v44 : IVec S16 32) : Prop :=
  (∀ a x, ((![v44] : Fin 1 → IVec S16 32) a x).toNat < S20000.size a)
theorem k0_idx4_inb : ∀ (v44 : IVec S16 32) (k0_hw4 : k0_chk4 v44), ∀ a x, ((![v44] : Fin 1 → IVec S16 32) a x).toNat < S20000.size a := fun v44 k0_hw4 => k0_hw4

def k0_chk5 (v57 : IVec S16 32) : Prop :=
  (∀ a x, ((![v57] : Fin 1 → IVec S16 32) a x).toNat < S20000.size a)
theorem k0_idx5_inb : ∀ (v57 : IVec S16 32) (k0_hw5 : k0_chk5 v57), ∀ a x, ((![v57] : Fin 1 → IVec S16 32) a x).toNat < S20000.size a := fun v57 k0_hw5 => k0_hw5

def k0_chk6 (v70 : IVec S16 32) : Prop :=
  (∀ a x, ((![v70] : Fin 1 → IVec S16 32) a x).toNat < S20000.size a)
theorem k0_idx6_inb : ∀ (v70 : IVec S16 32) (k0_hw6 : k0_chk6 v70), ∀ a x, ((![v70] : Fin 1 → IVec S16 32) a x).toNat < S20000.size a := fun v70 k0_hw6 => k0_hw6

def k0_chk7 (v83 : IVec S16 32) : Prop :=
  (∀ a x, ((![v83] : Fin 1 → IVec S16 32) a x).toNat < S20000.size a)
theorem k0_idx7_inb : ∀ (v83 : IVec S16 32) (k0_hw7 : k0_chk7 v83), ∀ a x, ((![v83] : Fin 1 → IVec S16 32) a x).toNat < S20000.size a := fun v83 k0_hw7 => k0_hw7

def k0_chk8 (v96 : IVec S16 32) : Prop :=
  (∀ a x, ((![v96] : Fin 1 → IVec S16 32) a x).toNat < S20000.size a)
theorem k0_idx8_inb : ∀ (v96 : IVec S16 32) (k0_hw8 : k0_chk8 v96), ∀ a x, ((![v96] : Fin 1 → IVec S16 32) a x).toNat < S20000.size a := fun v96 k0_hw8 => k0_hw8

def k0_chk9 (v109 : IVec S16 32) : Prop :=
  (∀ a x, ((![v109] : Fin 1 → IVec S16 32) a x).toNat < S20000.size a)
theorem k0_idx9_inb : ∀ (v109 : IVec S16 32) (k0_hw9 : k0_chk9 v109), ∀ a x, ((![v109] : Fin 1 → IVec S16 32) a x).toNat < S20000.size a := fun v109 k0_hw9 => k0_hw9

def k0_chk10 (v122 : IVec S16 32) : Prop :=
  (∀ a x, ((![v122] : Fin 1 → IVec S16 32) a x).toNat < S20000.size a)
theorem k0_idx10_inb : ∀ (v122 : IVec S16 32) (k0_hw10 : k0_chk10 v122), ∀ a x, ((![v122] : Fin 1 → IVec S16 32) a x).toNat < S20000.size a := fun v122 k0_hw10 => k0_hw10
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== MseRefIdeal.lean ====
abbrev S5120 : Shape := ⟨1, ![5120]⟩
abbrev S5000x4 : Shape := ⟨2, ![5000, 4]⟩
abbrev S20000x4 : Shape := ⟨2, ![20000, 4]⟩
abbrev S5000x1 : Shape := ⟨2, ![5000, 1]⟩
abbrev S5000 : Shape := ⟨1, ![5000]⟩
abbrev S20000x1 : Shape := ⟨2, ![20000, 1]⟩
abbrev S20000 : Shape := ⟨1, ![20000]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S5120, .i32⟩
  | .hbm, ⟨1, _⟩ => ⟨S5000x4, .f32⟩
  | .hbm, ⟨2, _⟩ => ⟨S20000x4, .f32⟩
  | .hbm, ⟨3, _⟩ => ⟨S5000x1, .f32⟩
  | .hbm, ⟨4, _⟩ => ⟨S5000, .f32⟩
  | .hbm, ⟨5, _⟩ => ⟨S20000x1, .f32⟩
  | .hbm, ⟨6, _⟩ => ⟨S20000, .f32⟩
  | .hbm, ⟨7, _⟩ => ⟨S5000, .i32⟩
  | .hbm, ⟨8, _⟩ => ⟨S_, .i32⟩
  | .hbm, ⟨9, _⟩ => ⟨S5000, .i32⟩
  | .hbm, ⟨10, _⟩ => ⟨S5000, .i1⟩
  | .hbm, ⟨11, _⟩ => ⟨S_, .i32⟩
  | .hbm, ⟨12, _⟩ => ⟨S5000, .i32⟩
  | .hbm, ⟨13, _⟩ => ⟨S5000, .i32⟩
  | .hbm, ⟨14, _⟩ => ⟨S5000, .i32⟩
  | .hbm, ⟨15, _⟩ => ⟨S5000x1, .i32⟩
  | .hbm, ⟨16, _⟩ => ⟨S5000, .f32⟩
  | .hbm, ⟨17, _⟩ => ⟨S5000, .f32⟩
  | .hbm, ⟨18, _⟩ => ⟨S5000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Steps.lean ====
/-
  Two steps of a vector subcore's program, stated for any program: a copy awaited at once, and a gather of lanes.
-/
module

public import Idealize.ShloMosaic.Lib.SparseCore.Ops
public import Idealize.ShloMosaic.Lib.Transfers
public import Idealize.ShloMosaic.Lib.Tactic
public import Idealize.ShloMosaic.Lib.Pipeline.Kit

@[expose] public section

noncomputable section

namespace Cert.Proof.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Name : Type} [DecidableEq Name]
variable {U : Type} [URA U] {Lvl : Type} [Preorder Lvl]

section Copy

variable {Val : EltTy → Type} (EC : UEmb Counters (MT nD τ sig Ix Val Name U Lvl)) {Λ : Labels} {defs : Defs nD τ sig Val Λ}
variable (𝒱 : Variants) (c : Thread nD τ) (bd : Option 𝒱.V) {α : Type} {Q : α → sProp (MT nD τ sig Ix Val Name U Lvl)}
variable {sp sp' : Space} {s : Shape} {e : EltTy}

local notation "𝕄" => MT nD τ sig Ix Val Name U Lvl

/-- A copy into a buffer of the core's own, awaited at once: the destination comes back rewritten with what the source
    reads, the source at its share, the counter at zero. -/
theorem wp_copyWait [Infinite Name] [EC.LandsIn (upEmb : UEmb _ 𝕄)]
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig Val Λ c.2) α} {q : PosShare TreeShare} {fs : Buf Val (src.view.loc c)}
    {Sd : Finset (Idx (dst.view.loc c))} {fd : Buf Val (dst.view.loc c)}
    (ι : Ix) (hpos : 0 < dst.view.dmaCredit) (hSd : dst.view.set ⊆ Sd) {O : CellTallies nD τ sig Ix} {W : Waits sig Ix} :
    iprop((src.view.loc c ↦[src.view.set]{q} fs) ∗ (dst.view.loc c ↦[Sd]{fullShare} fd) ∗ semVal (c, .dma sem) 0
        ∗ owes c O W ∗ MayWait c (.dma sem) ι O)
      ⊢ iprop((iprop((dst.view.loc c ↦[Sd]{fullShare} (dst.view.write Val fd (src.view.read Val fs) Finset.univ))
            ∗ (src.view.loc c ↦[src.view.set]{q} fs) ∗ semVal (c, .dma sem) 0 ∗ owes c O (insert (SemLoc.dma sem, ι) W))
          -∗ wp frame (wpE defs 𝒱 c bd) Set.univ (k ⟨⟩) Q)
        -∗ wp frame (wpE defs 𝒱 c bd) Set.univ
          (.op (.enqueueDma src (.here dst) (.dma sem) hsrc hdst hsem) fun _ => .op (.waitDma2 sem src dst hsrc' hdst') k) Q) := by
  iintro ⟨Hs, Hd, Hv, HO, Hmw⟩ Hk
  iapply (Transfers.wp_dmaLocal EC 𝒱 c bd ι (dst.view.dmaCredit) rfl hpos hSd) $$ [Hs Hd Hv]
  · isplitl [Hs]; · iexact Hs
    isplitl [Hd] <;> iassumption
  iintro Hfl
  iapply (Transfers.wp_waitLocalO EC 𝒱 c bd ι rfl) $$ [Hfl HO Hmw]
  · isplitl [Hfl]; · iexact Hfl
    isplitl [HO] <;> iassumption
  iintro ⟨⟨Hd, Hs⟩, Hv, HO⟩
  iapply Hk
  isplitl [Hd]; · iexact Hd
  isplitl [Hs]; · iexact Hs
  isplitl [Hv] <;> iassumption

end Copy

section Gather

variable {F : FTy → Type} {Λ : Labels} {defs : Defs nD τ sig (Elt F) Λ}
variable (𝒱 : Variants) (c : Thread nD τ) (bd : Option 𝒱.V) {α : Type} {Q : α → sProp (MT nD τ sig Ix (Elt F) Name U Lvl)}
variable {n n' : ℕ} {t : Shape} {e : EltTy}

local notation "𝕄" => MT nD τ sig Ix (Elt F) Name U Lvl

/-- The words of a table of length `n` at a vector of indices, an index out of range read around the end. -/
def gat {X : Type} [hn : NeZero n] (f : (⟨1, ![n]⟩ : Shape).Idx → X) (v : t.Idx → BitVec 32) : t.Idx → X :=
  fun x => f (fun a => ⟨(v x).toNat % n, by
    obtain rfl : a = 0 := Subsingleton.elim _ _
    exact Nat.mod_lt _ (Nat.pos_of_ne_zero hn.out)⟩)

/-- In range, the gather is `gat`. -/
theorem loadIdx_eq_gat [NeZero n] (f : Vec F (⟨1, ![n]⟩ : Shape) e) (v : IVec t 32)
    (h : ∀ a x, ((![v] : Fin 1 → IVec t 32) a x).toNat < (⟨1, ![n]⟩ : Shape).size a) :
    loadIdx f (![v] : Fin 1 → IVec t 32) h = gat f v := by
  funext x
  unfold loadIdx gat
  congr 1
  funext a
  obtain rfl : a = 0 := Subsingleton.elim _ _
  apply Fin.ext
  show (v x).toNat = (v x).toNat % n
  exact (Nat.mod_eq_of_lt (h 0 x)).symm

/-- A vector of indices loaded, checked in range, and the table gathered at it: the run goes on at `gat`. -/
theorem wp_gather [NeZero n] {ix : Memref sig c.2.kind .vmem (⟨1, ![n']⟩ : Shape) .i32} {tb : Memref sig c.2.kind .vmem (⟨1, ![n]⟩ : Shape) e}
    {r : LoadRect (⟨1, ![n']⟩ : Shape)} {hl : ix.view.LoadsAt r} {ht : tb.view.Loads}
    {fi : Buf (Elt F) (ix.view.loc c)} {ft : Buf (Elt F) (tb.view.loc c)} {q : PosShare TreeShare}
    {C : IVec r.shape 32 → Prop} {dec : ∀ v, Decidable (C v)}
    (hC : ∀ v, C v → ∀ a x, ((![v] : Fin 1 → IVec r.shape 32) a x).toNat < (⟨1, ![n]⟩ : Shape).size a)
    (hok : C (ix.view.readAt (Elt F) r fi)) {tv : Vec F (⟨1, ![n]⟩ : Shape) e} (htv : (tb.access (.whole _)).read (Elt F) ft = tv)
    {k : Vec F r.shape e → Prog (TpuEff nD τ sig (Elt F) Λ c.2) α} :
    iprop((ix.view.loc c ↦{fullShare} fi) ∗ (tb.view.loc c ↦{q} ft))
      ⊢ iprop((iprop((ix.view.loc c ↦{fullShare} fi) ∗ (tb.view.loc c ↦{q} ft))
          -∗ wp frame (wpE defs 𝒱 c bd) Set.univ (k (gat tv (ix.view.readAt (Elt F) r fi))) Q)
        -∗ wp frame (wpE defs 𝒱 c bd) Set.univ
          (.op (.load ix r hl) fun v => .op (.assume (C v) (dec v)) fun h => SparseCore.vectorLoadIdx tb ![v] (hC v h.down) ht >>= k) Q) := by
  iintro ⟨Hi, Ht⟩ Hk
  iapply (wp_load 𝒱 c bd Set.univ (m := ix) (S := Finset.univ) (Finset.subset_univ _)) $$ Hi; iintro Hi
  rw [wp_assume_of _ _ _ _ hok]
  iapply (SparseCore.wp_vectorLoadIdx 𝒱 c bd Set.univ (base := tb) (S := Finset.univ) (q := q) (Finset.subset_univ _)) $$ Ht; iintro Ht
  rw [loadIdx_eq_gat, htv]
  iapply Hk
  isplitl [Hi] <;> iassumption

end Gather

end Cert.Proof.Steps

end
-- ==== Proof.WholeBase.lean ====
/-
  The whole kernel as its launch sees it, a TensorCore call inside a SparseCore launch, and the ghost state of its proof.
-/
module

public import proofs.«01_k».proof.Defs
public import proofs.«01_k».proof.Proof.Steps
public import Idealize.ShloMosaic.Lib.SparseCore.Quiescent
public import Idealize.ShloMosaic.Lib.ShareLeaves
public import Idealize.ShloMosaic.Lib.StableHlo.Run
public import Idealize.ShloMosaic.Lib.Pipeline.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Whole

open Cert.KernelIdeal Cert.KernelIdeal.Gen Cert.Proof.Steps

open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it, and the ghost state -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The ghost state of the nearest-neighbour call's transfers. -/
abbrev UP : Type := URounds (GSem nD τ sig) Unit
abbrev UU : Type := UH × (UP × Counters)

/-- Where the SparseCore handshakes' state lies, -/
abbrev EH : Emb UH (MT nD τ sig (HIx 1) (Elt F) ℕ UU ℕ) := embL
/-- and where the nearest-neighbour call's does. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.Whole

end
-- ==== Proof.WholeTile.lean ====
/-
  One vector subcore's run of the mean-squared-difference kernel, at a symbolic subcore. It fetches its 160 indices and
  its 160 predicted intensities and the whole target intensity table into its own memory, adds sixteen lanes at a time
  the squared differences of the rows that exist, and writes the sixteen sums to its own row of the partial sums. The
  postcondition says what that row holds.
-/
module

public import proofs.«01_k».proof.Proof.Steps
public import Idealize.ShloMosaic.Lib.SparseCore.Quiescent
public import Idealize.ShloMosaic.Lib.ShareLeaves
public import Idealize.ShloMosaic.Lib.StableHlo.Run
public import proofs.«01_k».proof.Proof.WholeBase

@[expose] public section

noncomputable section

namespace Cert.Proof.Whole

open Cert.KernelIdeal Cert.KernelIdeal.Gen Cert.Proof.Steps

open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The operands and the tile's own memory -/

abbrev iLoc (d : Dev nD) : Loc nD τ sig := (SparseCore.T d).loc main_v22
abbrev pLoc (d : Dev nD) : Loc nD τ sig := (SparseCore.T d).loc main_v27
abbrev tLoc (d : Dev nD) : Loc nD τ sig := (SparseCore.T d).loc main_v29
abbrev oLoc (d : Dev nD) : Loc nD τ sig := (SparseCore.T d).loc main_v30

abbrev iV : Memref sig .scVector .hbm S5120 .i32 := Memref.whole main_v22_scv
abbrev pV : Memref sig .scVector .hbm S5120 .f32 := Memref.whole main_v27_scv
abbrev tV : Memref sig .scVector .hbm S20000 .f32 := Memref.whole main_v29_scv
abbrev oV : Memref sig .scVector .hbm S32x16 .f32 := Memref.whole main_v30_scv
abbrev sI : Memref sig .scVector .vmem S160 .i32 := Memref.whole cc1_scratch0
abbrev sP : Memref sig .scVector .vmem S160 .f32 := Memref.whole cc1_scratch1
abbrev sT : Memref sig .scVector .vmem S20000 .f32 := Memref.whole cc1_scratch2
abbrev sA : Memref sig .scVector .vmem S16 .f32 := Memref.whole cc1_scratch3

/-- The 160 words of a tile, and its row of the result. -/
abbrev seg (L : grid1.Coords) : Rect S5120 := Rect.unit (s := S5120) (k1_off1 L) S160.size (k1_off1_inb L)
abbrev iSeg (L : grid1.Coords) : Memref sig .scVector .hbm S160 .i32 := iV.slice (seg L) (fun _ => rfl)
abbrev pSeg (L : grid1.Coords) : Memref sig .scVector .hbm S160 .f32 := pV.slice (seg L) (fun _ => rfl)
abbrev oRow (L : grid1.Coords) : Memref sig .scVector .hbm S16 .f32 :=
  (oV.slice (Rect.unit (s := S32x16) (k1_off2 L) S1x16.size (k1_off2_inb L)) (fun _ => rfl)).squeeze S16 squeezes_S1x16_S16

/-! ## The value -/

section Value

variable [FloatOps F] [Named F] (I : IVec S5120 32) (Pn : FVec F S5120 .f32) (Tn : FVec F S20000 .f32)

/-- The sixteen lanes of a tile's segment that begin at `o`. -/
abbrev lanes (o : ℕ) (h : ∀ a, (![o] : Fin 1 → ℕ) a + S16.size a ≤ S160.size a) : LoadRect S160 :=
  (Rect.unit (s := S160) ![o] S16.size h).toLoadRect

abbrev segI (L : grid1.Coords) : IVec S160 32 := (iSeg L).view.read (Elt F) I
abbrev segP (L : grid1.Coords) : FVec F S160 .f32 := (pSeg L).view.read (Elt F) Pn

/-- The target intensities gathered at sixteen of a tile's indices; the predicted ones beside them. -/
abbrev gAt (L : grid1.Coords) (o : ℕ) (h : ∀ a, (![o] : Fin 1 → ℕ) a + S16.size a ≤ S160.size a) : FVec F S16 .f32 :=
  gat (n := 20000) Tn ((sI.view.readAt (Elt F) (lanes o h) (segI (F := F) I L)) : IVec S16 32)
abbrev pAt (L : grid1.Coords) (o : ℕ) (h : ∀ a, (![o] : Fin 1 → ℕ) a + S16.size a ≤ S160.size a) : FVec F S16 .f32 :=
  sP.view.readAt (Elt F) (lanes o h) (segP Pn L)

/-- The number of the first row a tile works on, as the kernel computes it. -/
abbrev base (L : grid1.Coords) : BitVec 32 :=
  Scalar.muli (Scalar.addi (Scalar.muli (BitVec.ofNat 32 (L 1).val) 2#32) (BitVec.ofNat 32 (L 0).val)) 160#32
abbrev iot : IVec S16 32 := iota .scVector S16 32 [0] iota_S16_d0_w32_scVector

/-- What a tile leaves in its row. -/
def tileVal (L : grid1.Coords) : FVec F S16 .f32 :=
  k1_pay1 (base L) iot
    (k1_pay5 (base L) iot
      (k1_pay4 (base L) iot (k1_pay2 L (gAt I Tn L 0 inb_S160_S16_0) (pAt Pn L 0 inb_S160_S16_0))
        (k1_pay3 L (gAt I Tn L 16 inb_S160_S16_16) (pAt Pn L 16 inb_S160_S16_16))
        (gAt I Tn L 32 inb_S160_S16_32) (pAt Pn L 32 inb_S160_S16_32) (gAt I Tn L 48 inb_S160_S16_48) (pAt Pn L 48 inb_S160_S16_48)
        (gAt I Tn L 64 inb_S160_S16_64) (pAt Pn L 64 inb_S160_S16_64))
      (gAt I Tn L 80 inb_S160_S16_80) (pAt Pn L 80 inb_S160_S16_80) (gAt I Tn L 96 inb_S160_S16_96) (pAt Pn L 96 inb_S160_S16_96)
      (gAt I Tn L 112 inb_S160_S16_112) (pAt Pn L 112 inb_S160_S16_112))
    (gAt I Tn L 128 inb_S160_S16_128) (pAt Pn L 128 inb_S160_S16_128) (gAt I Tn L 144 inb_S160_S16_144) (pAt Pn L 144 inb_S160_S16_144)

end Value

/-! ## A tile's cells and buffers -/

section Tile

variable (d : Dev nD) (L : grid1.Coords)

abbrev cV : Fin τ.nSC := (L 0).castLE hcore1
abbrev jV : Fin τ.nSub := (L 1).castLE hsub1
abbrev tile : Thread nD τ := V d (cV L) (jV L)

theorem ownSems0_tile :
    (ownSems0 (tile d L) : sProp 𝕄)
      = iprop(semVal (tile d L, .dma cc1_scoped0.sem) 0 ∗ semVal (tile d L, .dma cc1_scoped1.sem) 0 ∗ semVal (tile d L, .dma cc1_scoped2.sem) 0
          ∗ semVal (tile d L, .dma cc1_scoped3.sem) 0
          ∗ bigSep (((((ownCells (tile d L)).erase (tile d L, .dma cc1_scoped0.sem)).erase (tile d L, .dma cc1_scoped1.sem)).erase
              (tile d L, .dma cc1_scoped2.sem)).erase (tile d L, .dma cc1_scoped3.sem)) fun g => semVal g 0) := by
  have hm : ∀ x : DmaSem sig, (SemLoc.dma x : SemLoc sig).isScoped .scVector = true → ((tile d L, .dma x) : GSem nD τ sig) ∈ ownCells (tile d L) :=
    fun x hx => mem_ownCells.mpr ⟨rfl, hx⟩
  have hne : ∀ x y : DmaSem sig, x ≠ y → ((tile d L, SemLoc.dma x) : GSem nD τ sig) ≠ (tile d L, .dma y) := fun x y h e => h (by
    have := congrArg Prod.snd e; simpa using this)
  unfold SparseCore.Cfg.ownSems0
  rw [SparseCore.bigSep_erase' (hm cc1_scoped0.sem (by decide)),
    SparseCore.bigSep_erase' (Finset.mem_erase.mpr ⟨hne cc1_scoped1.sem cc1_scoped0.sem (by decide), hm _ (by decide)⟩),
    SparseCore.bigSep_erase' (Finset.mem_erase.mpr ⟨hne cc1_scoped2.sem cc1_scoped1.sem (by decide),
      Finset.mem_erase.mpr ⟨hne cc1_scoped2.sem cc1_scoped0.sem (by decide), hm _ (by decide)⟩⟩),
    SparseCore.bigSep_erase' (Finset.mem_erase.mpr ⟨hne cc1_scoped3.sem cc1_scoped2.sem (by decide),
      Finset.mem_erase.mpr ⟨hne cc1_scoped3.sem cc1_scoped1.sem (by decide),
      Finset.mem_erase.mpr ⟨hne cc1_scoped3.sem cc1_scoped0.sem (by decide), hm _ (by decide)⟩⟩⟩)]

theorem ownBufs_tile :
    (ownBufs (tile d L) : sProp 𝕄)
      = iprop((∃ f, (tile d L).loc cc1_scratch0 ↦{fullShare} f) ∗ (∃ f, (tile d L).loc cc1_scratch1 ↦{fullShare} f)
          ∗ (∃ f, (tile d L).loc cc1_scratch2 ↦{fullShare} f) ∗ (∃ f, (tile d L).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have hne : ∀ x y : Ref sig .scVector, x ≠ y → (Proc.scVector (cV L) (jV L)).devRef x ≠ (Proc.scVector (cV L) (jV L)).devRef y :=
    fun x y h e => h (Proc.devRef_injective _ e)
  have h0 := mem_ownRefs_of_owner (p := Proc.scVector (cV L) (jV L)) (b := (Proc.scVector (cV L) (jV L)).devRef cc1_scratch0) rfl
  have h1 := mem_ownRefs_of_owner (p := Proc.scVector (cV L) (jV L)) (b := (Proc.scVector (cV L) (jV L)).devRef cc1_scratch1) rfl
  have h2 := mem_ownRefs_of_owner (p := Proc.scVector (cV L) (jV L)) (b := (Proc.scVector (cV L) (jV L)).devRef cc1_scratch2) rfl
  have h3 := mem_ownRefs_of_owner (p := Proc.scVector (cV L) (jV L)) (b := (Proc.scVector (cV L) (jV L)).devRef cc1_scratch3) rfl
  unfold SparseCore.Cfg.ownBufs
  refine (SparseCore.bigSep_erase' h0).trans ?_
  rw [SparseCore.bigSep_erase' (Finset.mem_erase.mpr ⟨hne cc1_scratch1 cc1_scratch0 (by decide), h1⟩),
    SparseCore.bigSep_erase' (Finset.mem_erase.mpr ⟨hne cc1_scratch2 cc1_scratch1 (by decide),
      Finset.mem_erase.mpr ⟨hne cc1_scratch2 cc1_scratch0 (by decide), h2⟩⟩),
    SparseCore.bigSep_erase' (Finset.mem_erase.mpr ⟨hne cc1_scratch3 cc1_scratch2 (by decide),
      Finset.mem_erase.mpr ⟨hne cc1_scratch3 cc1_scratch1 (by decide),
      Finset.mem_erase.mpr ⟨hne cc1_scratch3 cc1_scratch0 (by decide), h3⟩⟩⟩)]

variable [FloatOps F] [Named F]

/-- What a tile is handed and hands back: the three operands at a read share, its row of the result at `f`. -/
def lent (q : PosShare TreeShare) (I : IVec S5120 32) (Pn : FVec F S5120 .f32) (Tn : FVec F S20000 .f32)
    (f : FVec F S32x16 .f32) : sProp 𝕄 :=
  iprop((iLoc d ↦{q} (I : Buf (Elt F) (iLoc d))) ∗ (pLoc d ↦{q} (Pn : Buf (Elt F) (pLoc d))) ∗ (tLoc d ↦{q} (Tn : Buf (Elt F) (tLoc d)))
    ∗ (oLoc d ↦[(oRow L).view.set]{fullShare} (f : Buf (Elt F) (oLoc d))))

set_option maxHeartbeats 400000 in
/-- One tile's run: handed its operands, with every index in the table, it gives them back, its row of the result at
    `tileVal`. -/
theorem tile_body (q : PosShare TreeShare) (I : IVec S5120 32) (Pn : FVec F S5120 .f32) (Tn : FVec F S20000 .f32) (f f' : FVec F S32x16 .f32)
    (hI : ∀ j, (I j).toNat < 20000) (hf' : ∀ x : S16.Idx, f' ((oRow L).view.emb x) = tileVal I Pn Tn L x)
    (hF : (K (F := F)).Facts) (O : CellTallies nD τ sig (HIx 1)) (W : Waits sig (HIx 1)) (hO : ∀ g, O g none = 0) :
    iprop(levAts (K (F := F)).L (K (F := F)).lev ∗ emp ∗ lent d L q I Pn Tn f ∗ scopedBufs (tile d L) ∗ scopedSems0 (tile d L) ∗ owes (tile d L) O W)
      ⊢ wp frame (wpE (defs₀ (F := F)) 𝒱₀ (tile d L) none) Set.univ
          (cc1__sc_mse_body L iV (Memref.isWhole_whole _) pV (Memref.isWhole_whole _) tV (Memref.isWhole_whole _) oV (Memref.isWhole_whole _)
            sI (Memref.isWhole_whole _) sP (Memref.isWhole_whole _) sT (Memref.isWhole_whole _) sA (Memref.isWhole_whole _)
            cc1_scoped0 cc1_scoped1 cc1_scoped2 cc1_scoped3)
          fun _ => iprop(lent d L q I Pn Tn f' ∗ scopedBufs (tile d L) ∗ scopedSems0 (tile d L)
            ∗ ∃ W', ⌜∀ p ∈ W', p ∈ W ∨ p.2 = none⌝ ∗ owes (tile d L) O W') := by
  have hchk : ∀ (o : ℕ) (h : ∀ a, (![o] : Fin 1 → ℕ) a + S16.size a ≤ S160.size a),
      ∀ a x, ((![(sI.view.readAt (Elt F) (lanes o h) (segI (F := F) I L) : IVec S16 32)] : Fin 1 → IVec S16 32) a x).toNat < S20000.size a := by
    intro o h a x
    obtain rfl : a = 0 := Subsingleton.elim _ _
    exact hI _
  have hdone : ∀ g : FVec F S16 .f32, g = tileVal I Pn Tn L →
      (((oRow L).view.loc (tile d L)) ↦[(oRow L).view.set]{fullShare} ((oRow L).view.write (Elt F) f g Finset.univ : Buf (Elt F) ((oRow L).view.loc (tile d L))) : sProp 𝕄)
        = oLoc d ↦[(oRow L).view.set]{fullShare} (f' : Buf (Elt F) (oLoc d)) := by
    intro g hg
    refine pointsTo_congr (fun i hi => ?_)
    obtain ⟨x, -, rfl⟩ := Finset.mem_map.mp hi
    refine (View.write_emb_of_mem (v := (oRow L).view) (Val := Elt F) f g (Finset.mem_univ x)).trans ?_
    exact (congrFun hg x).trans (hf' x).symm
  have hset : (sA : Memref sig .scVector .vmem S16 .f32).view.set = Finset.univ := by rw [Memref.view_whole, View.set_whole]
  have hst : ∀ (fa : FVec F S16 .f32) (g : FVec F S16 .f32),
      ((sA.access (Rect.unit (s := S16) ![0] S16.size inb_S16_S16_0)).loc (tile d L) ↦{fullShare}
        ((sA.access (Rect.unit (s := S16) ![0] S16.size inb_S16_S16_0)).write (Elt F) fa g Finset.univ
          : Buf (Elt F) ((sA.access (Rect.unit (s := S16) ![0] S16.size inb_S16_S16_0)).loc (tile d L))) : sProp 𝕄)
        = (sA.view.loc (tile d L) ↦[sA.view.set]{fullShare} (g : Buf (Elt F) (sA.view.loc (tile d L)))) := by
    intro fa g
    rw [hset]
    exact congrArg (fun z => ((tile d L).loc cc1_scratch3 ↦{fullShare} z : sProp 𝕄))
      (Memref.write_access_unit_zero_univ (Elt F) cc1_scratch3 (off := ![0]) (funext fun a => match a with | 0 => rfl) inb_S16_S16_0 fa g)
  simp only [cc1__sc_mse_body_eq_skeleton]
  unfold cc1__sc_mse_body_skel
  simp only [k1_part1_eq_skeleton, k1_part2_eq_skeleton, k1_part3_eq_skeleton, k1_part1_skel, k1_part2_skel, k1_part3_skel,
    Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_tile, ownBufs_tile]
  unfold lent
  iintro ⟨#Hlv, -, ⟨Hi, Hp, Ht, Ho⟩, ⟨⟨%fi, Hsi⟩, ⟨%fp, Hsp⟩, ⟨%ft, Hst⟩, ⟨%fa, Hsa⟩, Hbufs⟩, ⟨Hv0, Hv1, Hv2, Hv3, Hsems⟩, HO⟩
  icases ((pointsTo_split_subset (ℓ := iLoc d) (q := q) (f := (I : Buf (Elt F) (iLoc d))) (Finset.subset_univ (iSeg L).view.set)).1) $$ Hi with ⟨Hi, Hir⟩
  iapply (wp_copyWait countersEmb 𝒱₀ (tile d L) none (src := (iSeg L)) (dst := sI) (q := q) (none : HIx 1)
    (View.dmaCredit_pos _ (by decide)) (Finset.subset_univ _) (O := O)) $$ [Hi Hsi Hv0 HO]
  · isplitl [Hi]; · iexact Hi
    isplitl [Hsi]; · iexact Hsi
    isplitl [Hv0]; · iexact Hv0
    isplitl [HO]; · iexact HO
    iapply ((K (F := F)).mayWait_none (SemLoc.dma cc1_scoped0.sem) hO); iexact Hlv
  iintro ⟨Hsi, Hi, Hv0, HO⟩
  ihave Hi := ((pointsTo_split_subset (ℓ := iLoc d) (q := q) (f := (I : Buf (Elt F) (iLoc d))) (Finset.subset_univ (iSeg L).view.set)).2) $$ [Hi Hir]
  · isplitl [Hi] <;> iassumption
  icases ((pointsTo_split_subset (ℓ := pLoc d) (q := q) (f := (Pn : Buf (Elt F) (pLoc d))) (Finset.subset_univ (pSeg L).view.set)).1) $$ Hp with ⟨Hp, Hpr⟩
  iapply (wp_copyWait countersEmb 𝒱₀ (tile d L) none (src := (pSeg L)) (dst := sP) (q := q) (none : HIx 1)
    (View.dmaCredit_pos _ (by decide)) (Finset.subset_univ _) (O := O)) $$ [Hp Hsp Hv1 HO]
  · isplitl [Hp]; · iexact Hp
    isplitl [Hsp]; · iexact Hsp
    isplitl [Hv1]; · iexact Hv1
    isplitl [HO]; · iexact HO
    iapply ((K (F := F)).mayWait_none (SemLoc.dma cc1_scoped1.sem) hO); iexact Hlv
  iintro ⟨Hsp, Hp, Hv1, HO⟩
  ihave Hp := ((pointsTo_split_subset (ℓ := pLoc d) (q := q) (f := (Pn : Buf (Elt F) (pLoc d))) (Finset.subset_univ (pSeg L).view.set)).2) $$ [Hp Hpr]
  · isplitl [Hp] <;> iassumption
  icases ((pointsTo_split_subset (ℓ := tLoc d) (q := q) (f := (Tn : Buf (Elt F) (tLoc d))) (Finset.subset_univ tV.view.set)).1) $$ Ht with ⟨Ht, Htr⟩
  iapply (wp_copyWait countersEmb 𝒱₀ (tile d L) none (src := tV) (dst := sT) (q := q) (none : HIx 1)
    (View.dmaCredit_pos _ (by decide)) (Finset.subset_univ _) (O := O)) $$ [Ht Hst Hv2 HO]
  · isplitl [Ht]; · iexact Ht
    isplitl [Hst]; · iexact Hst
    isplitl [Hv2]; · iexact Hv2
    isplitl [HO]; · iexact HO
    iapply ((K (F := F)).mayWait_none (SemLoc.dma cc1_scoped2.sem) hO); iexact Hlv
  iintro ⟨Hst, Ht, Hv2, HO⟩
  ihave Ht := ((pointsTo_split_subset (ℓ := tLoc d) (q := q) (f := (Tn : Buf (Elt F) (tLoc d))) (Finset.subset_univ tV.view.set)).2) $$ [Ht Htr]
  · isplitl [Ht] <;> iassumption
  ihave Hsi := (Entails.of_eq (congrArg (fun g => ((tile d L).loc cc1_scratch0 ↦{fullShare} g : sProp 𝕄))
    (View.write_whole_univ cc1_scratch0 fi (segI (F := F) I L)))) $$ Hsi
  ihave Hsp := (Entails.of_eq (congrArg (fun g => ((tile d L).loc cc1_scratch1 ↦{fullShare} g : sProp 𝕄))
    (View.write_whole_univ cc1_scratch1 fp (segP Pn L)))) $$ Hsp
  ihave Hst := (Entails.of_eq (congrArg (fun g => ((tile d L).loc cc1_scratch2 ↦{fullShare} g : sProp 𝕄))
    ((View.write_whole_univ cc1_scratch2 ft (tV.view.read (Elt F) Tn)).trans (show tV.view.read (Elt F) Tn = Tn from rfl)))) $$ Hst
  iapply (wp_gather (n := 20000) (n' := 160) 𝒱₀ (tile d L) none (ix := sI) (tb := sT) (q := fullShare) k1_idx1_inb (hchk 0 inb_S160_S16_0)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx2_inb (hchk 16 inb_S160_S16_16)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx3_inb (hchk 32 inb_S160_S16_32)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx4_inb (hchk 48 inb_S160_S16_48)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx5_inb (hchk 64 inb_S160_S16_64)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx6_inb (hchk 80 inb_S160_S16_80)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx7_inb (hchk 96 inb_S160_S16_96)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx8_inb (hchk 112 inb_S160_S16_112)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx9_inb (hchk 128 inb_S160_S16_128)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k1_idx10_inb (hchk 144 inb_S160_S16_144)
    (Memref.read_access_whole (Elt F) cc1_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_load 𝒱₀ (tile d L) none Set.univ (m := sA) (S := Finset.univ) (Finset.subset_univ _)) $$ Hsa; iintro Hsa
  iapply (wp_store 𝒱₀ (tile d L) none Set.univ (m := sA) (r := Rect.unit (s := S16) ![0] S16.size inb_S16_S16_0) (Mk := Finset.univ)
    (S := Finset.univ) (Finset.subset_univ _)) $$ Hsa; iintro Hsa
  ihave Hsa := (Entails.of_eq (hst fa _)) $$ Hsa
  iapply (wp_copyWait countersEmb 𝒱₀ (tile d L) none (src := sA) (dst := oRow L) (q := fullShare) (none : HIx 1)
    (View.dmaCredit_pos _ (by decide)) (Finset.Subset.refl _) (O := O)) $$ [Hsa Ho Hv3 HO]
  · isplitl [Hsa]; · iexact Hsa
    isplitl [Ho]; · iexact Ho
    isplitl [Hv3]; · iexact Hv3
    isplitl [HO]; · iexact HO
    iapply ((K (F := F)).mayWait_none (SemLoc.dma cc1_scoped3.sem) hO); iexact Hlv
  iintro ⟨Ho, Hsa, Hv3, HO⟩
  ihave Ho := (Entails.of_eq (hdone _ (by rfl))) $$ Ho
  rw [wp_ret]; imodintro
  isplitl [Hi Hp Ht Ho]
  · isplitl [Hi]; · iexact Hi
    isplitl [Hp]; · iexact Hp
    isplitl [Ht]; · iexact Ht
    iexact Ho
  isplitl [Hsi Hsp Hst Hsa Hbufs]
  · isplitl [Hsi]; · iexists _; iexact Hsi
    isplitl [Hsp]; · iexists _; iexact Hsp
    isplitl [Hst]; · iexists _; iexact Hst
    isplitl [Hsa]; · iexists _; rw [hset]; iexact Hsa
    iexact Hbufs
  isplitl [Hv0 Hv1 Hv2 Hv3 Hsems]
  · isplitl [Hv0]; · iexact Hv0
    isplitl [Hv1]; · iexact Hv1
    isplitl [Hv2]; · iexact Hv2
    isplitl [Hv3]; · iexact Hv3
    iexact Hsems
  iexists (insert (SemLoc.dma cc1_scoped3.sem, none) (insert (SemLoc.dma cc1_scoped2.sem, none)
    (insert (SemLoc.dma cc1_scoped1.sem, none) (insert (SemLoc.dma cc1_scoped0.sem, none) W))))
  isplitr
  · ipureintro
    intro p hp
    simp only [Finset.mem_insert] at hp
    rcases hp with rfl | rfl | rfl | rfl | hp
    · exact .inr rfl
    · exact .inr rfl
    · exact .inr rfl
    · exact .inr rfl
    · exact .inl hp
  iexact HO

end Tile

end Cert.Proof.Whole

end
-- ==== Proof.WholeCall.lean ====
/-
  The one SparseCore call: what the TensorCore hands each of the thirty-two subcores and what it takes back, the
  operands divided among them and joined again.
-/
module

public import proofs.«01_k».proof.Proof.WholeTile
public import Idealize.ShloMosaic.Lib.Pipeline.Kit

@[expose] public section

noncomputable section

namespace Cert.Proof.Whole

open Cert.KernelIdeal Cert.KernelIdeal.Gen Cert.Proof.Steps

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A subcore's coordinates from its SparseCore and its number there. -/
def at' (c : Fin 2) (i : Fin 16) : grid1.Coords := fun | 0 => c | 1 => i | ⟨_ + 2, h⟩ => absurd h (Nat.not_lt.2 (Nat.le_add_left _ _))

/-- The number of a subcore among the thirty-two, as its share of the operands is numbered. -/
def wid : Fin 2 × Fin 16 ≃ Fin (2 ^ 5) := finProdFinEquiv.trans (finCongr (by norm_num))

abbrev share (c : Fin 2) (i : Fin 16) : PosShare TreeShare := ShareLeaves.leaf 5 fullShare (wid (c, i))

/-- The lane of a number. -/
def lane (k : Fin 16) : S16.Idx := fun a => match a with | 0 => k

/-! ## Rows of the result -/

/-- The words of the result that are a subcore's. -/
abbrev rowSet (p : Fin 2 × Fin 16) : Finset S32x16.Idx := (oRow (at' p.1 p.2)).view.set

/-- Where lane `x` of a subcore's row lies in the result. -/
theorem emb_oRow (L : grid1.Coords) (x : S16.Idx) :
    ((oRow L).view.emb x 0).val = 2 * (L 1).val + (L 0).val ∧ ((oRow L).view.emb x 1).val = (x 0).val := by
  have e : (oRow L).view.emb x = (Rect.unit (s := S32x16) (k1_off2 L) S1x16.size (k1_off2_inb L)).emb (Shape.reshapeEquiv squeezes_S1x16_S16.numel_eq x) := rfl
  have e1 : Shape.reshapeEquiv squeezes_S1x16_S16.numel_eq x = (Fin.cons ⟨0, Nat.one_pos⟩ x : S1x16.Idx) := Shape.reshapeEquiv_cons_one _ x
  rw [e, e1]
  constructor
  · rw [Rect.emb_apply]
    show k1_off2 L 0 + 1 * 0 = _
    rw [k1_off2_eq]; simp
  · rw [Rect.emb_apply]
    show k1_off2 L 1 + 1 * (x 0).val = _
    rw [k1_off2_eq]; simp

/-- A subcore's row holds the words whose first coordinate is its number. -/
theorem mem_oRow (L : grid1.Coords) (j : S32x16.Idx) : j ∈ (oRow L).view.set ↔ (j 0).val = 2 * (L 1).val + (L 0).val := by
  constructor
  · intro h
    obtain ⟨x, -, rfl⟩ := Finset.mem_map.mp h
    exact (emb_oRow L x).1
  · intro h
    refine Finset.mem_map.mpr ⟨lane (j 1), Finset.mem_univ _, ?_⟩
    funext a
    match a with
    | 0 => exact Fin.ext ((emb_oRow L _).1.trans h.symm)
    | 1 => exact Fin.ext (emb_oRow L _).2

theorem rows_disjoint : ∀ p ∈ (Finset.univ : Finset (Fin 2 × Fin 16)), ∀ p' ∈ (Finset.univ : Finset (Fin 2 × Fin 16)), p ≠ p' →
    Disjoint (rowSet p) (rowSet p') := by
  intro p _ p' _ hne
  refine Finset.disjoint_left.mpr fun j h h' => hne ?_
  have h1 : (j 0).val = 2 * p.2.val + p.1.val := (mem_oRow (at' p.1 p.2) j).mp h
  have h2 : (j 0).val = 2 * p'.2.val + p'.1.val := (mem_oRow (at' p'.1 p'.2) j).mp h'
  have b1 := p.1.isLt; have b2 := p'.1.isLt
  exact Prod.ext (Fin.ext (by omega)) (Fin.ext (by omega))

theorem rows_cover : (Finset.univ : Finset (Fin 2 × Fin 16)).biUnion rowSet = Finset.univ := by
  refine Finset.eq_univ_iff_forall.mpr fun j => Finset.mem_biUnion.mpr ?_
  have hj : (j 0).val < 32 := (j 0).isLt
  refine ⟨(⟨(j 0).val % 2, by omega⟩, ⟨(j 0).val / 2, by omega⟩), Finset.mem_univ _, (mem_oRow _ j).mpr ?_⟩
  show (j 0).val = 2 * ((j 0).val / 2) + (j 0).val % 2
  omega

variable [FloatOps F] [Named F]

/-- The whole result: row `w` is what subcore `w` leaves. -/
def outVal (I : IVec S5120 32) (Pn : FVec F S5120 .f32) (Tn : FVec F S20000 .f32) : FVec F S32x16 .f32 := fun j =>
  tileVal I Pn Tn (at' ⟨(j 0).val % 2, Nat.mod_lt _ (by decide)⟩ ⟨(j 0).val / 2, by have h : (j 0).val < 32 := (j 0).isLt; omega⟩) (lane (j 1))

theorem outVal_row (I : IVec S5120 32) (Pn : FVec F S5120 .f32) (Tn : FVec F S20000 .f32) (L : grid1.Coords) (x : S16.Idx) :
    outVal I Pn Tn ((oRow L).view.emb x) = tileVal I Pn Tn L x := by
  obtain ⟨h0, h1⟩ := emb_oRow L x
  have b0 : (L 0).val < 2 := (L 0).isLt
  unfold outVal
  congr 1
  · congr 1
    funext a
    match a with
    | 0 => exact Fin.ext (by show ((oRow L).view.emb x 0).val % 2 = _; rw [h0]; omega)
    | 1 => exact Fin.ext (by show ((oRow L).view.emb x 0).val / 2 = _; rw [h0]; omega)
  · funext a
    obtain rfl : a = 0 := Subsingleton.elim _ _
    exact Fin.ext h1

/-- The operands whole and the result whole are the thirty-two subcores' portions at once. -/
theorem dealt (d : Dev nD) (I : IVec S5120 32) (Pn : FVec F S5120 .f32) (Tn : FVec F S20000 .f32) (f : FVec F S32x16 .f32) :
    (iprop((iLoc d ↦{fullShare} (I : Buf (Elt F) (iLoc d))) ∗ (pLoc d ↦{fullShare} (Pn : Buf (Elt F) (pLoc d)))
        ∗ (tLoc d ↦{fullShare} (Tn : Buf (Elt F) (tLoc d))) ∗ (oLoc d ↦{fullShare} (f : Buf (Elt F) (oLoc d)))) : sProp 𝕄)
      = bigSep Finset.univ fun c : Fin 2 => bigSep Finset.univ fun i : Fin 16 => lent d (at' c i) (share c i) I Pn Tn f := by
  have shares : ∀ (ℓ : Loc nD τ sig) (g : Buf (Elt F) ℓ), (ℓ ↦{fullShare} g : sProp 𝕄)
      = bigSep Finset.univ fun c : Fin 2 => bigSep Finset.univ fun i : Fin 16 => ℓ ↦{share c i} g := by
    intro ℓ g
    rw [ShareLeaves.pointsTo_leaves Finset.univ g 5 fullShare, bigSep_univ_equiv wid, bigSep_univ_prod]
  have rows : (oLoc d ↦{fullShare} (f : Buf (Elt F) (oLoc d)) : sProp 𝕄)
      = bigSep Finset.univ fun c : Fin 2 => bigSep Finset.univ fun i : Fin 16 => oLoc d ↦[(oRow (at' c i)).view.set]{fullShare} (f : Buf (Elt F) (oLoc d)) := by
    have h := pointsTo_biUnion (Val := Elt F) (Ix := HIx 1) (Name := ℕ) (U := UU) (Lvl := ℕ) (ℓ := oLoc d) (q := fullShare) (f := (f : Buf (Elt F) (oLoc d))) Finset.univ
      rowSet rows_disjoint
    rw [← bigSep_univ_prod (fun p : Fin 2 × Fin 16 => (oLoc d ↦[rowSet p]{fullShare} (f : Buf (Elt F) (oLoc d)) : sProp 𝕄)), ← h]
    exact congrArg (fun J => (oLoc d ↦[J]{fullShare} (f : Buf (Elt F) (oLoc d)) : sProp 𝕄)) rows_cover.symm
  rw [shares (iLoc d), shares (pLoc d), shares (tLoc d), rows]
  unfold lent
  simp only [bigSep_sep']

/-! ## The call's payloads -/

variable (I : Dev nD → IVec S5120 32) (Pn : Dev nD → FVec F S5120 .f32) (Tn : Dev nD → FVec F S20000 .f32) (o : Dev nD → FVec F S32x16 .f32)

/-- A subcore is handed its portion with the result as it was found, and hands it back with the result computed. -/
def P : (K (F := F)).Pay (nD := nD) (Val := Elt F) (Name := ℕ) (U := UU) where
  st := fun q d c => match q with
    | 0 => bigSep Finset.univ fun i : Fin 16 => lent d (at' c i) (share c i) (I d) (Pn d) (Tn d) (o d)
  dn := fun q d c => match q with
    | 0 => bigSep Finset.univ fun i : Fin 16 => lent d (at' c i) (share c i) (I d) (Pn d) (Tn d) (outVal (I d) (Pn d) (Tn d))
  go := fun q d c i => match q with
    | 0 => lent d (at' c i) (share c i) (I d) (Pn d) (Tn d) (o d)
  td := fun q d c i => match q with
    | 0 => lent d (at' c i) (share c i) (I d) (Pn d) (Tn d) (outVal (I d) (Pn d) (Tn d))
  x := fun _ _ => iprop(emp)

instance P_storable : (P I Pn Tn o).IsStorable where
  st q d c := by match q with | 0 => unfold P lent; infer_instance
  dn q d c := by match q with | 0 => unfold P lent; infer_instance
  go q d c i := by match q with | 0 => unfold P lent; infer_instance
  td q d c i := by match q with | 0 => unfold P lent; infer_instance

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right .inl
  iexact HO

theorem defs₀_tile (c : Fin τ.nSC) (s : Fin τ.nSub) :
    defs₀ (F := F) (.scVector c s) 1 () = SparseCore.onTile hcore1 hsub1 (fun c s =>
      cc1__sc_mse_body (at' c s) iV (Memref.isWhole_whole _) pV (Memref.isWhole_whole _) tV (Memref.isWhole_whole _) oV (Memref.isWhole_whole _)
        sI (Memref.isWhole_whole _) sP (Memref.isWhole_whole _) sT (Memref.isWhole_whole _) sA (Memref.isWhole_whole _)
        cc1_scoped0 cc1_scoped1 cc1_scoped2 cc1_scoped3) ⟨⟩ c s := rfl

/-- What the launch asks of each subcore's task. -/
theorem tileObl (hI : ∀ d j, (I d j).toNat < 20000) : (K (F := F)).TileObl (D (F := F)) 𝒱 (P I Pn Tn o) v₀ 0 := by
  intro d c i O W hO _ _
  simp only [show (P I Pn Tn o).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile]; simp only [SparseCore.onTile, hc, and_self, ↓reduceDIte]
  exact (tile_body d (at' c i) (share c i) (I d) (Pn d) (Tn d) (o d) (outVal (I d) (Pn d) (Tn d)) (hI d)
    (outVal_row _ _ _ (at' c i)) facts O W hO).trans (wp_mono frame _ _ fun _ => obl_post)

/-- A SparseCore's operands are its sixteen subcores' portions. -/
theorem vecSplit : (K (F := F)).VecSplit' (P I Pn Tn o) 0 := by
  intro d c
  show (bigSep Finset.univ fun i : Fin 16 => lent d (at' c i) (share c i) (I d) (Pn d) (Tn d) (o d)) ⊢ |={Set.univ}=> iprop(
    (bigSep Finset.univ fun i : Fin 16 => lent d (at' c i) (share c i) (I d) (Pn d) (Tn d) (o d))
      ∗ ((bigSep Finset.univ fun i : Fin 16 => lent d (at' c i) (share c i) (I d) (Pn d) (Tn d) (outVal (I d) (Pn d) (Tn d)))
        -∗ bigSep Finset.univ fun i : Fin 16 => lent d (at' c i) (share c i) (I d) (Pn d) (Tn d) (outVal (I d) (Pn d) (Tn d))))
  iintro H; imodintro
  isplitl [H]; · iexact H
  iintro H; iexact H

omit [FloatOps F] [Named F] in
theorem bigSep_emp' {α : Type} (s : Finset α) : (bigSep s fun _ => (iprop(emp) : sProp 𝕄)) = iprop(emp) := bigSep_emp_const s

/-- The launch element: the handshakes' rounds, the rounds of the nearest-neighbour call's copies, no counter. -/
def u₀ : UU := (initOf (K (F := F)).hsCells (K (F := F)).hsToks,
  (initOf (Pipeline.cells cfgs cellOf_inj) (Pipeline.launchToks cfgs cellOf_inj), 1))

/-- What a device's TensorCore holds of the copies' rounds when it starts. -/
def G (d : Dev nD) : sProp 𝕄 := iprop(Pipeline.cellsGhost cfgs EP 0 d ∗ Pipeline.toksInit cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P I Pn Tn o).x q thr) := by
  unfold u₀
  iintro Hu
  ihave H := (ownU_pair _ _) $$ Hu
  icases H with ⟨HH, HR⟩
  have halves : ∀ (a : UP) (b : Counters), (BI.own (embR (a, b)) : sProp 𝕄) ⊢ iprop(BI.own (EP a) ∗ BI.own (((Emb.inr : Emb Counters (UP × Counters)).trans embR) b)) :=
    fun a b => own_pair_emb (embR : Emb (UP × Counters) 𝕄) a b
  ihave H' := (halves _ _) $$ HR
  icases H' with ⟨HP, -⟩
  imod (Pipeline.fund_ghost cfgs (EP : Emb UP 𝕄) cellOf_inj) $$ HP with ⟨Hg, Ht⟩
  imodintro
  isplitl [HH]; · iexact HH
  isplitl [Hg Ht]
  · have one : ∀ Φ : Fin 1 → Dev nD → sProp 𝕄, (bigSep Finset.univ fun c : Dev nD => bigSep Finset.univ fun p => Φ p c)
        ⊢ bigSep Finset.univ fun c : Dev nD => Φ 0 c := fun Φ => bigSep_mono fun c _ => BI.bigSep_elim (Finset.mem_univ 0)
    unfold G
    rw [bigSep_sep']
    isplitl [Hg]
    · iapply (one fun p c => Pipeline.cellsGhost cfgs EP p c); iexact Hg
    · iapply (one fun p c => Pipeline.toksInit cfgs EP p c); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.Whole

end
-- ==== Proof.TcRuns.lean ====
module

public import proofs.«01_k».proof.Proof.WholeBase
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

variable (m : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) (HIx 1) ℕ UU ℕ cfg0 c) (hA : dat.A 0 = m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) (HIx 1) ℕ UU ℕ cfg0 c) (hA : dat.A 1 = m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) (HIx 1) ℕ UU ℕ cfg0 c) (hA : dat.A 2 = m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 50 := Nat.lt_of_lt_of_eq t.isLt N_0
    have e0 : (grid0.coords t 0).val = t.val / 5 % 10 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the points ≡ 4 (mod 5) — by arithmetic of the point. -/
theorem hcond0_1 : ∀ t : Fin cfg0.N, cond0_1 (grid0.coords t) ↔ t.val % 5 = 4 :=
  (fun t => by
    have ht : t.val < 50 := Nat.lt_of_lt_of_eq t.isLt N_0
    have e0 : (grid0.coords t 0).val = t.val / 5 % 10 := Pipeline.Grid.coords_val t 0 (by decide) rfl
    have e1 : (grid0.coords t 1).val = t.val / 1 % 5 := Pipeline.Grid.coords_val t 1 (by decide) rfl
    simp only [cond0_1, k0_cond2, e0, e1]
    word_cmp
   : ∀ t : Fin grid0.N, cond0_1 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the points of case A the printed configuration (`Cfg.idle`) calls output 3 idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cfg0.idle 3 (grid0.coords t) = false := by decide +kernel

/-! ## The kernel body on any staging memrefs: a subtype the run finds -/

/-- One staging buffer of output window 3, through which its contents are stated (`View.read_writes_of_cover`: the
    choice does not matter). -/
abbrev VO0_3 : View sig .tc .vmem S512x1 .i32 := (Memref.whole cc0_stg3_0 : Memref sig .tc .vmem S512x1 .i32).view
/-- Each window's current staging memref at point `t`, spelled as the pipeline passes it (`bodyAt0`), and its wholeness. -/
abbrev ms0_0 (t : Fin cfg0.N) : Memref sig .tc .vmem S512x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .i32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S512x128 .f32 := Memref.whole cc0_scratch0
abbrev scM0_1 : Memref sig .tc .vmem S512x128 .f32 := Memref.whole cc0_scratch1
/-- The scratch `arg6` the kernel carries between points, as a view: what it holds is stated through it. -/
abbrev VS0_0 : View sig .tc .vmem S512x128 .f32 := scM0_0.view
/-- The scratch `arg7` the kernel carries between points, as a view: what it holds is stated through it. -/
abbrev VS0_1 : View sig .tc .vmem S512x128 .f32 := scM0_1.view

/-- What the region is entered with and left with besides the windows: the scratch buffers at any contents, the generator register at
    any state. -/
def PhiAny (c : Dev nD) : sProp 𝕄 := iprop(Pipeline.scopedRest spec0 c ∗ ∃ r, prngReg c r)

/-- The frame kit's invariant with the scratch operands as memrefs owned at some contents (`Gen.scopedRest0_eq`,
    Lib/Memref.lean `owns_whole`): what the body obligation hands the run and takes back. -/
theorem PhiA0_eq (c : Dev nD) :
    (PhiAny c : sProp 𝕄)
      = iprop(iprop((∃ d, owns (c : Thread nD τ) scM0_0 fullShare d) ∗ (∃ d, owns (c : Thread nD τ) scM0_1 fullShare d)) ∗ (∃ r, prngReg c r)) := by
  unfold PhiAny; rw [scopedRest0_eq]; simp only [scM0_0, scM0_1, owns_whole]; try rfl

end Cert.Proof.Whole

end
-- ==== Proof.TcRunA.lean ====
module

public import proofs.«01_k».proof.Proof.TcRuns

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 5, … 45: 10 of 50), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i)
    (x0 : Vec F S512x8 .f32) (x1 : Vec F S8x4096 .f32) (x2 : Vec F S512x1 .f32) :
    Σ' (L3 : List (View.Piece (Elt F) S512x1 .i32)), Σ' (LS0 : List (View.Piece (Elt F) S512x128 .f32)), { LS1 : List (View.Piece (Elt F) S512x128 .f32) //
      ∀ (xi3 : Vec F S512x1 .i32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__nn_idx_body i arg2 harg2 arg3 harg3 arg4 harg4 arg5 harg5 arg6 harg6 arg7 harg7) K } := by
  refine ⟨[], ?_, ?_, fun xi3 E K => ?run⟩
  case run =>
    simp only [cc0__nn_idx_body_eq_skeleton]; unfold cc0__nn_idx_body_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Proof.Whole

end
-- ==== Proof.TcRunB.lean ====
module

public import proofs.«01_k».proof.Proof.TcRunA

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 48: 30 of 50), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i)
    (x0 : Vec F S512x8 .f32) (x1 : Vec F S8x4096 .f32) (x2 : Vec F S512x1 .f32) (xs0 : Vec F S512x128 .f32) (xs1 : Vec F S512x128 .f32) :
    Σ' (L3 : List (View.Piece (Elt F) S512x1 .i32)), Σ' (LS0 : List (View.Piece (Elt F) S512x128 .f32)), { LS1 : List (View.Piece (Elt F) S512x128 .f32) //
      ∀ (xi3 : Vec F S512x1 .i32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__nn_idx_body i arg2 harg2 arg3 harg3 arg4 harg4 arg5 harg5 arg6 harg6 arg7 harg7) K } := by
  refine ⟨[], ?_, ?_, fun xi3 E K => ?run⟩
  case run =>
    simp only [cc0__nn_idx_body_eq_skeleton]; unfold cc0__nn_idx_body_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Proof.Whole

end
-- ==== Proof.TcRunC.lean ====
module

public import proofs.«01_k».proof.Proof.TcRunB

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

variable (m : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 4, 9, … 49: 10 of 50), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x8 .f32) (x1 : Vec F S8x4096 .f32) (x2 : Vec F S512x1 .f32) (xs0 : Vec F S512x128 .f32) (xs1 : Vec F S512x128 .f32) :
    Σ' (L3 : List (View.Piece (Elt F) S512x1 .i32)), Σ' (LS0 : List (View.Piece (Elt F) S512x128 .f32)), { LS1 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__nn_idx_body i arg2 harg2 arg3 harg3 arg4 harg4 arg5 harg5 arg6 harg6 arg7 harg7) K } := by
  refine ⟨?_, ?_, ?_, fun E K => ?run⟩
  case run =>
    simp only [cc0__nn_idx_body_eq_skeleton]; unfold cc0__nn_idx_body_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Proof.Whole

end
-- ==== Proof.TcDat.lean ====
module

public import proofs.«01_k».proof.Proof.TcRunC
public import Idealize.ShloMosaic.Lib.Claim

@[expose] public section

set_option maxRecDepth 16384

noncomputable section

namespace Cert.Proof.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

variable (m : (c : Dev nD) → (b : Ref sig .tc) → Buf (Elt F) ((c : Thread nD τ).loc b))
/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i)
    (x0 : Vec F S512x8 .f32) (x1 : Vec F S8x4096 .f32) (x2 : Vec F S512x1 .f32) : Vec F S512x1 .i32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case A's pieces for scratch `arg6`, which the kernel carries between points, cover it: one of them a store of the WHOLE buffer (Lib/Ring.lean `sl_whole_mem`). -/
theorem scover0_A_0 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i)
    (x0 : Vec F S512x8 .f32) (x1 : Vec F S8x4096 .f32) (x2 : Vec F S512x1 .f32) (y : S512x128.Idx) :
    ∃ pc ∈ (kernelRun0_A c i arg2 harg2 arg3 harg3 arg4 harg4 arg5 harg5 arg6 harg6 arg7 harg7 hc0 hc1 x0 x1 x2).2.1, y ∈ pc.1.set :=
  View.cover_of_wholeMem (kernelRun0_A c i arg2 harg2 arg3 harg3 arg4 harg4 arg5 harg5 arg6 harg6 arg7 harg7 hc0 hc1 x0 x1 x2).2.1 (by sl_whole_mem) y

/-- What case A leaves in scratch `arg6`: its pieces read back over junk. -/
def sout0_A_0 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i)
    (x0 : Vec F S512x8 .f32) (x1 : Vec F S8x4096 .f32) (x2 : Vec F S512x1 .f32) : Vec F S512x128 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- Case A's pieces for scratch `arg7`, which the kernel carries between points, cover it: one of them a store of the WHOLE buffer (Lib/Ring.lean `sl_whole_mem`). -/
theorem scover0_A_1 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i)
    (x0 : Vec F S512x8 .f32) (x1 : Vec F S8x4096 .f32) (x2 : Vec F S512x1 .f32) (y : S512x128.Idx) :
    ∃ pc ∈ (kernelRun0_A c i arg2 harg2 arg3 harg3 arg4 harg4 arg5 harg5 arg6 harg6 arg7 harg7 hc0 hc1 x0 x1 x2).2.2.1, y ∈ pc.1.set :=
  View.cover_of_wholeMem (kernelRun0_A c i arg2 harg2 arg3 harg3 arg4 harg4 arg5 harg5 arg6 harg6 arg7 harg7 hc0 hc1 x0 x1 x2).2.2.1 (by sl_whole_mem) y

/-- What case A leaves in scratch `arg7`: its pieces read back over junk. -/
def sout0_A_1 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : cond0_0 i) (hc1 : ¬cond0_1 i)
    (x0 : Vec F S512x8 .f32) (x1 : Vec F S8x4096 .f32) (x2 : Vec F S512x1 .f32) : Vec F S512x128 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i)
    (x0 : Vec F S512x8 .f32) (x1 : Vec F S8x4096 .f32) (x2 : Vec F S512x1 .f32) (xs0 : Vec F S512x128 .f32) (xs1 : Vec F S512x128 .f32) : Vec F S512x1 .i32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case B's pieces for scratch `arg6`, which the kernel carries between points, cover it: 4 pieces of `S128x128` tiling it (Lib/Ring.lean `Piece.tiledL`). -/
theorem scover0_B_0 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i)
    (x0 : Vec F S512x8 .f32) (x1 : Vec F S8x4096 .f32) (x2 : Vec F S512x1 .f32) (xs0 : Vec F S512x128 .f32) (xs1 : Vec F S512x128 .f32) (y : S512x128.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S128x128.size (by sl_kernel_rfl) y

/-- What case B leaves in scratch `arg6`: its pieces read back over junk. -/
def sout0_B_0 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i)
    (x0 : Vec F S512x8 .f32) (x1 : Vec F S8x4096 .f32) (x2 : Vec F S512x1 .f32) (xs0 : Vec F S512x128 .f32) (xs1 : Vec F S512x128 .f32) : Vec F S512x128 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- Case B's pieces for scratch `arg7`, which the kernel carries between points, cover it: 4 pieces of `S128x128` tiling it (Lib/Ring.lean `Piece.tiledL`). -/
theorem scover0_B_1 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i)
    (x0 : Vec F S512x8 .f32) (x1 : Vec F S8x4096 .f32) (x2 : Vec F S512x1 .f32) (xs0 : Vec F S512x128 .f32) (xs1 : Vec F S512x128 .f32) (y : S512x128.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S128x128.size (by sl_kernel_rfl) y

/-- What case B leaves in scratch `arg7`: its pieces read back over junk. -/
def sout0_B_1 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : ¬cond0_1 i)
    (x0 : Vec F S512x8 .f32) (x1 : Vec F S8x4096 .f32) (x2 : Vec F S512x1 .f32) (xs0 : Vec F S512x128 .f32) (xs1 : Vec F S512x128 .f32) : Vec F S512x128 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- Case C's pieces for output 3 tile its block (1 store of `S512x1`, checked by the kernel's evaluation: Lib/Ring.lean `Piece.tiledL`, linear in the pieces, through a loop's `@[irreducible]` trip theorem too), so they cover it. -/
theorem cover0_C_3 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x8 .f32) (x1 : Vec F S8x4096 .f32) (x2 : Vec F S512x1 .f32) (xs0 : Vec F S512x128 .f32) (xs1 : Vec F S512x128 .f32) (y : S512x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S512x1.size (by sl_kernel_rfl) y

/-- What case C leaves in output 3's staging buffer: its pieces read back over junk. -/
def out0_C_3 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x8 .f32) (x1 : Vec F S8x4096 .f32) (x2 : Vec F S512x1 .f32) (xs0 : Vec F S512x128 .f32) (xs1 : Vec F S512x128 .f32) : Vec F S512x1 .i32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- Case C's pieces for scratch `arg6`, which the kernel carries between points, cover it: 4 pieces of `S128x128` tiling it (Lib/Ring.lean `Piece.tiledL`). -/
theorem scover0_C_0 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x8 .f32) (x1 : Vec F S8x4096 .f32) (x2 : Vec F S512x1 .f32) (xs0 : Vec F S512x128 .f32) (xs1 : Vec F S512x128 .f32) (y : S512x128.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S128x128.size (by sl_kernel_rfl) y

/-- What case C leaves in scratch `arg6`: its pieces read back over junk. -/
def sout0_C_0 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x8 .f32) (x1 : Vec F S8x4096 .f32) (x2 : Vec F S512x1 .f32) (xs0 : Vec F S512x128 .f32) (xs1 : Vec F S512x128 .f32) : Vec F S512x128 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- Case C's pieces for scratch `arg7`, which the kernel carries between points, cover it: 4 pieces of `S128x128` tiling it (Lib/Ring.lean `Piece.tiledL`). -/
theorem scover0_C_1 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x8 .f32) (x1 : Vec F S8x4096 .f32) (x2 : Vec F S512x1 .f32) (xs0 : Vec F S512x128 .f32) (xs1 : Vec F S512x128 .f32) (y : S512x128.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S128x128.size (by sl_kernel_rfl) y

/-- What case C leaves in scratch `arg7`: its pieces read back over junk. -/
def sout0_C_1 (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (hc0 : ¬cond0_0 i) (hc1 : cond0_1 i)
    (x0 : Vec F S512x8 .f32) (x1 : Vec F S8x4096 .f32) (x2 : Vec F S512x1 .f32) (xs0 : Vec F S512x128 .f32) (xs1 : Vec F S512x128 .f32) : Vec F S512x128 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1 .i32 × Vec F S512x128 .f32 × Vec F S512x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 5 = 0 then
      if h1 : (n + 1) % 5 = 4 then
        False.elim (by have hN : n + 1 < 50 := lt_of_lt_of_eq hn (show cfg0.N = 50 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 5 = 4 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 5 = 0) (h1 : ¬t.val % 5 = 4) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 5 = 0) (h1 : ¬t.val % 5 = 4) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 5 = 0) (h1 : t.val % 5 = 4) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => PhiAny c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = PhiAny c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) (HIx 1) ℕ UU ℕ cfg0 c where
  A w := m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := (K (F := F)).Otc c 0
  recorded _ := {p | (K (F := F)).lev (SparseCore.T c, p.1) p.2 ≤ 0}

/-- The proof data's arrays are the region-entry contents: the proof data's definition projected (`dsimp`), so that
    `V` — a fold over @main's host prefix, long for some programs — is never unfolded to check it. -/
theorem A_eq (c : Dev nD) (w : Fin cfg0.W) : (dats m 0 c).A w = m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt none t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt none t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt none t.succ = (dats m 0 c).owesAt none t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        rw [outsAt0_A m c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 5 = 4
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1)], after0_3]
      by_cases hz : t.val = 0
      · exfalso; have hN : t.val < 50 := lt_of_lt_of_eq t.isLt (show cfg0.N = 50 from N_0); omega
      · rw [PhiS_castSucc m c t, PhiS_pos m c _ _ hz]
        rw [outsAt0_C m c t h0 h1]
        unfold out0_C_3 sout0_C_0 sout0_C_1; (try dsimp only)
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      by_cases hz : t.val = 0
      · exfalso; have hN : t.val < 50 := lt_of_lt_of_eq t.isLt (show cfg0.N = 50 from N_0); omega
      · rw [PhiS_castSucc m c t, PhiS_pos m c _ _ hz]
        rw [outsAt0_B m c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body table's row at point `t`'s slots is the body as `bodyAt0` spells it. -/
theorem defs₀_row (t : Fin cfg0.N) :
    defs₀ (F := F) .tc cfg0.body (cfg0.bodyArgs t (cfg0.slots t)) = bodyAt0 t := by
  rfl

/-- The library's body obligation, at every point: the body's triple restated (Lib/Pipeline/FrameBody.lean `triple_restated`). -/
theorem body_obligation (c : Dev nD) : BodyObligation (dats (F := F) m 0 c) (defs₀ (F := F)) Variants.none none Set.univ := fun t => by
  rw [bigSep_W0, bigSep_W0, defs₀_row]
  exact triple_restated (sound_body m c t) rfl .rfl fun _ => .rfl

/-- What the launch hands the region (`ΦA`) is the invariant before the first point. -/
theorem hin (c : Dev nD) : PhiAny c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ PhiAny c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ PhiAny c :=
  Phi_out m c _ (by rw [Fin.val_last]; have : cfg0.N = 50 := N_0; omega)

end Cert.Proof.Whole

end
-- ==== Proof.TcVal.lean ====
module

public import proofs.«01_k».proof.Proof.TcDat
public import Idealize.ShloMosaic.Lib.Pipeline.Value

@[expose] public section

noncomputable section

namespace Cert.Proof.Whole

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (c : Dev nD) → (b : Ref sig .tc) → Buf (Elt F) ((c : Thread nD τ).loc b))

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 5 = 0) (h1 : ¬t.val % 5 = 4) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  simp only [flushed3, outsAt0_A m c t h0 h1]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 5 = 0) (h1 : ¬t.val % 5 = 4) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed3, outsAt0_B m c t h0 h1]

/-- … so at a point where case C runs, what its write-back would write is that case's NAMED TERM for the window (`Gen.out0_C_3`: the pieces
    its run found, read back) at the point's memrefs and input blocks, and for an output the case reads back what the point before left (`Gen.outsAt0` at `t - 1`) — by the frame's rewriting lemma for the case. -/
theorem flushed3_C (c : Dev nD) (t : Fin cfg0.N) (h0 : ¬t.val % 5 = 0) (h1 : t.val % 5 = 4) :
    (dats m 0 c).flushed 3 t = (cfg0.win 3).cut (grid0.coords t) (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed3, outsAt0_C m c t h0 h1]

-- no `blocks3`: window 3's index map revisits a block index, or its points could not be enumerated here;
-- the final array is still the frame's `arrAt`, to read with Lib/Pipeline/Value.lean's lemmas by hand

/-- An index that no flushing point's block covers keeps output window 3's array contents at region entry. -/
theorem entry3 (c : Dev nD) (i : S5120x1.Idx) (h : ∀ t : Fin cfg0.N, (cfg0.win 3).flush t = true → i ∉ ((cfg0.win 3).blk t).view.set) :
    (dats m 0 c).arrAt 3 cfg0.N i = m c (Pipeline.arrRef spec0 3) i := by
  rw [(dats m 0 c).arrAt_apply_of_forall_not_mem 3 cfg0.N i (fun t _ hf => h t hf), A_eq]

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x1 .i32 × Vec F S512x128 .f32 × Vec F S512x128 .f32 :=
  ((VO0_3.read (Elt F) VO0_3.junk, VS0_0.read (Elt F) VS0_0.junk, VS0_1.read (Elt F) VS0_1.junk) : Vec F S512x1 .i32 × Vec F S512x128 .f32 × Vec F S512x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x1 .i32 × Vec F S512x128 .f32 × Vec F S512x128 .f32) : Vec F S512x1 .i32 × Vec F S512x128 .f32 × Vec F S512x128 .f32 :=
  if h0 : n % 5 = 0 then
    if h1 : n % 5 = 4 then
      False.elim (by have hN : n < 50 := lt_of_lt_of_eq hb (show cfg0.N = 50 from N_0); omega)
    else
      (out0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)))
  else
    if h1 : n % 5 = 4 then
      (out0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc.2.1 acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc.2.1 acc.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc.2.1 acc.2.2)
    else
      (out0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.1 acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.1 acc.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.1 acc.2.2)

/-- `stAt0` at a point of case A: that case's contents. -/
theorem stAt0_A (c : Dev nD) (t : Fin cfg0.N) (acc : Vec F S512x1 .i32 × Vec F S512x128 .f32 × Vec F S512x128 .f32) (h0 : t.val % 5 = 0) (h1 : ¬t.val % 5 = 4) :
    stAt0 m c t.val t.isLt acc = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) :=
  (dif_pos h0).trans ((dif_neg h1).trans rfl)

/-- `stAt0` at a point of case B: that case's contents, over `acc`. -/
theorem stAt0_B (c : Dev nD) (t : Fin cfg0.N) (acc : Vec F S512x1 .i32 × Vec F S512x128 .f32 × Vec F S512x128 .f32) (h0 : ¬t.val % 5 = 0) (h1 : ¬t.val % 5 = 4) :
    stAt0 m c t.val t.isLt acc = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) acc.2.1 acc.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) acc.2.1 acc.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) acc.2.1 acc.2.2) :=
  (dif_neg h0).trans ((dif_neg h1).trans rfl)

/-- `stAt0` at a point of case C: that case's contents, over `acc`. -/
theorem stAt0_C (c : Dev nD) (t : Fin cfg0.N) (acc : Vec F S512x1 .i32 × Vec F S512x128 .f32 × Vec F S512x128 .f32) (h0 : ¬t.val % 5 = 0) (h1 : t.val % 5 = 4) :
    stAt0 m c t.val t.isLt acc = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) acc.2.1 acc.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) acc.2.1 acc.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) acc.2.1 acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 50 from N_0)
  have e := Pipeline.eq_accAt_of_mod (fun n h => outsAt0 m c n h) 50 (fun n h => stAt0 m c n h junk0) (stAt0 m c)
    (fun n h _ => by
      have hN := lt_of_lt_of_eq h (show cfg0.N = 50 from N_0)
      obtain rfl : n = 0 := by omega
      exact outsAt0_zero m c h)
    (fun n h _ => outsAt0_succ m c n h)
    (by decide) n hn (by have := Nat.div_add_mod n 50; omega)
  have hd : n / 50 = 0 := Nat.div_eq_of_lt hN
  have hm : n % 50 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 3 -/

/-- The block of the array that holds index `i`, numbered in the order the points write the blocks back (one every 5 points),
    `i`'s place in it, and the point that writes it back (the last of its 5). -/
abbrev run3Of (i : S5120x1.Idx) : ℕ := 1 * ((i 0).val / 512 - 0) + 1 * ((i 1).val / 1 - 0)
set_option backward.proofsInPublic true in
abbrev loc3Of (i : S5120x1.Idx) : S512x1.Idx := fun a => match a with
  | ⟨0, _⟩ => ⟨(i 0).val % 512, Nat.mod_lt _ (by decide)⟩
  | ⟨1, _⟩ => ⟨(i 1).val % 1, Nat.mod_lt _ (by decide)⟩
abbrev pt3Of (i : S5120x1.Idx) : ℕ := 5 * run3Of i + 4

/-- WHAT THE ARRAY ENDS HOLDING at index `i` inside the box the flushing blocks fill: output 3's component of the carried
    state's fold at the point that writes `i`'s block back, at `i`'s place in the block. `G3` states the array's contents
    only inside the box. -/
def G3 (c : Dev nD) : Buf (Elt F) ((c : Thread nD τ).loc main_v21) := fun i =>
  if h : pt3Of i < cfg0.N then
    (Pipeline.accAt (fun n h => stAt0 m c n h junk0) (stAt0 m c) 0 (pt3Of i) (by omega)).1 (loc3Of i)
  else m c (Pipeline.arrRef spec0 3) i

/-- The printed index map, decided over the grid: output window 3's block indices stay in the box, and the block number
    read off them is the point's (`t / 5`). -/
theorem idx_facts3 : ∀ t : Fin cfg0.N, 0 ≤ win0_3.index t (0 : Fin 2) ∧ win0_3.index t (0 : Fin 2) ≤ 9
    ∧ 0 ≤ win0_3.index t (1 : Fin 2) ∧ win0_3.index t (1 : Fin 2) ≤ 0
    ∧ 1 * (win0_3.index t (0 : Fin 2) - 0) + 1 * (win0_3.index t (1 : Fin 2) - 0) = t.val / 5 :=
  (by decide +kernel : ∀ t : Fin grid0.N, _)

/-- Every block of the box is SOME flushing point's: `onto3Pt`, the point that writes back the block at place `q` of the box (the last point of its run). -/
abbrev onto3Pt (q0 : Fin 10) (q1 : Fin 1) : Fin grid0.N :=
  ⟨5 * (1 * q0.val + 1 * q1.val) + 4, lt_of_lt_of_eq (by omega) N_0.symm⟩
theorem idx_onto3 : ∀ (q0 : Fin 10) (q1 : Fin 1), ∃ t : Fin cfg0.N, (cfg0.win 3).flush t = true ∧ win0_3.index t = ![q0.val + 0, q1.val + 0] :=
  fun q0 q1 => ⟨onto3Pt q0 q1, (by decide +kernel : ∀ (q0 : Fin 10) (q1 : Fin 1), win0_3.flush (onto3Pt q0 q1) = true ∧ win0_3.index (onto3Pt q0 q1) = ![q0.val + 0, q1.val + 0]) q0 q1⟩

/-- WHAT A FLUSHING POINT `t` WRITES BACK is block `t` of `G3`: output 3's component of the fold up to `t`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt0_sweep]
  have hm : t.val % 5 = 4 := (flush0_3 t).mp hf
  obtain ⟨e0, e1, e2⟩ := idx_facts3 t
  funext y
  have hy0 : (y 0).val < 512 := (y 0).isLt
  have hy1 : (y 1).val < 1 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 1 + 1 * (y 1).val := rfl
  have hr : run3Of (((cfg0.win 3).blk t).view.emb y) = t.val / 5 := by
    show 1 * ((((cfg0.win 3).blk t).view.emb y 0).val / 512 - 0) + 1 * ((((cfg0.win 3).blk t).view.emb y 1).val / 1 - 0) = _
    rw [hb0, hb1]
    rw [show (win0_3.index t (0 : Fin 2) * 512 + 1 * (y 0).val) / 512 = win0_3.index t (0 : Fin 2) from by omega]; rw [show (win0_3.index t (1 : Fin 2) * 1 + 1 * (y 1).val) / 1 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 512 = (y 0).val; rw [hb0]; omega
    | ⟨1, _⟩ => show (((cfg0.win 3).blk t).view.emb y 1).val % 1 = (y 1).val; rw [hb1]; omega
  have hp : pt3Of (((cfg0.win 3).blk t).view.emb y) = t.val := by
    show 5 * run3Of (((cfg0.win 3).blk t).view.emb y) + 4 = _
    rw [hr]; have := Nat.div_add_mod t.val 5; omega
  show (Pipeline.accAt (fun n h => stAt0 m c n h junk0) (stAt0 m c) 0 t.val _).1 ((cfg0.win 3).xinj (grid0.coords t) y) = G3 m c (((cfg0.win 3).blk t).view.emb y)
  unfold G3
  rw [dif_pos (by rw [hp]; exact t.isLt), hl, fold0_congr m c _ _ _ _ hp.symm]

/-- An index of the array is in point `t`'s block iff each coordinate is in the block's range on its axis. -/
theorem mem_blk3 (t : Fin cfg0.N) (i : S5120x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v21).slice (win0_3.rect t)).set ↔ _
  rw [View.set_slice_whole, Rect.mem_set_unit]
  exact Iff.rfl

/-- THE COVERED INDICES: in some flushing point's block iff inside the box those blocks fill. -/
theorem covered_iff3 (i : S5120x1.Idx) :
    (∃ t : Fin cfg0.N, (cfg0.win 3).flush t = true ∧ i ∈ ((cfg0.win 3).blk t).view.set) ↔ 0 ≤ (i 0).val ∧ (i 0).val < 5120 ∧ 0 ≤ (i 1).val ∧ (i 1).val < 1 := by
  constructor
  · rintro ⟨t, -, hi⟩
    rw [mem_blk3] at hi
    have b0 : win0_3.index t (0 : Fin 2) * 512 ≤ (i 0).val ∧ (i 0).val < win0_3.index t (0 : Fin 2) * 512 + 512 := hi 0
    have b1 : win0_3.index t (1 : Fin 2) * 1 ≤ (i 1).val ∧ (i 1).val < win0_3.index t (1 : Fin 2) * 1 + 1 := hi 1
    obtain ⟨e0, e1, e2⟩ := idx_facts3 t
    omega
  · intro h
    have hi0 : (i 0).val < 5120 := (i 0).isLt
    have hi1 : (i 1).val < 1 := (i 1).isLt
    obtain ⟨t, hft, ht⟩ := idx_onto3 ⟨(i 0).val / 512 - 0, by omega⟩ ⟨(i 1).val / 1 - 0, by omega⟩
    have q0 : win0_3.index t (0 : Fin 2) = (i 0).val / 512 - 0 + 0 := congrFun ht 0
    have q1 : win0_3.index t (1 : Fin 2) = (i 1).val / 1 - 0 + 0 := congrFun ht 1
    refine ⟨t, hft, ?_⟩
    rw [mem_blk3]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 1 ≤ (i 1).val ∧ (i 1).val < win0_3.index t (1 : Fin 2) * 1 + 1; omega

/-- THE ARRAY after the run: `G3` (the flushing blocks tile it). -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 5120 := (i 0).isLt; have h1 : (i 1).val < 1 := (i 1).isLt; omega))

end Cert.Proof.Whole

end
-- ==== Proof.WholeRun.lean ====
/-
  The run of the whole kernel: the host's operations before the nearest-neighbour call, that call, the host's operations
  between the calls, the SparseCore call, the host's operations after it; from this, what every buffer holds at the end.
-/
module

public import proofs.«01_k».proof.Proof.WholeCall
public import proofs.«01_k».proof.Proof.TcVal
public import Idealize.ShloMosaic.Lib.StableHlo.Run
public import Idealize.ShloMosaic.Lib.Pipeline.Frame
public import Idealize.ShloMosaic.Lib.Pipeline.RegionArrays

@[expose] public section

set_option maxRecDepth 16384

noncomputable section

namespace Cert.Proof.Whole

open Cert.KernelIdeal Cert.KernelIdeal.Gen Cert.Proof.Steps

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (ucRefs sub_ucRefs unscopedBufs_held)

variable {F : FTy → Type} [FloatOps F] [Named F]

local notation "𝕄" => MT nD τ sig (HIx 1) (Elt F) ℕ UU ℕ

/-- The host's operations before the nearest-neighbour call. -/
abbrev opsPre : List (HloOp τ sig (Elt F)) :=
  [ unary main_arg0 main_v0 ((extractStridedSlice S5000x3 ![0, 0] · slices_S5000x4_S5000x3_0_0) : (⟨S5000x4, .f32⟩ : BufTy).Contents (Elt F) → (⟨S5000x3, .f32⟩ : BufTy).Contents (Elt F)),
    binary main_v0 main_v0 main_v1 (mulf : (⟨S5000x3, .f32⟩ : BufTy).Contents (Elt F) → (⟨S5000x3, .f32⟩ : BufTy).Contents (Elt F) → (⟨S5000x3, .f32⟩ : BufTy).Contents (Elt F)),
    nullary main_cst (constant S_ .f32 0x00000000#32),
    binary main_v1 main_cst main_v2 ((fun x v => Host.reduceAdd x v reducesTo_S5000x3_S5000_d1 h_S_) : (⟨S5000x3, .f32⟩ : BufTy).Contents (Elt F) → (⟨S_, .f32⟩ : BufTy).Contents (Elt F) → (⟨S5000, .f32⟩ : BufTy).Contents (Elt F)),
    unary main_v2 main_v3 (broadcastInDim S5000x1 ![0] bcast_S5000_S5000x1_0 : (⟨S5000, .f32⟩ : BufTy).Contents (Elt F) → (⟨S5000x1, .f32⟩ : BufTy).Contents (Elt F)),
    nullary main_cst_0 (constant S_ .f32 0x00000000#32),
    unary main_cst_0 main_v4 (broadcastInDim S5120x8 ![] bcast_S_S5120x8 : (⟨S_, .f32⟩ : BufTy).Contents (Elt F) → (⟨S5120x8, .f32⟩ : BufTy).Contents (Elt F)),
    nullary main_cst_1 (constant S_ .f32 0x40000000#32),
    unary main_cst_1 main_v5 (broadcastInDim S5000x3 ![] bcast_S_S5000x3 : (⟨S_, .f32⟩ : BufTy).Contents (Elt F) → (⟨S5000x3, .f32⟩ : BufTy).Contents (Elt F)),
    binary main_v5 main_v0 main_v6 (mulf : (⟨S5000x3, .f32⟩ : BufTy).Contents (Elt F) → (⟨S5000x3, .f32⟩ : BufTy).Contents (Elt F) → (⟨S5000x3, .f32⟩ : BufTy).Contents (Elt F)),
    nullary main_c (constantI S_ 32 0#32),
    unary main_c main_v7 (broadcastInDim S1 ![] bcast_S_S1 : (⟨S_, .i32⟩ : BufTy).Contents (Elt F) → (⟨S1, .i32⟩ : BufTy).Contents (Elt F)),
    nullary main_c_2 (constantI S_ 32 0#32),
    unary main_c_2 main_v8 (broadcastInDim S1 ![] bcast_S_S1 : (⟨S_, .i32⟩ : BufTy).Contents (Elt F) → (⟨S1, .i32⟩ : BufTy).Contents (Elt F)),
    binary main_v7 main_v8 main_v9 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v4 main_v9 main_v6 main_v10 ((fun x i u => Host.scatter scatter_S5120x8_S2_S5000x3_01_n_01_0 (fun _ b => b) x i u) : (⟨S5120x8, .f32⟩ : BufTy).Contents (Elt F) → (⟨S2, .i32⟩ : BufTy).Contents (Elt F) → (⟨S5000x3, .f32⟩ : BufTy).Contents (Elt F) → (⟨S5120x8, .f32⟩ : BufTy).Contents (Elt F)),
    nullary main_cst_3 (constant S_ .f32 0x00000000#32),
    unary main_cst_3 main_v11 (broadcastInDim S8x20480 ![] bcast_S_S8x20480 : (⟨S_, .f32⟩ : BufTy).Contents (Elt F) → (⟨S8x20480, .f32⟩ : BufTy).Contents (Elt F)),
    unary main_arg1 main_v12 ((extractStridedSlice S20000x3 ![0, 0] · slices_S20000x4_S20000x3_0_0) : (⟨S20000x4, .f32⟩ : BufTy).Contents (Elt F) → (⟨S20000x3, .f32⟩ : BufTy).Contents (Elt F)),
    unary main_v12 main_v13 ((transpose S3x20000 [1, 0] · transposes_S20000x3_S3x20000_1_0) : (⟨S20000x3, .f32⟩ : BufTy).Contents (Elt F) → (⟨S3x20000, .f32⟩ : BufTy).Contents (Elt F)),
    nullary main_c_4 (constantI S_ 32 0#32),
    unary main_c_4 main_v14 (broadcastInDim S1 ![] bcast_S_S1 : (⟨S_, .i32⟩ : BufTy).Contents (Elt F) → (⟨S1, .i32⟩ : BufTy).Contents (Elt F)),
    nullary main_c_5 (constantI S_ 32 0#32),
    unary main_c_5 main_v15 (broadcastInDim S1 ![] bcast_S_S1 : (⟨S_, .i32⟩ : BufTy).Contents (Elt F) → (⟨S1, .i32⟩ : BufTy).Contents (Elt F)),
    binary main_v14 main_v15 main_v16 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v11 main_v16 main_v13 main_v17 ((fun x i u => Host.scatter scatter_S8x20480_S2_S3x20000_01_n_01_0 (fun _ b => b) x i u) : (⟨S8x20480, .f32⟩ : BufTy).Contents (Elt F) → (⟨S2, .i32⟩ : BufTy).Contents (Elt F) → (⟨S3x20000, .f32⟩ : BufTy).Contents (Elt F) → (⟨S8x20480, .f32⟩ : BufTy).Contents (Elt F)),
    nullary main_cst_6 (constant S_ .f32 0x00000000#32),
    unary main_cst_6 main_v18 (broadcastInDim S5120x1 ![] bcast_S_S5120x1 : (⟨S_, .f32⟩ : BufTy).Contents (Elt F) → (⟨S5120x1, .f32⟩ : BufTy).Contents (Elt F)),
    nullary main_c_7 (constantI S_ 32 0#32),
    unary main_c_7 main_v19 (broadcastInDim S1 ![] bcast_S_S1 : (⟨S_, .i32⟩ : BufTy).Contents (Elt F) → (⟨S1, .i32⟩ : BufTy).Contents (Elt F)),
    ternary main_v18 main_v19 main_v3 main_v20 ((fun x i u => Host.scatter scatter_S5120x1_S1_S5000x1_01_n_0_0 (fun _ b => b) x i u) : (⟨S5120x1, .f32⟩ : BufTy).Contents (Elt F) → (⟨S1, .i32⟩ : BufTy).Contents (Elt F) → (⟨S5000x1, .f32⟩ : BufTy).Contents (Elt F) → (⟨S5120x1, .f32⟩ : BufTy).Contents (Elt F)) ]

/-- The host's operations between the two calls. -/
abbrev opsMid : List (HloOp τ sig (Elt F)) :=
  [ reshape main_v21 main_v22 (rfl : (.i32 : EltTy) = .i32) shapeCasts_S5120x1_S5120,
    nullary main_cst_8 (constant S_ .f32 0x00000000#32),
    unary main_cst_8 main_v23 (broadcastInDim S5120 ![] bcast_S_S5120 : (⟨S_, .f32⟩ : BufTy).Contents (Elt F) → (⟨S5120, .f32⟩ : BufTy).Contents (Elt F)),
    unary main_arg0 main_v24 ((extractStridedSlice S5000x1 ![0, 3] · slices_S5000x4_S5000x1_0_3) : (⟨S5000x4, .f32⟩ : BufTy).Contents (Elt F) → (⟨S5000x1, .f32⟩ : BufTy).Contents (Elt F)),
    reshape main_v24 main_v25 (rfl : (.f32 : EltTy) = .f32) shapeCasts_S5000x1_S5000,
    nullary main_c_9 (constantI S_ 32 0#32),
    unary main_c_9 main_v26 (broadcastInDim S1 ![] bcast_S_S1 : (⟨S_, .i32⟩ : BufTy).Contents (Elt F) → (⟨S1, .i32⟩ : BufTy).Contents (Elt F)),
    ternary main_v23 main_v26 main_v25 main_v27 ((fun x i u => Host.scatter scatter_S5120_S1_S5000_0_n_0_0 (fun _ b => b) x i u) : (⟨S5120, .f32⟩ : BufTy).Contents (Elt F) → (⟨S1, .i32⟩ : BufTy).Contents (Elt F) → (⟨S5000, .f32⟩ : BufTy).Contents (Elt F) → (⟨S5120, .f32⟩ : BufTy).Contents (Elt F)),
    unary main_arg1 main_v28 ((extractStridedSlice S20000x1 ![0, 3] · slices_S20000x4_S20000x1_0_3) : (⟨S20000x4, .f32⟩ : BufTy).Contents (Elt F) → (⟨S20000x1, .f32⟩ : BufTy).Contents (Elt F)),
    reshape main_v28 main_v29 (rfl : (.f32 : EltTy) = .f32) shapeCasts_S20000x1_S20000 ]

/-- The host's operations after the second. -/
abbrev opsPost : List (HloOp τ sig (Elt F)) :=
  [ nullary main_cst_10 (constant S_ .f32 0x00000000#32),
    binary main_v30 main_cst_10 main_v31 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_11 (constant S_ .f32 0x459C4000#32),
    binary main_v31 main_cst_11 main_v32 (Host.divf : (⟨S_, .f32⟩ : BufTy).Contents (Elt F) → (⟨S_, .f32⟩ : BufTy).Contents (Elt F) → (⟨S_, .f32⟩ : BufTy).Contents (Elt F)) ]

theorem opsPre_sub : (opsPre : List (HloOp τ sig (Elt F))).Forall fun op => op.bufs ⊆ tcRefs τ sig :=
  ⟨unary_bufs_sub .., binary_bufs_sub .., nullary_bufs_sub .., binary_bufs_sub .., unary_bufs_sub .., nullary_bufs_sub .., unary_bufs_sub .., nullary_bufs_sub .., unary_bufs_sub .., binary_bufs_sub .., nullary_bufs_sub .., unary_bufs_sub .., nullary_bufs_sub .., unary_bufs_sub .., binary_bufs_sub .., ternary_bufs_sub .., nullary_bufs_sub .., unary_bufs_sub .., unary_bufs_sub .., unary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., ternary_bufs_sub ..⟩

theorem opsPre_fresh : (opsPre : List (HloOp τ sig (Elt F))).Forall fun op => op.fresh = ∅ := forall_fresh_of_map rfl

theorem opsMid_sub : (opsMid : List (HloOp τ sig (Elt F))).Forall fun op => op.bufs ⊆ tcRefs τ sig :=
  ⟨reshape_bufs_sub .., nullary_bufs_sub .., unary_bufs_sub .., unary_bufs_sub .., reshape_bufs_sub .., nullary_bufs_sub .., unary_bufs_sub .., ternary_bufs_sub .., unary_bufs_sub .., reshape_bufs_sub ..⟩

theorem opsMid_fresh : (opsMid : List (HloOp τ sig (Elt F))).Forall fun op => op.fresh = ∅ := forall_fresh_of_map rfl

theorem opsPost_sub : (opsPost : List (HloOp τ sig (Elt F))).Forall fun op => op.bufs ⊆ tcRefs τ sig :=
  ⟨nullary_bufs_sub .., binary_bufs_sub .., nullary_bufs_sub .., binary_bufs_sub ..⟩

theorem opsPost_fresh : (opsPost : List (HloOp τ sig (Elt F))).Forall fun op => op.fresh = ∅ := forall_fresh_of_map rfl

/-- The nearest-neighbour call, as the program calls it. -/
def callTc : Prog (TpuEff nD τ sig (Elt F) (ΛP (F := F)) .tc) PUnit := .op (.customCall (Pipeline.entry (0 : Fin 1)) ()) fun _ => .ret ⟨⟩

theorem main_eq (d : Dev nD) : main (F := F) d = (seq opsPre >>= fun _ => SparseCore.liftProg callTc >>= fun _ => seq opsMid >>= fun _ =>
    (sc (F := F)).run d 0 >>= fun _ => seq opsPost) := by
  rw [seq_bind_seqK]; rfl

variable (m : (ℓ : Loc nD τ sig) → Buf (Elt F) ℓ) (ρ : Dev nD → PrngReg)

/-- A reference of the TensorCore as a buffer of the device. -/
abbrev dv (r : Ref sig .tc) : DevRef τ sig := Proc.devRef (τ := τ) .tc r

/-- What the buffers hold when the nearest-neighbour call starts, -/
def V1 (d : Dev nD) : Valuation τ sig (Elt F) := after opsPre (launchContents m d)

/-- read by core and reference, -/
abbrev m1 (d : Dev nD) (b : Ref sig .tc) : Buf (Elt F) ((d : Thread nD τ).loc b) := V1 m d (dv b)

/-- when it has returned, -/
def V2 (d : Dev nD) : Valuation τ sig (Elt F) := Function.update (V1 m d) (dv main_v21) (G3 (m1 m) d)

/-- when the SparseCore call starts, -/
def V3 (d : Dev nD) : Valuation τ sig (Elt F) := after opsMid (V2 m d)

abbrev Iv (d : Dev nD) : IVec S5120 32 := V3 m d (dv main_v22)
abbrev Pv (d : Dev nD) : FVec F S5120 .f32 := V3 m d (dv main_v27)
abbrev Tv (d : Dev nD) : FVec F S20000 .f32 := V3 m d (dv main_v29)
abbrev Ov (d : Dev nD) : FVec F S32x16 .f32 := V3 m d (dv main_v30)

/-- when it has returned, -/
def V4 (d : Dev nD) : Valuation τ sig (Elt F) := Function.update (V3 m d) (dv main_v30) (outVal (Iv m d) (Pv m d) (Tv m d))

/-- and at the end. -/
def V5 (d : Dev nD) : Valuation τ sig (Elt F) := after opsPost (V4 m d)

theorem V2_of_ne (d : Dev nD) {b : DevRef τ sig} (h : b ≠ dv main_v21) : V2 m d b = V1 m d b := Function.update_of_ne h _ _
theorem V2_out (d : Dev nD) : V2 m d (dv main_v21) = G3 (m1 m) d := Function.update_self _ _ _
theorem V4_of_ne (d : Dev nD) {b : DevRef τ sig} (h : b ≠ dv main_v30) : V4 m d b = V3 m d b := Function.update_of_ne h _ _
theorem V4_out (d : Dev nD) : V4 m d (dv main_v30) = outVal (Iv m d) (Pv m d) (Tv m d) := Function.update_self _ _ _

/-! ## The nearest-neighbour call -/

/-- Before the SparseCore call the TensorCore owes nothing at a kernel's own index. -/
theorem owes_none (d : Dev nD) (g : GSem nD τ sig) : (K (F := F)).Otc d 0 g none = 0 := by
  unfold SparseCore.Cfg.Otc
  rw [Finset.sum_apply, Finsupp.finsetSum_apply]
  refine Finset.sum_eq_zero fun q _ => ?_
  rw [if_pos (Nat.zero_le _), Finset.sum_apply, Finsupp.finsetSum_apply]
  refine Finset.sum_eq_zero fun c _ => ?_
  rw [tallyAt_apply, if_neg (fun h => nomatch h.2)]

/-- What the core owes around the call, its waits so far below everything it owes. -/
def dues (d : Dev nD) : sProp 𝕄 := iprop(∃ W, ⌜(K (F := F)).WBelow (SparseCore.T d) W 0⌝ ∗ owes (SparseCore.T d) ((K (F := F)).Otc d 0) W)

theorem arr_in (d : Dev nD) (w : Fin 4) : (dats (m1 m) 0 d).arrAt w 0 = V1 m d (dv (Pipeline.arrRef spec0 w)) := rfl

theorem in0 : (cfg0.win 0).isOut = false := rfl
theorem in1 : (cfg0.win 1).isOut = false := rfl
theorem in2 : (cfg0.win 2).isOut = false := rfl

theorem arr_out0 (d : Dev nD) : (dats (m1 m) 0 d).arrAt 0 cfg0.N = V2 m d (dv main_v10) :=
  ((dats (m1 m) 0 d).arrAt_in 0 in0 cfg0.N).trans ((A_eq (m1 m) d 0).trans (V2_of_ne m d (b := dv main_v10) (by decide)).symm)
theorem arr_out1 (d : Dev nD) : (dats (m1 m) 0 d).arrAt 1 cfg0.N = V2 m d (dv main_v17) :=
  ((dats (m1 m) 0 d).arrAt_in 1 in1 cfg0.N).trans ((A_eq (m1 m) d 1).trans (V2_of_ne m d (b := dv main_v17) (by decide)).symm)
theorem arr_out2 (d : Dev nD) : (dats (m1 m) 0 d).arrAt 2 cfg0.N = V2 m d (dv main_v20) :=
  ((dats (m1 m) 0 d).arrAt_in 2 in2 cfg0.N).trans ((A_eq (m1 m) d 2).trans (V2_of_ne m d (b := dv main_v20) (by decide)).symm)
theorem arr_out3 (d : Dev nD) : (dats (m1 m) 0 d).arrAt 3 cfg0.N = V2 m d (dv main_v21) :=
  (final3 (m1 m) d).trans (V2_out m d).symm

theorem arr_out (d : Dev nD) : ∀ w : Fin 4, (dats (m1 m) 0 d).arrAt w cfg0.N = V2 m d (dv (Pipeline.arrRef spec0 w))
  | 0 => arr_out0 m d
  | 1 => arr_out1 m d
  | 2 => arr_out2 m d
  | 3 => arr_out3 m d

abbrev adm : (p : Fin 1) → (pcfgs (F := F) p).Adm := fun q => (cfgs q).toPCfg_adm

theorem held_arrays (d : Dev nD) (G : (w : Fin 4) → Buf (Elt F) ((cfg0.win w).arr.view.loc (d.tc : Thread nD τ))) (W : Valuation τ sig (Elt F))
    (hG : ∀ w, G w = W (dv (Pipeline.arrRef spec0 w))) :
    ((dats (m1 m) 0 d).arrays G : sProp 𝕄) = held (SparseCore.T d) (Pipeline.arrRefs spec0) W :=
  Pipeline.arrays_held pcfgs adm (dats (m1 m)) 0 launch0.toP d (fun w => match w with | 0 => rfl | 1 => rfl | 2 => rfl | 3 => rfl) G W hG

/-- The call as a region of the program: from its four arrays as the host left them to the indices written. -/
def region : Pipeline.RegionSeg pcfgs adm (dats (m1 m)) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_obligation (m1 m) c).loose
  hwaits c := Pipeline.cellsWaits_intro _ (dats (m1 m)) none 0 c fun w s t => (K (F := F)).mayWait_none _ (owes_none c)
  pre c := iprop(held (SparseCore.T c) (Pipeline.arrRefs spec0) (V1 m c) ∗ (∃ r, prngReg c r) ∗ dues c)
  post c := iprop(held (SparseCore.T c) (Pipeline.arrRefs spec0) (V2 m c) ∗ (∃ r, prngReg c r) ∗ dues c)
  X c := iprop(∃ r, prngReg c r)
  Y c := iprop(∃ r, prngReg c r)
  Z _ := iprop(emp)
  hentry c := by
    rw [Pipeline.ownSems0_none, Pipeline.prefHeld_of_none _ rfl,
      show ((dats (m1 m) 0 c).arrays ((dats (m1 m) 0 c).arrAt · 0) : sProp 𝕄) = held (SparseCore.T c) (Pipeline.arrRefs spec0) (V1 m c) from
        held_arrays m c _ _ (arr_in m c)]
    unfold dues
    iintro ⟨⟨Ha, HX, %W, %hW, HO⟩, -, -⟩
    imodintro
    isplitl [Ha]; · iexact Ha
    isplitr; · iempintro
    isplitl [HO]
    · unfold Pipeline.Dat.owesAt Pipeline.owesWithin
      iexists W; isplitr
      · ipureintro; exact fun p hp => Or.inl (hW p hp)
      iexact HO
    isplitl [HX]; · iexact HX
    iempintro
  hin c := by
    refine (show _ ⊢ iprop(Pipeline.scopedRest spec0 c ∗ ∃ r, prngReg c r) from ?_).trans (hin (m1 m) c)
    iintro ⟨HX, -, Hr⟩
    isplitl [Hr]; · iexact Hr
    iexact HX
  hout c := by
    refine (hout (m1 m) c).trans ?_
    rw [Pipeline.ownSems0_none]
    unfold PhiAny
    iintro ⟨Hr, HY⟩
    isplitl [HY]; · iexact HY
    isplitr; · iempintro
    iexact Hr
  hexit c := by
    rw [show ((dats (m1 m) 0 c).arrays ((dats (m1 m) 0 c).arrAt · cfg0.N) : sProp 𝕄) = held (SparseCore.T c) (Pipeline.arrRefs spec0) (V2 m c) from
        held_arrays m c _ _ (arr_out m c)]
    iintro ⟨Ha, HO, HY, -⟩
    imodintro
    isplitl [Ha]; · iexact Ha
    isplitl [HY]; · iexact HY
    unfold dues Pipeline.Dat.owesAt Pipeline.owesWithin
    icases HO with ⟨%W, %hW, HO⟩
    iexists W; isplitr
    · ipureintro
      intro p hp
      rcases hW (Finset.mem_coe.2 hp) with h | h
      · exact h
      · obtain ⟨w, s, e⟩ := h
        subst e
        exact le_rfl
    iexact HO

/-! ## The SparseCore call -/

/-- The four buffers of the SparseCore call. -/
def four : Finset (DevRef τ sig) := {dv main_v22, dv main_v27, dv main_v29, dv main_v30}

theorem four_sub : four ⊆ ucRefs τ sig := by
  intro b hb
  simp only [four, Finset.mem_insert, Finset.mem_singleton] at hb
  rcases hb with rfl | rfl | rfl | rfl <;> exact Finset.mem_filter.mpr ⟨devRef_mem_tcRefs _, by decide⟩

omit [FloatOps F] [Named F] in
theorem held_four (d : Dev nD) (W : Valuation τ sig (Elt F)) :
    (held (SparseCore.T d) four W : sProp 𝕄) = iprop((iLoc d ↦{fullShare} W (dv main_v22)) ∗ (pLoc d ↦{fullShare} W (dv main_v27))
      ∗ (tLoc d ↦{fullShare} W (dv main_v29)) ∗ (oLoc d ↦{fullShare} W (dv main_v30))) := by
  unfold held four
  rw [SparseCore.bigSep_insert' (by decide), SparseCore.bigSep_insert' (by decide), SparseCore.bigSep_insert' (by decide), bigSep_singleton]

abbrev PP := P (fun d => Iv m d) (fun d => Pv m d) (fun d => Tv m d) (fun d => Ov m d)

theorem st_eq (d : Dev nD) : (bigSep Finset.univ fun c : Fin ((K (F := F)).nCore 0) => (PP m).st 0 d c)
    = (held (SparseCore.T d) four (V3 m d) : sProp 𝕄) :=
  (dealt d (Iv m d) (Pv m d) (Tv m d) (Ov m d)).symm.trans (held_four d (V3 m d)).symm

theorem dn_eq (d : Dev nD) : (bigSep Finset.univ fun c : Fin ((K (F := F)).nCore 0) => (PP m).dn 0 d c)
    = (held (SparseCore.T d) four (V4 m d) : sProp 𝕄) := by
  rw [held_four, V4_out, V4_of_ne m d (b := dv main_v22) (by decide), V4_of_ne m d (b := dv main_v27) (by decide),
    V4_of_ne m d (b := dv main_v29) (by decide)]
  exact (dealt d (Iv m d) (Pv m d) (Tv m d) (outVal (Iv m d) (Pv m d) (Tv m d))).symm

theorem dv_mem_uc (r : Ref sig .tc) (h : (dv r).isScoped = false) : dv r ∈ ucRefs τ sig :=
  Finset.mem_filter.mpr ⟨devRef_mem_tcRefs _, by rw [h]; exact Bool.false_ne_true⟩

theorem arrays_sub : Pipeline.arrRefs (τ := τ) spec0 ⊆ ucRefs τ sig :=
  Pipeline.arrRefs_sub_ucRefs spec0 (by decide)

theorem out_mem_arrays : dv main_v21 ∈ Pipeline.arrRefs (τ := τ) spec0 :=
  Finset.mem_map.mpr ⟨main_v21, Finset.mem_image.mpr ⟨(3 : Fin 4), Finset.mem_univ _, rfl⟩, rfl⟩

/-! ## The whole program -/

/-- Everything between the two calls' end and the start of the first, on the TensorCore's buffers. -/
abbrev FIN (d : Dev nD) : sProp 𝕄 := held (SparseCore.T d) (ucRefs τ sig) (V5 m d)

/-- The rest of the TensorCore's state before the SparseCore call, beside what it owes. -/
theorem dues_out (d : Dev nD) : ∃ R : sProp 𝕄, (K (F := F)).tcSt EH d 0 = iprop(dues d ∗ R) := ⟨_, rfl⟩

/-- The TensorCore's program, from what the launch deals it to every buffer at its final contents. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  obtain ⟨R, hR⟩ := dues_out (F := F) d
  rw [show (unscopedBufs d (fun b => m ((SparseCore.T d).loc b)) : sProp 𝕄) = held (SparseCore.T d) (ucRefs τ sig) (launchContents m d) from
    unscopedBufs_held d (launchContents m d), main_eq]
  iintro ⟨#Hctx, Hst, ⟨Hb, Hheld, Hts, Hprng⟩, Hcells, Htoks⟩
  iapply (wp_seq 𝒱 none Set.univ d (ucRefs τ sig) _ opsPre (fun op h => sub_ucRefs op (List.forall_iff_forall_mem.1 opsPre_sub op h))
    (List.forall_iff_forall_mem.1 opsPre_fresh) (launchContents m d)) $$ [Hb Hheld]
  · isplitl [Hb]; · iexact Hb
    iexact Hheld
  iintro ⟨Hb, Hheld⟩
  ihave Hheld := (Entails.of_eq (show (held (SparseCore.T d) (ucRefs τ sig) (after opsPre (launchContents m d)) : sProp 𝕄)
    = iprop(held (SparseCore.T d) (Pipeline.arrRefs spec0) (V1 m d) ∗ held (SparseCore.T d) (ucRefs τ sig \ Pipeline.arrRefs spec0) (V1 m d)) from
    held_sub_split _ arrays_sub _)) $$ Hheld
  icases Hheld with ⟨Harr, Hrest⟩
  ihave Hst := (Entails.of_eq hR) $$ Hst
  icases Hst with ⟨Hdues, HR⟩
  ihave Hlev := ((K (F := F)).ctx_levAts κ) $$ Hctx
  rw [wp_bind]
  iapply ((K (F := F)).wp_liftProg (D (F := F)) 𝒱 (SparseCore.T d) Set.univ none callTc _)
  unfold callTc
  iapply (Pipeline.RegionSeg.wp pcfgs adm (dats (m1 m)) none cellOf_inj (EP : Emb UP 𝕄) defs₀ 𝒱₀ (K (F := F)).L (K (F := F)).lev
    (region m) d none (fun _ h => nomatch h) _ _)
  isplitl [Hrest HR Hts]
  rotate_left
  · isplitl [Hb]; · iexact Hb
    isplitl [Harr Hprng Hdues]
    · unfold region
      isplitl [Harr]; · iexact Harr
      isplitl [Hprng]; · iexists _; iexact Hprng
      iexact Hdues
    isplitl [Hlev]; · iexact Hlev
    isplitl [Hcells]; · iexact Hcells
    iexact Htoks
  iintro ⟨Hb, Hpost⟩
  ihave Hpost' := (show (region m).post d ⊢ iprop(held (SparseCore.T d) (Pipeline.arrRefs spec0) (V2 m d) ∗ (∃ r, prngReg d r) ∗ dues d) from Entails.refl _) $$ Hpost
  icases Hpost' with ⟨Harr, -, Hdues⟩
  ihave Hst : ((K (F := F)).tcSt EH d 0 : sProp 𝕄) $$ [Hdues HR]
  · rw [hR]
    isplitl [Hdues]; · iexact Hdues
    iexact HR
  ihave Hrest := (Entails.of_eq (held_congr (SparseCore.T d) (S := ucRefs τ sig \ Pipeline.arrRefs spec0) (V := V1 m d) (V' := V2 m d) fun b hb =>
    (V2_of_ne m d (fun e => (Finset.mem_sdiff.1 hb).2 (by rw [e]; exact out_mem_arrays))).symm)) $$ Hrest
  ihave Hheld : (held (SparseCore.T d) (ucRefs τ sig) (V2 m d) : sProp 𝕄) $$ [Harr Hrest]
  · rw [held_sub_split _ arrays_sub]
    isplitl [Harr]; · iexact Harr
    iexact Hrest
  rw [wp_ret]; imodintro
  iapply (wp_seq 𝒱 none Set.univ d (ucRefs τ sig) _ opsMid (fun op h => sub_ucRefs op (List.forall_iff_forall_mem.1 opsMid_sub op h))
    (List.forall_iff_forall_mem.1 opsMid_fresh) (V2 m d)) $$ [Hb Hheld]
  · isplitl [Hb]; · iexact Hb
    iexact Hheld
  iintro ⟨Hb, Hheld⟩
  ihave Hheld := (Entails.of_eq (show (held (SparseCore.T d) (ucRefs τ sig) (after opsMid (V2 m d)) : sProp 𝕄)
    = iprop(held (SparseCore.T d) four (V3 m d) ∗ held (SparseCore.T d) (ucRefs τ sig \ four) (V3 m d)) from
    held_sub_split _ four_sub _)) $$ Hheld
  icases Hheld with ⟨Hfour, Hrest⟩
  rw [wp_bind]
  iapply ((K (F := F)).wp_run (D (F := F)) 𝒱 (EH := EH) (P := PP m) κ d 0) $$ [Hst Hfour Hb Hts Hrest]
  isplitr; · iexact Hctx
  isplitl [Hst]; · iexact Hst
  isplitl [Hfour]
  · rw [st_eq]; iexact Hfour
  iintro ⟨Hst, Hdn⟩
  ihave Hfour := (Entails.of_eq (dn_eq m d)) $$ Hdn
  ihave Hrest := (Entails.of_eq (held_congr (SparseCore.T d) (S := ucRefs τ sig \ four) (V := V3 m d) (V' := V4 m d) fun b hb =>
    (V4_of_ne m d (fun e => (Finset.mem_sdiff.1 hb).2 (by rw [e]; simp [four]))).symm)) $$ Hrest
  ihave Hheld : (held (SparseCore.T d) (ucRefs τ sig) (V4 m d) : sProp 𝕄) $$ [Hfour Hrest]
  · rw [held_sub_split _ four_sub]
    isplitl [Hfour] <;> iassumption
  rw [show (seq opsPost : Prog (TpuEff nD τ sig (Elt F) _ .tc) PUnit) = (seq opsPost >>= fun u => Pure.pure u) from (bind_pure _).symm]
  iapply (wp_seq 𝒱 none Set.univ d (ucRefs τ sig) _ opsPost (fun op h => sub_ucRefs op (List.forall_iff_forall_mem.1 opsPost_sub op h))
    (List.forall_iff_forall_mem.1 opsPost_fresh) (V4 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop :=
  ∀ r : Ref sig .tc, (dv r).isScoped = false → s'.mem.mem ((SparseCore.T d).loc r) = V5 m d (dv r)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact fun r hr => h _ (dv_mem_uc r hr)

/-- What holds of the end: every buffer of the TensorCore at its final contents, every semaphore at zero. -/
def QC : PUnit × MemSt nD τ sig (Elt F) → Prop := fun r =>
  (∀ (d : Dev nD) (b : Ref sig .tc), (dv b).isScoped = false → r.2.mem ((SparseCore.T d).loc b) = V5 m d (dv b)) ∧ r.2.sem = fun _ => 0

/-- Every weakly fair execution of the program, the indices its first call finds being in the table, ends so. -/
theorem run_main [∀ e, Nonempty (Elt F e)] (hI : ∀ d j, (Iv m d j).toNat < 20000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ hI)
    (fun q _ => match q with | 0 => SparseCore.Cfg.VecSplit.of_plain (vecSplit _ _ _ _))
    m ρ main G (FIN m) (u₀ (F := F)) (sep_elim_left.trans (hu₀ _ _ _ _)) (hmain m ρ) (fq m) (hfin m) (QC m) (fun _ h hz => ⟨h, hz⟩)

end Cert.Proof.Whole

end

end
-- ==== Proof.TcPay.lean ====
module

public import proofs.«01_k».proof.Proof.TcDat
public import Idealize.ShloMosaic.Lib.WritesUnit
public import Idealize.ShloMosaic.Lib.Pipeline.Value
public import Idealize.ShloMosaic.Lib.ValueIdxRank1

@[expose] public section

set_option maxRecDepth 16384

/-!
What one grid point of the TensorCore kernel leaves in its two scratch buffers, element by element.
A row and a lane keep a running minimum over the chunks of 128 columns, and the number of the chunk
it came from; a grid point takes 32 chunks.
-/

noncomputable section

namespace Cert.Proof.Whole

open Cert.KernelIdeal Cert.KernelIdeal.Gen
open Idealize.ShloMosaic Idealize.ShloMosaic.TcCoe Idealize.ShloMosaic.ValueIdx

variable {F : FTy → Type} [FloatOps F] [Named F]

/-! ## A block of 128 rows as vectors -/

theorem sl_p (s : ℕ) (hs : s < 4) : S512x1.Slices ![128 * s, 0] S128x1 := by
  interval_cases s <;> decide
theorem sl_t (k : ℕ) (hk : k < 32) : S1x4096.Slices ![0, 128 * k] S1x128 := by
  interval_cases k <;> decide
theorem sl_d (s k : ℕ) (hs : s < 4) (hk : k < 32) : S512x4096.Slices ![128 * s, 128 * k] S128x128 := by
  refine ⟨rfl, fun a => ?_⟩
  match a with
  | 0 => show 128 * s + 128 ≤ 512; omega
  | 1 => show 128 * k + 128 ≤ 4096; omega

/-- The distances of a chunk of 128 columns from a block of 128 rows. -/
def chunk (p : FVec F S512x1 .f32) (t : FVec F S1x4096 .f32) (A : FVec F S512x4096 .f32)
    (s : ℕ) (hs : s < 4) (k : ℕ) (hk : k < 32) : FVec F S128x128 .f32 :=
  subf (addf (broadcastTo S128x128 (extractStridedSlice S128x1 ![128 * s, 0] p (sl_p s hs)) broadcasts_S128x1_S128x128)
      (broadcastTo S128x128 (extractStridedSlice S1x128 ![0, 128 * k] t (sl_t k hk)) broadcasts_S1x128_S128x128))
    (extractStridedSlice S128x128 ![128 * s, 128 * k] A (sl_d s k hs hk))

/-- The number of a chunk, as a float. -/
def chunkNo (i : grid0.Coords) (k : ℕ) : F .f32 :=
  Scalar.sitofp .f32 (Scalar.addi (Scalar.muli (BitVec.ofNat 32 (i 1).val) 32#32) (BitVec.ofNat 32 k))

def rmAt (p : FVec F S512x1 .f32) (t : FVec F S1x4096 .f32) (A : FVec F S512x4096 .f32)
    (s : ℕ) (hs : s < 4) (rm : FVec F S128x128 .f32) : (n : ℕ) → n ≤ 32 → FVec F S128x128 .f32
  | 0, _ => rm
  | n + 1, h => select (cmpf .olt (chunk p t A s hs n h) (rmAt p t A s hs rm n (Nat.le_of_succ_le h)))
      (chunk p t A s hs n h) (rmAt p t A s hs rm n (Nat.le_of_succ_le h))

def rcAt (i : grid0.Coords) (p : FVec F S512x1 .f32) (t : FVec F S1x4096 .f32) (A : FVec F S512x4096 .f32)
    (s : ℕ) (hs : s < 4) (rm rc : FVec F S128x128 .f32) : (n : ℕ) → n ≤ 32 → FVec F S128x128 .f32
  | 0, _ => rc
  | n + 1, h => select (cmpf .olt (chunk p t A s hs n h) (rmAt p t A s hs rm n (Nat.le_of_succ_le h)))
      (broadcast S128x128 (chunkNo i n)) (rcAt i p t A s hs rm rc n (Nat.le_of_succ_le h))

theorem sl_b (s : ℕ) (hs : s < 4) : ∀ a : Fin S512x128.rank, (![128 * s, 0] : Fin 2 → ℕ) a + S128x128.size a ≤ S512x128.size a := fun a => by
  match a with
  | 0 => show 128 * s + 128 ≤ 512; omega
  | 1 => show 0 + 128 ≤ 128; omega
/-- A block of 128 rows of what a scratch buffer holds. -/
def blk (arg : Memref sig .tc .vmem S512x128 .f32) (harg : arg.IsWhole) (X : Vec F S512x128 .f32) (s : ℕ) (hs : s < 4) : FVec F S128x128 .f32 :=
  View.readAt (Elt F) arg.view (Rect.unit (s := S512x128) ![128 * s, 0] S128x128.size (sl_b s hs)).toLoadRect (harg.unread X)

/-! ## The same at one row and one lane -/

/-- The running minimum of a row and lane after `n` of the point's chunks. -/
def srm (f : Fin 32 → F .f32) (rm : F .f32) : (n : ℕ) → n ≤ 32 → F .f32
  | 0, _ => rm
  | n + 1, h => Scalar.select (FloatOps.cmpf .olt (f ⟨n, h⟩) (srm f rm n (Nat.le_of_succ_le h))) (f ⟨n, h⟩)
      (srm f rm n (Nat.le_of_succ_le h))

/-- The number of the chunk the running minimum came from, after `n` of the point's chunks. -/
def src (i : grid0.Coords) (f : Fin 32 → F .f32) (rm rc : F .f32) : (n : ℕ) → n ≤ 32 → F .f32
  | 0, _ => rc
  | n + 1, h => Scalar.select (FloatOps.cmpf .olt (f ⟨n, h⟩) (srm f rm n (Nat.le_of_succ_le h))) (chunkNo i n)
      (src i f rm rc n (Nat.le_of_succ_le h))

/-- Row `r` and column `128 k + l` of the point's block of distances. -/
def chS (p : FVec F S512x1 .f32) (t : FVec F S1x4096 .f32) (A : FVec F S512x4096 .f32)
    (r : Fin 512) (l : Fin 128) (k : Fin 32) : F .f32 :=
  FloatOps.subf (FloatOps.addf (p (ix2 r ⟨0, Nat.one_pos⟩)) (t (ix2 ⟨0, Nat.one_pos⟩ ⟨128 * k.val + l.val, by omega⟩)))
    (A (ix2 r ⟨128 * k.val + l.val, by omega⟩))

/-- Row `128 s + y` of the buffer. -/
def rowOf (s : ℕ) (hs : s < 4) (y : S128x128.Idx) : Fin 512 :=
  ⟨128 * s + (y 0).val, by have h : (y 0).val < 128 := (y 0).isLt; omega⟩

/-- Row `128 s + y 0` and lane `y 1` of a scratch buffer. -/
def at4 (s : ℕ) (hs : s < 4) (y : S128x128.Idx) : S512x128.Idx := ix2 (rowOf s hs y) (y 1)

theorem chunk_apply (p : FVec F S512x1 .f32) (t : FVec F S1x4096 .f32) (A : FVec F S512x4096 .f32)
    (s : ℕ) (hs : s < 4) (k : ℕ) (hk : k < 32) (y : S128x128.Idx) :
    chunk p t A s hs k hk y = chS p t A (rowOf s hs y) (y 1) ⟨k, hk⟩ := by
  unfold chunk chS
  dsimp only [subf, addf]
  refine congrArg₂ _ (congrArg₂ _ ?_ ?_) ?_
  · refine congrArg p (funext fun a => Fin.ext ?_)
    match a with
    | 0 => rfl
    | 1 => rfl
  · refine congrArg t (funext fun a => Fin.ext ?_)
    match a with
    | 0 => rfl
    | 1 => rfl
  · refine congrArg A (funext fun a => Fin.ext ?_)
    match a with
    | 0 => rfl
    | 1 => rfl

theorem rmAt_apply (p : FVec F S512x1 .f32) (t : FVec F S1x4096 .f32) (A : FVec F S512x4096 .f32)
    (s : ℕ) (hs : s < 4) (rm : FVec F S128x128 .f32) (y : S128x128.Idx) : ∀ (n : ℕ) (hn : n ≤ 32),
    rmAt p t A s hs rm n hn y = srm (chS p t A (rowOf s hs y) (y 1)) (rm y) n hn
  | 0, _ => rfl
  | n + 1, hn => by
    show Scalar.select (FloatOps.cmpf .olt (chunk p t A s hs n hn y) (rmAt p t A s hs rm n _ y)) (chunk p t A s hs n hn y)
      (rmAt p t A s hs rm n _ y) = _
    rw [rmAt_apply p t A s hs rm y n, chunk_apply]; rfl

theorem rcAt_apply (i : grid0.Coords) (p : FVec F S512x1 .f32) (t : FVec F S1x4096 .f32) (A : FVec F S512x4096 .f32)
    (s : ℕ) (hs : s < 4) (rm rc : FVec F S128x128 .f32) (y : S128x128.Idx) : ∀ (n : ℕ) (hn : n ≤ 32),
    rcAt i p t A s hs rm rc n hn y = src i (chS p t A (rowOf s hs y) (y 1)) (rm y) (rc y) n hn
  | 0, _ => rfl
  | n + 1, hn => by
    show Scalar.select (FloatOps.cmpf .olt (chunk p t A s hs n hn y) (rmAt p t A s hs rm n _ y)) (chunkNo i n)
      (rcAt i p t A s hs rm rc n _ y) = _
    rw [rmAt_apply p t A s hs rm y n, rcAt_apply i p t A s hs rm rc y n, chunk_apply]; rfl

/-- The minima a grid point leaves, from those it found. -/
def newRm (p : FVec F S512x1 .f32) (t : FVec F S1x4096 .f32) (A : FVec F S512x4096 .f32)
    (rm : Vec F S512x128 .f32) : Vec F S512x128 .f32 := fun y =>
  srm (chS p t A (y 0) (y 1)) (rm y) 32 le_rfl

/-- The chunk numbers a grid point leaves, from what it found. -/
def newRc (i : grid0.Coords) (p : FVec F S512x1 .f32) (t : FVec F S1x4096 .f32) (A : FVec F S512x4096 .f32)
    (rm rc : Vec F S512x128 .f32) : Vec F S512x128 .f32 := fun y =>
  src i (chS p t A (y 0) (y 1)) (rm y) (rc y) 32 le_rfl

/-! ## Reading the buffers -/

section Read
variable {sp : Space}

/-- The index of the whole buffer at row `128 s + y 0` and lane `y 1`. -/
theorem idx_rows (s : ℕ) (hs : s < 4) (y : S128x128.Idx) (off : Fin 2 → ℕ) (h : off = ![128 * s, 0])
    (inb : ∀ a : Fin S512x128.rank, off a + S128x128.size a ≤ S512x128.size a) :
    (Rect.unit (s := S512x128) off S128x128.size inb).toLoadRect.idx y = at4 s hs y := by
  subst h
  refine funext fun a => Fin.ext ?_
  match a with
  | 0 => show 128 * s + 1 * (y 0).val = _; rw [Nat.one_mul]; rfl
  | 1 => show 0 + 1 * (y 1).val = _; rw [Nat.one_mul, Nat.zero_add]; rfl

theorem blk_apply (arg : Memref sig .tc .vmem S512x128 .f32) (harg : arg.IsWhole) (X : Vec F S512x128 .f32) (s : ℕ) (hs : s < 4)
    (y : S128x128.Idx) : blk arg harg X s hs y = X (at4 s hs y) := by
  unfold blk
  rw [View.readAt_apply, harg.read_unread]
  exact congrArg X (idx_rows s hs y _ rfl _)

/-- Four stores of 128 rows each, over whatever was stored before them. -/
theorem read_four {e : EltTy} (v : View sig .tc sp S512x128 e) (f : v.ty.Contents (Elt F)) (g : S512x128.Idx → Elt F e)
    (p0 p1 p2 p3 : S128x128.Idx → Elt F e) (L : List (View.Piece (Elt F) S512x128 e))
    (i0 : ∀ a : Fin S512x128.rank, (![0, 0] : Fin 2 → ℕ) a + (![128, 128] : Fin 2 → ℕ) a ≤ S512x128.size a)
    (i1 : ∀ a : Fin S512x128.rank, (![128, 0] : Fin 2 → ℕ) a + (![128, 128] : Fin 2 → ℕ) a ≤ S512x128.size a)
    (i2 : ∀ a : Fin S512x128.rank, (![256, 0] : Fin 2 → ℕ) a + (![128, 128] : Fin 2 → ℕ) a ≤ S512x128.size a)
    (i3 : ∀ a : Fin S512x128.rank, (![384, 0] : Fin 2 → ℕ) a + (![128, 128] : Fin 2 → ℕ) a ≤ S512x128.size a)
    (h0 : ∀ y : S128x128.Idx, p0 y = g (at4 0 (by decide) y))
    (h1 : ∀ y : S128x128.Idx, p1 y = g (at4 1 (by decide) y))
    (h2 : ∀ y : S128x128.Idx, p2 y = g (at4 2 (by decide) y))
    (h3 : ∀ y : S128x128.Idx, p3 y = g (at4 3 (by decide) y)) :
    v.read (Elt F) (v.writes (Elt F) f (⟨Rect.unit (s := S512x128) ![384, 0] ![128, 128] i3, p3⟩
      :: ⟨Rect.unit (s := S512x128) ![256, 0] ![128, 128] i2, p2⟩ :: ⟨Rect.unit (s := S512x128) ![128, 0] ![128, 128] i1, p1⟩
      :: ⟨Rect.unit (s := S512x128) ![0, 0] ![128, 128] i0, p0⟩ :: L)) = g := by
  funext y
  have hy : (y 0).val < 512 := (y 0).isLt
  have hl : (y 1).val < 128 := (y 1).isLt
  have key : ∀ (s : ℕ) (hs : s < 4) (x : S128x128.Idx), (y 0).val = 128 * s + (x 0).val → (y 1).val = (x 1).val →
      g (at4 s hs x) = g y := fun s hs x ha hb => by
    refine congrArg g (funext fun a => Fin.ext ?_)
    match a with
    | 0 => exact ha.symm
    | 1 => exact hb.symm
  have mk : ∀ s : ℕ, 128 * s ≤ (y 0).val → (y 0).val < 128 * s + 128 →
      ∃ x : S128x128.Idx, (y 0).val = 128 * s + (x 0).val ∧ (y 1).val = (x 1).val := fun s ha hb =>
    ⟨ix2 (⟨(y 0).val - 128 * s, by omega⟩ : Fin 128) ⟨(y 1).val, hl⟩, by
      show (y 0).val = 128 * s + ((y 0).val - 128 * s); omega, rfl⟩
  by_cases c3 : 384 ≤ (y 0).val
  · obtain ⟨x, ha, hb⟩ := mk 3 (by omega) (by omega)
    rw [View.read_writes_cons_rows_of_mem (o := 384) v f i3 p3 _ y x rfl ha hb, h3, key 3 _ x ha hb]
  rw [View.read_writes_cons_rows_of_not_mem (o := 384) (W := 128) v f i3 p3 _ y rfl rfl (by omega)]
  by_cases c2 : 256 ≤ (y 0).val
  · obtain ⟨x, ha, hb⟩ := mk 2 (by omega) (by omega)
    rw [View.read_writes_cons_rows_of_mem (o := 256) v f i2 p2 _ y x rfl ha hb, h2, key 2 _ x ha hb]
  rw [View.read_writes_cons_rows_of_not_mem (o := 256) (W := 128) v f i2 p2 _ y rfl rfl (by omega)]
  by_cases c1 : 128 ≤ (y 0).val
  · obtain ⟨x, ha, hb⟩ := mk 1 (by omega) (by omega)
    rw [View.read_writes_cons_rows_of_mem (o := 128) v f i1 p1 _ y x rfl ha hb, h1, key 1 _ x ha hb]
  rw [View.read_writes_cons_rows_of_not_mem (o := 128) (W := 128) v f i1 p1 _ y rfl rfl (by omega)]
  obtain ⟨x, ha, hb⟩ := mk 0 (by omega) (by omega)
  rw [View.read_writes_cons_rows_of_mem (o := 0) v f i0 p0 _ y x rfl (by simpa using ha) hb, h0, key 0 _ x ha hb]

/-- A load of a whole buffer at its first element reads what the buffer holds. -/
theorem read_whole {d : Fin 2 → ℕ} {e : EltTy} (arg : Memref sig .tc .vmem ⟨2, d⟩ e) (harg : arg.IsWhole) (X : Vec F ⟨2, d⟩ e)
    (inb : ∀ a : Fin 2, (![0, 0] : Fin 2 → ℕ) a + d a ≤ d a) :
    View.readAt (Elt F) arg.view (Rect.unit (s := ⟨2, d⟩) ![0, 0] d inb).toLoadRect (harg.unread X) = X := by
  funext y
  rw [View.readAt_apply, harg.read_unread]
  refine congrArg X (funext fun a => Fin.ext ?_)
  match a with
  | 0 => show 0 + 1 * (y 0).val = (y 0).val; omega
  | 1 => show 0 + 1 * (y 1).val = (y 1).val; omega

end Read

variable (c : Dev nD) (i : grid0.Coords) (arg2 : Memref sig .tc .vmem S512x8 .f32) (harg2 : arg2.IsWhole) (arg3 : Memref sig .tc .vmem S8x4096 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x128 .f32) (harg6 : arg6.IsWhole) (arg7 : Memref sig .tc .vmem S512x128 .f32) (harg7 : arg7.IsWhole) (x0 : Vec F S512x8 .f32) (x1 : Vec F S8x4096 .f32) (x2 : Vec F S512x1 .f32) (xs0 xs1 : Vec F S512x128 .f32)

/-! ### Case A -/

theorem ini00 (y : S128x128.Idx) : (kernelRun0_A.sl.v21 c arg6) y = (k0_pay6 : FVec F S512x128 .f32) (at4 0 (by decide) y) := by
  have h0 : (y 0).val < 128 := (y 0).isLt
  show arg6.view.read (Elt F) (arg6.view.writes (Elt F) _ _) _ = _
  rw [idx_rows 0 (by decide) y _ rfl _]
  exact View.read_writes_cons_rows_of_mem (o := 0) _ _ _ _ _ _ (at4 0 (by decide) y) rfl (Nat.zero_add _).symm rfl

theorem ini10 (y : S128x128.Idx) : (kernelRun0_A.sl.v22 c arg7) y = (k0_pay7 : FVec F S512x128 .f32) (at4 0 (by decide) y) := by
  have h0 : (y 0).val < 128 := (y 0).isLt
  show arg7.view.read (Elt F) (arg7.view.writes (Elt F) _ _) _ = _
  rw [idx_rows 0 (by decide) y _ rfl _]
  exact View.read_writes_cons_rows_of_mem (o := 0) _ _ _ _ _ _ (at4 0 (by decide) y) rfl (Nat.zero_add _).symm rfl

theorem ini01 (y : S128x128.Idx) : (kernelRun0_A.sl.v446 c i arg2 harg2 arg3 harg3 arg4 harg4 arg6 x0 x1 x2) y = (k0_pay6 : FVec F S512x128 .f32) (at4 1 (by decide) y) := by
  have h0 : (y 0).val < 128 := (y 0).isLt
  show arg6.view.read (Elt F) (arg6.view.writes (Elt F) _ _) _ = _
  rw [idx_rows 1 (by decide) y _ rfl _]
  refine (View.read_writes_cons_rows_of_not_mem (o := 0) (W := 128) _ _ _ _ _ _ rfl rfl (Or.inr (by show 0 + 128 ≤ 128 * 1 + (y 0).val; omega))).trans ?_
  exact View.read_writes_cons_rows_of_mem (o := 0) _ _ _ _ _ _ (at4 1 (by decide) y) rfl (Nat.zero_add _).symm rfl

theorem ini11 (y : S128x128.Idx) : (kernelRun0_A.sl.v447 c i arg2 harg2 arg3 harg3 arg4 harg4 arg6 arg7 x0 x1 x2) y = (k0_pay7 : FVec F S512x128 .f32) (at4 1 (by decide) y) := by
  have h0 : (y 0).val < 128 := (y 0).isLt
  show arg7.view.read (Elt F) (arg7.view.writes (Elt F) _ _) _ = _
  rw [idx_rows 1 (by decide) y _ rfl _]
  refine (View.read_writes_cons_rows_of_not_mem (o := 0) (W := 128) _ _ _ _ _ _ rfl rfl (Or.inr (by show 0 + 128 ≤ 128 * 1 + (y 0).val; omega))).trans ?_
  exact View.read_writes_cons_rows_of_mem (o := 0) _ _ _ _ _ _ (at4 1 (by decide) y) rfl (Nat.zero_add _).symm rfl

theorem ini02 (y : S128x128.Idx) : (kernelRun0_A.sl.v871 c i arg2 harg2 arg3 harg3 arg4 harg4 arg6 x0 x1 x2) y = (k0_pay6 : FVec F S512x128 .f32) (at4 2 (by decide) y) := by
  have h0 : (y 0).val < 128 := (y 0).isLt
  show arg6.view.read (Elt F) (arg6.view.writes (Elt F) _ _) _ = _
  rw [idx_rows 2 (by decide) y _ rfl _]
  refine (View.read_writes_cons_rows_of_not_mem (o := 128) (W := 128) _ _ _ _ _ _ rfl rfl (Or.inr (by show 128 + 128 ≤ 128 * 2 + (y 0).val; omega))).trans ?_
  refine (View.read_writes_cons_rows_of_not_mem (o := 0) (W := 128) _ _ _ _ _ _ rfl rfl (Or.inr (by show 0 + 128 ≤ 128 * 2 + (y 0).val; omega))).trans ?_
  exact View.read_writes_cons_rows_of_mem (o := 0) _ _ _ _ _ _ (at4 2 (by decide) y) rfl (Nat.zero_add _).symm rfl

theorem ini12 (y : S128x128.Idx) : (kernelRun0_A.sl.v872 c i arg2 harg2 arg3 harg3 arg4 harg4 arg6 arg7 x0 x1 x2) y = (k0_pay7 : FVec F S512x128 .f32) (at4 2 (by decide) y) := by
  have h0 : (y 0).val < 128 := (y 0).isLt
  show arg7.view.read (Elt F) (arg7.view.writes (Elt F) _ _) _ = _
  rw [idx_rows 2 (by decide) y _ rfl _]
  refine (View.read_writes_cons_rows_of_not_mem (o := 128) (W := 128) _ _ _ _ _ _ rfl rfl (Or.inr (by show 128 + 128 ≤ 128 * 2 + (y 0).val; omega))).trans ?_
  refine (View.read_writes_cons_rows_of_not_mem (o := 0) (W := 128) _ _ _ _ _ _ rfl rfl (Or.inr (by show 0 + 128 ≤ 128 * 2 + (y 0).val; omega))).trans ?_
  exact View.read_writes_cons_rows_of_mem (o := 0) _ _ _ _ _ _ (at4 2 (by decide) y) rfl (Nat.zero_add _).symm rfl

theorem ini03 (y : S128x128.Idx) : (kernelRun0_A.sl.v1296 c i arg2 harg2 arg3 harg3 arg4 harg4 arg6 x0 x1 x2) y = (k0_pay6 : FVec F S512x128 .f32) (at4 3 (by decide) y) := by
  have h0 : (y 0).val < 128 := (y 0).isLt
  show arg6.view.read (Elt F) (arg6.view.writes (Elt F) _ _) _ = _
  rw [idx_rows 3 (by decide) y _ rfl _]
  refine (View.read_writes_cons_rows_of_not_mem (o := 256) (W := 128) _ _ _ _ _ _ rfl rfl (Or.inr (by show 256 + 128 ≤ 128 * 3 + (y 0).val; omega))).trans ?_
  refine (View.read_writes_cons_rows_of_not_mem (o := 128) (W := 128) _ _ _ _ _ _ rfl rfl (Or.inr (by show 128 + 128 ≤ 128 * 3 + (y 0).val; omega))).trans ?_
  refine (View.read_writes_cons_rows_of_not_mem (o := 0) (W := 128) _ _ _ _ _ _ rfl rfl (Or.inr (by show 0 + 128 ≤ 128 * 3 + (y 0).val; omega))).trans ?_
  exact View.read_writes_cons_rows_of_mem (o := 0) _ _ _ _ _ _ (at4 3 (by decide) y) rfl (Nat.zero_add _).symm rfl

theorem ini13 (y : S128x128.Idx) : (kernelRun0_A.sl.v1297 c i arg2 harg2 arg3 harg3 arg4 harg4 arg6 arg7 x0 x1 x2) y = (k0_pay7 : FVec F S512x128 .f32) (at4 3 (by decide) y) := by
  have h0 : (y 0).val < 128 := (y 0).isLt
  show arg7.view.read (Elt F) (arg7.view.writes (Elt F) _ _) _ = _
  rw [idx_rows 3 (by decide) y _ rfl _]
  refine (View.read_writes_cons_rows_of_not_mem (o := 256) (W := 128) _ _ _ _ _ _ rfl rfl (Or.inr (by show 256 + 128 ≤ 128 * 3 + (y 0).val; omega))).trans ?_
  refine (View.read_writes_cons_rows_of_not_mem (o := 128) (W := 128) _ _ _ _ _ _ rfl rfl (Or.inr (by show 128 + 128 ≤ 128 * 3 + (y 0).val; omega))).trans ?_
  refine (View.read_writes_cons_rows_of_not_mem (o := 0) (W := 128) _ _ _ _ _ _ rfl rfl (Or.inr (by show 0 + 128 ≤ 128 * 3 + (y 0).val; omega))).trans ?_
  exact View.read_writes_cons_rows_of_mem (o := 0) _ _ _ _ _ _ (at4 3 (by decide) y) rfl (Nat.zero_add _).symm rfl

theorem tripA : kernelRun0_A.sl.r_2 c arg4 harg4 x2 = x2 ∧ kernelRun0_A.sl.r c i arg3 harg3 x1 = k0_pay9 i x1
    ∧ kernelRun0_A.sl.r_1 c arg2 harg2 arg3 harg3 x0 x1 = k0_pay10 x0 x1 := by
  exact ⟨(congrArg k0_pay11 (read_whole arg4 harg4 x2 _)).trans (shapeCast_self _ _),
    congrArg (k0_pay9 i) (read_whole arg3 harg3 x1 _), congrArg₂ k0_pay10 (read_whole arg2 harg2 x0 _) (read_whole arg3 harg3 x1 _)⟩

theorem rmA0 (y : S128x128.Idx) : (kernelRun0_A.sl.v442 c i arg2 harg2 arg3 harg3 arg4 harg4 arg6 x0 x1 x2) y
    = newRm x2 (k0_pay9 i x1) (k0_pay10 x0 x1) k0_pay6 (at4 0 (by decide) y) := by
  have e : kernelRun0_A.sl.v442 c i arg2 harg2 arg3 harg3 arg4 harg4 arg6 x0 x1 x2
      = shapeCast S128x128 (rmAt (kernelRun0_A.sl.r_2 c arg4 harg4 x2) (kernelRun0_A.sl.r c i arg3 harg3 x1) (kernelRun0_A.sl.r_1 c arg2 harg2 arg3 harg3 x0 x1) 0 (by decide) (kernelRun0_A.sl.v21 c arg6) 32 le_rfl) shapeCasts_S128x128_S128x128 := rfl
  obtain ⟨e2, e0, e1⟩ := tripA c i arg2 harg2 arg3 harg3 arg4 harg4 x0 x1 x2
  rw [e, shapeCast_self, rmAt_apply, ini00 c arg6 y, e2, e0, e1]; rfl

theorem rcA0 (y : S128x128.Idx) : (kernelRun0_A.sl.v445 c i arg2 harg2 arg3 harg3 arg4 harg4 arg6 arg7 x0 x1 x2) y
    = newRc i x2 (k0_pay9 i x1) (k0_pay10 x0 x1) k0_pay6 k0_pay7 (at4 0 (by decide) y) := by
  have e : kernelRun0_A.sl.v445 c i arg2 harg2 arg3 harg3 arg4 harg4 arg6 arg7 x0 x1 x2
      = shapeCast S128x128 (rcAt i (kernelRun0_A.sl.r_2 c arg4 harg4 x2) (kernelRun0_A.sl.r c i arg3 harg3 x1) (kernelRun0_A.sl.r_1 c arg2 harg2 arg3 harg3 x0 x1) 0 (by decide) (kernelRun0_A.sl.v21 c arg6) (kernelRun0_A.sl.v22 c arg7) 32 le_rfl) shapeCasts_S128x128_S128x128 := rfl
  obtain ⟨e2, e0, e1⟩ := tripA c i arg2 harg2 arg3 harg3 arg4 harg4 x0 x1 x2
  rw [e, shapeCast_self, rcAt_apply, ini00 c arg6 y, ini10 c arg7 y, e2, e0, e1]; rfl

theorem rmA1 (y : S128x128.Idx) : (kernelRun0_A.sl.v867 c i arg2 harg2 arg3 harg3 arg4 harg4 arg6 x0 x1 x2) y
    = newRm x2 (k0_pay9 i x1) (k0_pay10 x0 x1) k0_pay6 (at4 1 (by decide) y) := by
  have e : kernelRun0_A.sl.v867 c i arg2 harg2 arg3 harg3 arg4 harg4 arg6 x0 x1 x2
      = shapeCast S128x128 (rmAt (kernelRun0_A.sl.r_2 c arg4 harg4 x2) (kernelRun0_A.sl.r c i arg3 harg3 x1) (kernelRun0_A.sl.r_1 c arg2 harg2 arg3 harg3 x0 x1) 1 (by decide) (kernelRun0_A.sl.v446 c i arg2 harg2 arg3 harg3 arg4 harg4 arg6 x0 x1 x2) 32 le_rfl) shapeCasts_S128x128_S128x128 := rfl
  obtain ⟨e2, e0, e1⟩ := tripA c i arg2 harg2 arg3 harg3 arg4 harg4 x0 x1 x2
  rw [e, shapeCast_self, rmAt_apply, ini01 c i arg2 harg2 arg3 harg3 arg4 harg4 arg6 x0 x1 x2 y, e2, e0, e1]; rfl

theorem rcA1 (y : S128x128.Idx) : (kernelRun0_A.sl.v870 c i arg2 harg2 arg3 harg3 arg4 harg4 arg6 arg7 x0 x1 x2) y
    = newRc i x2 (k0_pay9 i x1) (k0_pay10 x0 x1) k0_pay6 k0_pay7 (at4 1 (by decide) y) := by
  have e : kernelRun0_A.sl.v870 c i arg2 harg2 arg3 harg3 arg4 harg4 arg6 arg7 x0 x1 x2
      = shapeCast S128x128 (rcAt i (kernelRun0_A.sl.r_2 c arg4 harg4 x2) (kernelRun0_A.sl.r c i arg3 harg3 x1) (kernelRun0_A.sl.r_1 c arg2 harg2 arg3 harg3 x0 x1) 1 (by decide) (kernelRun0_A.sl.v446 c i arg2 harg2 arg3 harg3 arg4 harg4 arg6 x0 x1 x2) (kernelRun0_A.sl.v447 c i arg2 harg2 arg3 harg3 arg4 harg4 arg6 arg7 x0 x1 x2) 32 le_rfl) shapeCasts_S128x128_S128x128 := rfl
  obtain ⟨e2, e0, e1⟩ := tripA c i arg2 harg2 arg3 harg3 arg4 harg4 x0 x1 x2
  rw [e, shapeCast_self, rcAt_apply, ini01 c i arg2 harg2 arg3 harg3 arg4 harg4 arg6 x0 x1 x2 y, ini11 c i arg2 harg2 arg3 harg3 arg4 harg4 arg6 arg7 x0 x1 x2 y, e2, e0, e1]; rfl

theorem rmA2 (y : S128x128.Idx) : (kernelRun0_A.sl.v1292 c i arg2 harg2 arg3 harg3 arg4 harg4 arg6 x0 x1 x2) y
    = newRm x2 (k0_pay9 i x1) (k0_pay10 x0 x1) k0_pay6 (at4 2 (by decide) y) := by
  have e : kernelRun0_A.sl.v1292 c i arg2 harg2 arg3 harg3 arg4 harg4 arg6 x0 x1 x2
      = shapeCast S128x128 (rmAt (kernelRun0_A.sl.r_2 c arg4 harg4 x2) (kernelRun0_A.sl.r c i arg3 harg3 x1) (kernelRun0_A.sl.r_1 c arg2 harg2 arg3 harg3 x0 x1) 2 (by decide) (kernelRun0_A.sl.v871 c i arg2 harg2 arg3 harg3 arg4 harg4 arg6 x0 x1 x2) 32 le_rfl) shapeCasts_S128x128_S128x128 := rfl
  obtain ⟨e2, e0, e1⟩ := tripA c i arg2 harg2 arg3 harg3 arg4 harg4 x0 x1 x2
  rw [e, shapeCast_self, rmAt_apply, ini02 c i arg2 harg2 arg3 harg3 arg4 harg4 arg6 x0 x1 x2 y, e2, e0, e1]; rfl

theorem rcA2 (y : S128x128.Idx) : (kernelRun0_A.sl.v1295 c i arg2 harg2 arg3 harg3 arg4 harg4 arg6 arg7 x0 x1 x2) y
    = newRc i x2 (k0_pay9 i x1) (k0_pay10 x0 x1) k0_pay6 k0_pay7 (at4 2 (by decide) y) := by
  have e : kernelRun0_A.sl.v1295 c i arg2 harg2 arg3 harg3 arg4 harg4 arg6 arg7 x0 x1 x2
      = shapeCast S128x128 (rcAt i (kernelRun0_A.sl.r_2 c arg4 harg4 x2) (kernelRun0_A.sl.r c i arg3 harg3 x1) (kernelRun0_A.sl.r_1 c arg2 harg2 arg3 harg3 x0 x1) 2 (by decide) (kernelRun0_A.sl.v871 c i arg2 harg2 arg3 harg3 arg4 harg4 arg6 x0 x1 x2) (kernelRun0_A.sl.v872 c i arg2 harg2 arg3 harg3 arg4 harg4 arg6 arg7 x0 x1 x2) 32 le_rfl) shapeCasts_S128x128_S128x128 := rfl
  obtain ⟨e2, e0, e1⟩ := tripA c i arg2 harg2 arg3 harg3 arg4 harg4 x0 x1 x2
  rw [e, shapeCast_self, rcAt_apply, ini02 c i arg2 harg2 arg3 harg3 arg4 harg4 arg6 x0 x1 x2 y, ini12 c i arg2 harg2 arg3 harg3 arg4 harg4 arg6 arg7 x0 x1 x2 y, e2, e0, e1]; rfl

theorem rmA3 (y : S128x128.Idx) : (k0_pay3 (kernelRun0_A.sl.r_1 c arg2 harg2 arg3 harg3 x0 x1) (kernelRun0_A.sl.v1298 c arg4 harg4 x2) (kernelRun0_A.sl.r_7 c i arg2 harg2 arg3 harg3 arg4 harg4 arg6 x0 x1 x2) (kernelRun0_A.sl.r_9 c i arg3 harg3 x1)) y
    = newRm x2 (k0_pay9 i x1) (k0_pay10 x0 x1) k0_pay6 (at4 3 (by decide) y) := by
  have e : k0_pay3 (kernelRun0_A.sl.r_1 c arg2 harg2 arg3 harg3 x0 x1) (kernelRun0_A.sl.v1298 c arg4 harg4 x2) (kernelRun0_A.sl.r_7 c i arg2 harg2 arg3 harg3 arg4 harg4 arg6 x0 x1 x2) (kernelRun0_A.sl.r_9 c i arg3 harg3 x1)
      = shapeCast S128x128 (rmAt (kernelRun0_A.sl.r_2 c arg4 harg4 x2) (kernelRun0_A.sl.r c i arg3 harg3 x1) (kernelRun0_A.sl.r_1 c arg2 harg2 arg3 harg3 x0 x1) 3 (by decide) (kernelRun0_A.sl.v1296 c i arg2 harg2 arg3 harg3 arg4 harg4 arg6 x0 x1 x2) 32 le_rfl) shapeCasts_S128x128_S128x128 := rfl
  obtain ⟨e2, e0, e1⟩ := tripA c i arg2 harg2 arg3 harg3 arg4 harg4 x0 x1 x2
  rw [e, shapeCast_self, rmAt_apply, ini03 c i arg2 harg2 arg3 harg3 arg4 harg4 arg6 x0 x1 x2 y, e2, e0, e1]; rfl

theorem rcA3 (y : S128x128.Idx) : (k0_pay4 (BitVec.ofNat 32 (i 1).val) (kernelRun0_A.sl.r_1 c arg2 harg2 arg3 harg3 x0 x1) (kernelRun0_A.sl.v1298 c arg4 harg4 x2) (kernelRun0_A.sl.r_7 c i arg2 harg2 arg3 harg3 arg4 harg4 arg6 x0 x1 x2) (kernelRun0_A.sl.r_8 c i arg2 harg2 arg3 harg3 arg4 harg4 arg6 arg7 x0 x1 x2) (kernelRun0_A.sl.r_9 c i arg3 harg3 x1)) y
    = newRc i x2 (k0_pay9 i x1) (k0_pay10 x0 x1) k0_pay6 k0_pay7 (at4 3 (by decide) y) := by
  have e : k0_pay4 (BitVec.ofNat 32 (i 1).val) (kernelRun0_A.sl.r_1 c arg2 harg2 arg3 harg3 x0 x1) (kernelRun0_A.sl.v1298 c arg4 harg4 x2) (kernelRun0_A.sl.r_7 c i arg2 harg2 arg3 harg3 arg4 harg4 arg6 x0 x1 x2) (kernelRun0_A.sl.r_8 c i arg2 harg2 arg3 harg3 arg4 harg4 arg6 arg7 x0 x1 x2) (kernelRun0_A.sl.r_9 c i arg3 harg3 x1)
      = shapeCast S128x128 (rcAt i (kernelRun0_A.sl.r_2 c arg4 harg4 x2) (kernelRun0_A.sl.r c i arg3 harg3 x1) (kernelRun0_A.sl.r_1 c arg2 harg2 arg3 harg3 x0 x1) 3 (by decide) (kernelRun0_A.sl.v1296 c i arg2 harg2 arg3 harg3 arg4 harg4 arg6 x0 x1 x2) (kernelRun0_A.sl.v1297 c i arg2 harg2 arg3 harg3 arg4 harg4 arg6 arg7 x0 x1 x2) 32 le_rfl) shapeCasts_S128x128_S128x128 := rfl
  obtain ⟨e2, e0, e1⟩ := tripA c i arg2 harg2 arg3 harg3 arg4 harg4 x0 x1 x2
  rw [e, shapeCast_self, rcAt_apply, ini03 c i arg2 harg2 arg3 harg3 arg4 harg4 arg6 x0 x1 x2 y, ini13 c i arg2 harg2 arg3 harg3 arg4 harg4 arg6 arg7 x0 x1 x2 y, e2, e0, e1]; rfl

/-- What case A leaves of the minima. -/
theorem soutA_0 (hc0 : cond0_0 i) (hc1 : ¬cond0_1 i) : sout0_A_0 c i arg2 harg2 arg3 harg3 arg4 harg4 arg5 harg5 arg6 harg6 arg7 harg7 hc0 hc1 x0 x1 x2
    = newRm x2 (k0_pay9 i x1) (k0_pay10 x0 x1) k0_pay6 := by
  unfold sout0_A_0
  exact read_four _ _ _ _ _ _ _ _ _ _ _ _ (fun y => rmA0 c i arg2 harg2 arg3 harg3 arg4 harg4 arg6 x0 x1 x2 y) (fun y => rmA1 c i arg2 harg2 arg3 harg3 arg4 harg4 arg6 x0 x1 x2 y) (fun y => rmA2 c i arg2 harg2 arg3 harg3 arg4 harg4 arg6 x0 x1 x2 y) (fun y => rmA3 c i arg2 harg2 arg3 harg3 arg4 harg4 arg6 x0 x1 x2 y)

/-- What case A leaves of the chunk numbers. -/
theorem soutA_1 (hc0 : cond0_0 i) (hc1 : ¬cond0_1 i) : sout0_A_1 c i arg2 harg2 arg3 harg3 arg4 harg4 arg5 harg5 arg6 harg6 arg7 harg7 hc0 hc1 x0 x1 x2
    = newRc i x2 (k0_pay9 i x1) (k0_pay10 x0 x1) k0_pay6 k0_pay7 := by
  unfold sout0_A_1
  exact read_four _ _ _ _ _ _ _ _ _ _ _ _ (fun y => rcA0 c i arg2 harg2 arg3 harg3 arg4 harg4 arg6 arg7 x0 x1 x2 y) (fun y => rcA1 c i arg2 harg2 arg3 harg3 arg4 harg4 arg6 arg7 x0 x1 x2 y) (fun y => rcA2 c i arg2 harg2 arg3 harg3 arg4 harg4 arg6 arg7 x0 x1 x2 y) (fun y => rcA3 c i arg2 harg2 arg3 harg3 arg4 harg4 arg6 arg7 x0 x1 x2 y)

/-! ### Case B -/

theorem tripB : kernelRun0_B.sl.r_2 c arg4 harg4 x2 = x2 ∧ kernelRun0_B.sl.r c i arg3 harg3 x1 = k0_pay9 i x1
    ∧ kernelRun0_B.sl.r_1 c arg2 harg2 arg3 harg3 x0 x1 = k0_pay10 x0 x1 := by
  exact ⟨(congrArg k0_pay11 (read_whole arg4 harg4 x2 _)).trans (shapeCast_self _ _),
    congrArg (k0_pay9 i) (read_whole arg3 harg3 x1 _), congrArg₂ k0_pay10 (read_whole arg2 harg2 x0 _) (read_whole arg3 harg3 x1 _)⟩

theorem rmB0 (y : S128x128.Idx) : (kernelRun0_B.sl.v442 c i arg2 harg2 arg3 harg3 arg4 harg4 arg6 harg6 x0 x1 x2 xs0) y
    = newRm x2 (k0_pay9 i x1) (k0_pay10 x0 x1) xs0 (at4 0 (by decide) y) := by
  have e : kernelRun0_B.sl.v442 c i arg2 harg2 arg3 harg3 arg4 harg4 arg6 harg6 x0 x1 x2 xs0
      = shapeCast S128x128 (rmAt (kernelRun0_B.sl.r_2 c arg4 harg4 x2) (kernelRun0_B.sl.r c i arg3 harg3 x1) (kernelRun0_B.sl.r_1 c arg2 harg2 arg3 harg3 x0 x1) 0 (by decide) (blk arg6 harg6 xs0 0 (by decide)) 32 le_rfl) shapeCasts_S128x128_S128x128 := rfl
  obtain ⟨e2, e0, e1⟩ := tripB c i arg2 harg2 arg3 harg3 arg4 harg4 x0 x1 x2
  rw [e, shapeCast_self, rmAt_apply, blk_apply arg6 harg6 xs0 _ _ y, e2, e0, e1]; rfl

theorem rcB0 (y : S128x128.Idx) : (kernelRun0_B.sl.v445 c i arg2 harg2 arg3 harg3 arg4 harg4 arg6 harg6 arg7 harg7 x0 x1 x2 xs0 xs1) y
    = newRc i x2 (k0_pay9 i x1) (k0_pay10 x0 x1) xs0 xs1 (at4 0 (by decide) y) := by
  have e : kernelRun0_B.sl.v445 c i arg2 harg2 arg3 harg3 arg4 harg4 arg6 harg6 arg7 harg7 x0 x1 x2 xs0 xs1
      = shapeCast S128x128 (rcAt i (kernelRun0_B.sl.r_2 c arg4 harg4 x2) (kernelRun0_B.sl.r c i arg3 harg3 x1) (kernelRun0_B.sl.r_1 c arg2 harg2 arg3 harg3 x0 x1) 0 (by decide) (blk arg6 harg6 xs0 0 (by decide)) (blk arg7 harg7 xs1 0 (by decide)) 32 le_rfl) shapeCasts_S128x128_S128x128 := rfl
  obtain ⟨e2, e0, e1⟩ := tripB c i arg2 harg2 arg3 harg3 arg4 harg4 x0 x1 x2
  rw [e, shapeCast_self, rcAt_apply, blk_apply arg6 harg6 xs0 _ _ y, blk_apply arg7 harg7 xs1 _ _ y, e2, e0, e1]; rfl

theorem rmB1 (y : S128x128.Idx) : (kernelRun0_B.sl.v867 c i arg2 harg2 arg3 harg3 arg4 harg4 arg6 harg6 x0 x1 x2 xs0) y
    = newRm x2 (k0_pay9 i x1) (k0_pay10 x0 x1) xs0 (at4 1 (by decide) y) := by
  have e : kernelRun0_B.sl.v867 c i arg2 harg2 arg3 harg3 arg4 harg4 arg6 harg6 x0 x1 x2 xs0
      = shapeCast S128x128 (rmAt (kernelRun0_B.sl.r_2 c arg4 harg4 x2) (kernelRun0_B.sl.r c i arg3 harg3 x1) (kernelRun0_B.sl.r_1 c arg2 harg2 arg3 harg3 x0 x1) 1 (by decide) (blk arg6 harg6 xs0 1 (by decide)) 32 le_rfl) shapeCasts_S128x128_S128x128 := rfl
  obtain ⟨e2, e0, e1⟩ := tripB c i arg2 harg2 arg3 harg3 arg4 harg4 x0 x1 x2
  rw [e, shapeCast_self, rmAt_apply, blk_apply arg6 harg6 xs0 _ _ y, e2, e0, e1]; rfl

theorem rcB1 (y : S128x128.Idx) : (kernelRun0_B.sl.v870 c i arg2 harg2 arg3 harg3 arg4 harg4 arg6 harg6 arg7 harg7 x0 x1 x2 xs0 xs1) y
    = newRc i x2 (k0_pay9 i x1) (k0_pay10 x0 x1) xs0 xs1 (at4 1 (by decide) y) := by
  have e : kernelRun0_B.sl.v870 c i arg2 harg2 arg3 harg3 arg4 harg4 arg6 harg6 arg7 harg7 x0 x1 x2 xs0 xs1
      = shapeCast S128x128 (rcAt i (kernelRun0_B.sl.r_2 c arg4 harg4 x2) (kernelRun0_B.sl.r c i arg3 harg3 x1) (kernelRun0_B.sl.r_1 c arg2 harg2 arg3 harg3 x0 x1) 1 (by decide) (blk arg6 harg6 xs0 1 (by decide)) (blk arg7 harg7 xs1 1 (by decide)) 32 le_rfl) shapeCasts_S128x128_S128x128 := rfl
  obtain ⟨e2, e0, e1⟩ := tripB c i arg2 harg2 arg3 harg3 arg4 harg4 x0 x1 x2
  rw [e, shapeCast_self, rcAt_apply, blk_apply arg6 harg6 xs0 _ _ y, blk_apply arg7 harg7 xs1 _ _ y, e2, e0, e1]; rfl

theorem rmB2 (y : S128x128.Idx) : (kernelRun0_B.sl.v1292 c i arg2 harg2 arg3 harg3 arg4 harg4 arg6 harg6 x0 x1 x2 xs0) y
    = newRm x2 (k0_pay9 i x1) (k0_pay10 x0 x1) xs0 (at4 2 (by decide) y) := by
  have e : kernelRun0_B.sl.v1292 c i arg2 harg2 arg3 harg3 arg4 harg4 arg6 harg6 x0 x1 x2 xs0
      = shapeCast S128x128 (rmAt (kernelRun0_B.sl.r_2 c arg4 harg4 x2) (kernelRun0_B.sl.r c i arg3 harg3 x1) (kernelRun0_B.sl.r_1 c arg2 harg2 arg3 harg3 x0 x1) 2 (by decide) (blk arg6 harg6 xs0 2 (by decide)) 32 le_rfl) shapeCasts_S128x128_S128x128 := rfl
  obtain ⟨e2, e0, e1⟩ := tripB c i arg2 harg2 arg3 harg3 arg4 harg4 x0 x1 x2
  rw [e, shapeCast_self, rmAt_apply, blk_apply arg6 harg6 xs0 _ _ y, e2, e0, e1]; rfl

theorem rcB2 (y : S128x128.Idx) : (kernelRun0_B.sl.v1295 c i arg2 harg2 arg3 harg3 arg4 harg4 arg6 harg6 arg7 harg7 x0 x1 x2 xs0 xs1) y
    = newRc i x2 (k0_pay9 i x1) (k0_pay10 x0 x1) xs0 xs1 (at4 2 (by decide) y) := by
  have e : kernelRun0_B.sl.v1295 c i arg2 harg2 arg3 harg3 arg4 harg4 arg6 harg6 arg7 harg7 x0 x1 x2 xs0 xs1
      = shapeCast S128x128 (rcAt i (kernelRun0_B.sl.r_2 c arg4 harg4 x2) (kernelRun0_B.sl.r c i arg3 harg3 x1) (kernelRun0_B.sl.r_1 c arg2 harg2 arg3 harg3 x0 x1) 2 (by decide) (blk arg6 harg6 xs0 2 (by decide)) (blk arg7 harg7 xs1 2 (by decide)) 32 le_rfl) shapeCasts_S128x128_S128x128 := rfl
  obtain ⟨e2, e0, e1⟩ := tripB c i arg2 harg2 arg3 harg3 arg4 harg4 x0 x1 x2
  rw [e, shapeCast_self, rcAt_apply, blk_apply arg6 harg6 xs0 _ _ y, blk_apply arg7 harg7 xs1 _ _ y, e2, e0, e1]; rfl

theorem rmB3 (y : S128x128.Idx) : (k0_pay3 (kernelRun0_B.sl.r_1 c arg2 harg2 arg3 harg3 x0 x1) (kernelRun0_B.sl.v1298 c arg4 harg4 x2) (kernelRun0_B.sl.r_7 c i arg2 harg2 arg3 harg3 arg4 harg4 arg6 harg6 x0 x1 x2 xs0) (kernelRun0_B.sl.r_9 c i arg3 harg3 x1)) y
    = newRm x2 (k0_pay9 i x1) (k0_pay10 x0 x1) xs0 (at4 3 (by decide) y) := by
  have e : k0_pay3 (kernelRun0_B.sl.r_1 c arg2 harg2 arg3 harg3 x0 x1) (kernelRun0_B.sl.v1298 c arg4 harg4 x2) (kernelRun0_B.sl.r_7 c i arg2 harg2 arg3 harg3 arg4 harg4 arg6 harg6 x0 x1 x2 xs0) (kernelRun0_B.sl.r_9 c i arg3 harg3 x1)
      = shapeCast S128x128 (rmAt (kernelRun0_B.sl.r_2 c arg4 harg4 x2) (kernelRun0_B.sl.r c i arg3 harg3 x1) (kernelRun0_B.sl.r_1 c arg2 harg2 arg3 harg3 x0 x1) 3 (by decide) (blk arg6 harg6 xs0 3 (by decide)) 32 le_rfl) shapeCasts_S128x128_S128x128 := rfl
  obtain ⟨e2, e0, e1⟩ := tripB c i arg2 harg2 arg3 harg3 arg4 harg4 x0 x1 x2
  rw [e, shapeCast_self, rmAt_apply, blk_apply arg6 harg6 xs0 _ _ y, e2, e0, e1]; rfl

theorem rcB3 (y : S128x128.Idx) : (k0_pay4 (BitVec.ofNat 32 (i 1).val) (kernelRun0_B.sl.r_1 c arg2 harg2 arg3 harg3 x0 x1) (kernelRun0_B.sl.v1298 c arg4 harg4 x2) (kernelRun0_B.sl.r_7 c i arg2 harg2 arg3 harg3 arg4 harg4 arg6 harg6 x0 x1 x2 xs0) (kernelRun0_B.sl.r_8 c i arg2 harg2 arg3 harg3 arg4 harg4 arg6 harg6 arg7 harg7 x0 x1 x2 xs0 xs1) (kernelRun0_B.sl.r_9 c i arg3 harg3 x1)) y
    = newRc i x2 (k0_pay9 i x1) (k0_pay10 x0 x1) xs0 xs1 (at4 3 (by decide) y) := by
  have e : k0_pay4 (BitVec.ofNat 32 (i 1).val) (kernelRun0_B.sl.r_1 c arg2 harg2 arg3 harg3 x0 x1) (kernelRun0_B.sl.v1298 c arg4 harg4 x2) (kernelRun0_B.sl.r_7 c i arg2 harg2 arg3 harg3 arg4 harg4 arg6 harg6 x0 x1 x2 xs0) (kernelRun0_B.sl.r_8 c i arg2 harg2 arg3 harg3 arg4 harg4 arg6 harg6 arg7 harg7 x0 x1 x2 xs0 xs1) (kernelRun0_B.sl.r_9 c i arg3 harg3 x1)
      = shapeCast S128x128 (rcAt i (kernelRun0_B.sl.r_2 c arg4 harg4 x2) (kernelRun0_B.sl.r c i arg3 harg3 x1) (kernelRun0_B.sl.r_1 c arg2 harg2 arg3 harg3 x0 x1) 3 (by decide) (blk arg6 harg6 xs0 3 (by decide)) (blk arg7 harg7 xs1 3 (by decide)) 32 le_rfl) shapeCasts_S128x128_S128x128 := rfl
  obtain ⟨e2, e0, e1⟩ := tripB c i arg2 harg2 arg3 harg3 arg4 harg4 x0 x1 x2
  rw [e, shapeCast_self, rcAt_apply, blk_apply arg6 harg6 xs0 _ _ y, blk_apply arg7 harg7 xs1 _ _ y, e2, e0, e1]; rfl

/-- What case B leaves of the minima. -/
theorem soutB_0 (hc0 : ¬cond0_0 i) (hc1 : ¬cond0_1 i) : sout0_B_0 c i arg2 harg2 arg3 harg3 arg4 harg4 arg5 harg5 arg6 harg6 arg7 harg7 hc0 hc1 x0 x1 x2 xs0 xs1
    = newRm x2 (k0_pay9 i x1) (k0_pay10 x0 x1) xs0 := by
  unfold sout0_B_0
  exact read_four _ _ _ _ _ _ _ _ _ _ _ _ (fun y => rmB0 c i arg2 harg2 arg3 harg3 arg4 harg4 arg6 harg6 x0 x1 x2 xs0 y) (fun y => rmB1 c i arg2 harg2 arg3 harg3 arg4 harg4 arg6 harg6 x0 x1 x2 xs0 y) (fun y => rmB2 c i arg2 harg2 arg3 harg3 arg4 harg4 arg6 harg6 x0 x1 x2 xs0 y) (fun y => rmB3 c i arg2 harg2 arg3 harg3 arg4 harg4 arg6 harg6 x0 x1 x2 xs0 y)

/-- What case B leaves of the chunk numbers. -/
theorem soutB_1 (hc0 : ¬cond0_0 i) (hc1 : ¬cond0_1 i) : sout0_B_1 c i arg2 harg2 arg3 harg3 arg4 harg4 arg5 harg5 arg6 harg6 arg7 harg7 hc0 hc1 x0 x1 x2 xs0 xs1
    = newRc i x2 (k0_pay9 i x1) (k0_pay10 x0 x1) xs0 xs1 := by
  unfold sout0_B_1
  exact read_four _ _ _ _ _ _ _ _ _ _ _ _ (fun y => rcB0 c i arg2 harg2 arg3 harg3 arg4 harg4 arg6 harg6 arg7 harg7 x0 x1 x2 xs0 xs1 y) (fun y => rcB1 c i arg2 harg2 arg3 harg3 arg4 harg4 arg6 harg6 arg7 harg7 x0 x1 x2 xs0 xs1 y) (fun y => rcB2 c i arg2 harg2 arg3 harg3 arg4 harg4 arg6 harg6 arg7 harg7 x0 x1 x2 xs0 xs1 y) (fun y => rcB3 c i arg2 harg2 arg3 harg3 arg4 harg4 arg6 harg6 arg7 harg7 x0 x1 x2 xs0 xs1 y)

/-! ### Case C -/

theorem tripC : kernelRun0_C.sl.r_2 c arg4 harg4 x2 = x2 ∧ kernelRun0_C.sl.r c i arg3 harg3 x1 = k0_pay9 i x1
    ∧ kernelRun0_C.sl.r_1 c arg2 harg2 arg3 harg3 x0 x1 = k0_pay10 x0 x1 := by
  exact ⟨(congrArg k0_pay11 (read_whole arg4 harg4 x2 _)).trans (shapeCast_self _ _),
    congrArg (k0_pay9 i) (read_whole arg3 harg3 x1 _), congrArg₂ k0_pay10 (read_whole arg2 harg2 x0 _) (read_whole arg3 harg3 x1 _)⟩

theorem rmC0 (y : S128x128.Idx) : (kernelRun0_C.sl.v442 c i arg2 harg2 arg3 harg3 arg4 harg4 arg6 harg6 x0 x1 x2 xs0) y
    = newRm x2 (k0_pay9 i x1) (k0_pay10 x0 x1) xs0 (at4 0 (by decide) y) := by
  have e : kernelRun0_C.sl.v442 c i arg2 harg2 arg3 harg3 arg4 harg4 arg6 harg6 x0 x1 x2 xs0
      = shapeCast S128x128 (rmAt (kernelRun0_C.sl.r_2 c arg4 harg4 x2) (kernelRun0_C.sl.r c i arg3 harg3 x1) (kernelRun0_C.sl.r_1 c arg2 harg2 arg3 harg3 x0 x1) 0 (by decide) (blk arg6 harg6 xs0 0 (by decide)) 32 le_rfl) shapeCasts_S128x128_S128x128 := rfl
  obtain ⟨e2, e0, e1⟩ := tripC c i arg2 harg2 arg3 harg3 arg4 harg4 x0 x1 x2
  rw [e, shapeCast_self, rmAt_apply, blk_apply arg6 harg6 xs0 _ _ y, e2, e0, e1]; rfl

theorem rcC0 (y : S128x128.Idx) : (kernelRun0_C.sl.v445 c i arg2 harg2 arg3 harg3 arg4 harg4 arg6 harg6 arg7 harg7 x0 x1 x2 xs0 xs1) y
    = newRc i x2 (k0_pay9 i x1) (k0_pay10 x0 x1) xs0 xs1 (at4 0 (by decide) y) := by
  have e : kernelRun0_C.sl.v445 c i arg2 harg2 arg3 harg3 arg4 harg4 arg6 harg6 arg7 harg7 x0 x1 x2 xs0 xs1
      = shapeCast S128x128 (rcAt i (kernelRun0_C.sl.r_2 c arg4 harg4 x2) (kernelRun0_C.sl.r c i arg3 harg3 x1) (kernelRun0_C.sl.r_1 c arg2 harg2 arg3 harg3 x0 x1) 0 (by decide) (blk arg6 harg6 xs0 0 (by decide)) (blk arg7 harg7 xs1 0 (by decide)) 32 le_rfl) shapeCasts_S128x128_S128x128 := rfl
  obtain ⟨e2, e0, e1⟩ := tripC c i arg2 harg2 arg3 harg3 arg4 harg4 x0 x1 x2
  rw [e, shapeCast_self, rcAt_apply, blk_apply arg6 harg6 xs0 _ _ y, blk_apply arg7 harg7 xs1 _ _ y, e2, e0, e1]; rfl

theorem rmC1 (y : S128x128.Idx) : (kernelRun0_C.sl.v867 c i arg2 harg2 arg3 harg3 arg4 harg4 arg6 harg6 x0 x1 x2 xs0) y
    = newRm x2 (k0_pay9 i x1) (k0_pay10 x0 x1) xs0 (at4 1 (by decide) y) := by
  have e : kernelRun0_C.sl.v867 c i arg2 harg2 arg3 harg3 arg4 harg4 arg6 harg6 x0 x1 x2 xs0
      = shapeCast S128x128 (rmAt (kernelRun0_C.sl.r_2 c arg4 harg4 x2) (kernelRun0_C.sl.r c i arg3 harg3 x1) (kernelRun0_C.sl.r_1 c arg2 harg2 arg3 harg3 x0 x1) 1 (by decide) (blk arg6 harg6 xs0 1 (by decide)) 32 le_rfl) shapeCasts_S128x128_S128x128 := rfl
  obtain ⟨e2, e0, e1⟩ := tripC c i arg2 harg2 arg3 harg3 arg4 harg4 x0 x1 x2
  rw [e, shapeCast_self, rmAt_apply, blk_apply arg6 harg6 xs0 _ _ y, e2, e0, e1]; rfl

theorem rcC1 (y : S128x128.Idx) : (kernelRun0_C.sl.v870 c i arg2 harg2 arg3 harg3 arg4 harg4 arg6 harg6 arg7 harg7 x0 x1 x2 xs0 xs1) y
    = newRc i x2 (k0_pay9 i x1) (k0_pay10 x0 x1) xs0 xs1 (at4 1 (by decide) y) := by
  have e : kernelRun0_C.sl.v870 c i arg2 harg2 arg3 harg3 arg4 harg4 arg6 harg6 arg7 harg7 x0 x1 x2 xs0 xs1
      = shapeCast S128x128 (rcAt i (kernelRun0_C.sl.r_2 c arg4 harg4 x2) (kernelRun0_C.sl.r c i arg3 harg3 x1) (kernelRun0_C.sl.r_1 c arg2 harg2 arg3 harg3 x0 x1) 1 (by decide) (blk arg6 harg6 xs0 1 (by decide)) (blk arg7 harg7 xs1 1 (by decide)) 32 le_rfl) shapeCasts_S128x128_S128x128 := rfl
  obtain ⟨e2, e0, e1⟩ := tripC c i arg2 harg2 arg3 harg3 arg4 harg4 x0 x1 x2
  rw [e, shapeCast_self, rcAt_apply, blk_apply arg6 harg6 xs0 _ _ y, blk_apply arg7 harg7 xs1 _ _ y, e2, e0, e1]; rfl

theorem rmC2 (y : S128x128.Idx) : (kernelRun0_C.sl.v1292 c i arg2 harg2 arg3 harg3 arg4 harg4 arg6 harg6 x0 x1 x2 xs0) y
    = newRm x2 (k0_pay9 i x1) (k0_pay10 x0 x1) xs0 (at4 2 (by decide) y) := by
  have e : kernelRun0_C.sl.v1292 c i arg2 harg2 arg3 harg3 arg4 harg4 arg6 harg6 x0 x1 x2 xs0
      = shapeCast S128x128 (rmAt (kernelRun0_C.sl.r_2 c arg4 harg4 x2) (kernelRun0_C.sl.r c i arg3 harg3 x1) (kernelRun0_C.sl.r_1 c arg2 harg2 arg3 harg3 x0 x1) 2 (by decide) (blk arg6 harg6 xs0 2 (by decide)) 32 le_rfl) shapeCasts_S128x128_S128x128 := rfl
  obtain ⟨e2, e0, e1⟩ := tripC c i arg2 harg2 arg3 harg3 arg4 harg4 x0 x1 x2
  rw [e, shapeCast_self, rmAt_apply, blk_apply arg6 harg6 xs0 _ _ y, e2, e0, e1]; rfl

theorem rcC2 (y : S128x128.Idx) : (kernelRun0_C.sl.v1295 c i arg2 harg2 arg3 harg3 arg4 harg4 arg6 harg6 arg7 harg7 x0 x1 x2 xs0 xs1) y
    = newRc i x2 (k0_pay9 i x1) (k0_pay10 x0 x1) xs0 xs1 (at4 2 (by decide) y) := by
  have e : kernelRun0_C.sl.v1295 c i arg2 harg2 arg3 harg3 arg4 harg4 arg6 harg6 arg7 harg7 x0 x1 x2 xs0 xs1
      = shapeCast S128x128 (rcAt i (kernelRun0_C.sl.r_2 c arg4 harg4 x2) (kernelRun0_C.sl.r c i arg3 harg3 x1) (kernelRun0_C.sl.r_1 c arg2 harg2 arg3 harg3 x0 x1) 2 (by decide) (blk arg6 harg6 xs0 2 (by decide)) (blk arg7 harg7 xs1 2 (by decide)) 32 le_rfl) shapeCasts_S128x128_S128x128 := rfl
  obtain ⟨e2, e0, e1⟩ := tripC c i arg2 harg2 arg3 harg3 arg4 harg4 x0 x1 x2
  rw [e, shapeCast_self, rcAt_apply, blk_apply arg6 harg6 xs0 _ _ y, blk_apply arg7 harg7 xs1 _ _ y, e2, e0, e1]; rfl

theorem rmC3 (y : S128x128.Idx) : (k0_pay3 (kernelRun0_C.sl.r_1 c arg2 harg2 arg3 harg3 x0 x1) (kernelRun0_C.sl.v1298 c arg4 harg4 x2) (kernelRun0_C.sl.r_7 c i arg2 harg2 arg3 harg3 arg4 harg4 arg6 harg6 x0 x1 x2 xs0) (kernelRun0_C.sl.r_9 c i arg3 harg3 x1)) y
    = newRm x2 (k0_pay9 i x1) (k0_pay10 x0 x1) xs0 (at4 3 (by decide) y) := by
  have e : k0_pay3 (kernelRun0_C.sl.r_1 c arg2 harg2 arg3 harg3 x0 x1) (kernelRun0_C.sl.v1298 c arg4 harg4 x2) (kernelRun0_C.sl.r_7 c i arg2 harg2 arg3 harg3 arg4 harg4 arg6 harg6 x0 x1 x2 xs0) (kernelRun0_C.sl.r_9 c i arg3 harg3 x1)
      = shapeCast S128x128 (rmAt (kernelRun0_C.sl.r_2 c arg4 harg4 x2) (kernelRun0_C.sl.r c i arg3 harg3 x1) (kernelRun0_C.sl.r_1 c arg2 harg2 arg3 harg3 x0 x1) 3 (by decide) (blk arg6 harg6 xs0 3 (by decide)) 32 le_rfl) shapeCasts_S128x128_S128x128 := rfl
  obtain ⟨e2, e0, e1⟩ := tripC c i arg2 harg2 arg3 harg3 arg4 harg4 x0 x1 x2
  rw [e, shapeCast_self, rmAt_apply, blk_apply arg6 harg6 xs0 _ _ y, e2, e0, e1]; rfl

theorem rcC3 (y : S128x128.Idx) : (k0_pay4 (BitVec.ofNat 32 (i 1).val) (kernelRun0_C.sl.r_1 c arg2 harg2 arg3 harg3 x0 x1) (kernelRun0_C.sl.v1298 c arg4 harg4 x2) (kernelRun0_C.sl.r_7 c i arg2 harg2 arg3 harg3 arg4 harg4 arg6 harg6 x0 x1 x2 xs0) (kernelRun0_C.sl.r_8 c i arg2 harg2 arg3 harg3 arg4 harg4 arg6 harg6 arg7 harg7 x0 x1 x2 xs0 xs1) (kernelRun0_C.sl.r_9 c i arg3 harg3 x1)) y
    = newRc i x2 (k0_pay9 i x1) (k0_pay10 x0 x1) xs0 xs1 (at4 3 (by decide) y) := by
  have e : k0_pay4 (BitVec.ofNat 32 (i 1).val) (kernelRun0_C.sl.r_1 c arg2 harg2 arg3 harg3 x0 x1) (kernelRun0_C.sl.v1298 c arg4 harg4 x2) (kernelRun0_C.sl.r_7 c i arg2 harg2 arg3 harg3 arg4 harg4 arg6 harg6 x0 x1 x2 xs0) (kernelRun0_C.sl.r_8 c i arg2 harg2 arg3 harg3 arg4 harg4 arg6 harg6 arg7 harg7 x0 x1 x2 xs0 xs1) (kernelRun0_C.sl.r_9 c i arg3 harg3 x1)
      = shapeCast S128x128 (rcAt i (kernelRun0_C.sl.r_2 c arg4 harg4 x2) (kernelRun0_C.sl.r c i arg3 harg3 x1) (kernelRun0_C.sl.r_1 c arg2 harg2 arg3 harg3 x0 x1) 3 (by decide) (blk arg6 harg6 xs0 3 (by decide)) (blk arg7 harg7 xs1 3 (by decide)) 32 le_rfl) shapeCasts_S128x128_S128x128 := rfl
  obtain ⟨e2, e0, e1⟩ := tripC c i arg2 harg2 arg3 harg3 arg4 harg4 x0 x1 x2
  rw [e, shapeCast_self, rcAt_apply, blk_apply arg6 harg6 xs0 _ _ y, blk_apply arg7 harg7 xs1 _ _ y, e2, e0, e1]; rfl

/-- What case C leaves of the minima. -/
theorem soutC_0 (hc0 : ¬cond0_0 i) (hc1 : cond0_1 i) : sout0_C_0 c i arg2 harg2 arg3 harg3 arg4 harg4 arg5 harg5 arg6 harg6 arg7 harg7 hc0 hc1 x0 x1 x2 xs0 xs1
    = newRm x2 (k0_pay9 i x1) (k0_pay10 x0 x1) xs0 := by
  unfold sout0_C_0
  exact read_four _ _ _ _ _ _ _ _ _ _ _ _ (fun y => rmC0 c i arg2 harg2 arg3 harg3 arg4 harg4 arg6 harg6 x0 x1 x2 xs0 y) (fun y => rmC1 c i arg2 harg2 arg3 harg3 arg4 harg4 arg6 harg6 x0 x1 x2 xs0 y) (fun y => rmC2 c i arg2 harg2 arg3 harg3 arg4 harg4 arg6 harg6 x0 x1 x2 xs0 y) (fun y => rmC3 c i arg2 harg2 arg3 harg3 arg4 harg4 arg6 harg6 x0 x1 x2 xs0 y)

/-- What case C leaves of the chunk numbers. -/
theorem soutC_1 (hc0 : ¬cond0_0 i) (hc1 : cond0_1 i) : sout0_C_1 c i arg2 harg2 arg3 harg3 arg4 harg4 arg5 harg5 arg6 harg6 arg7 harg7 hc0 hc1 x0 x1 x2 xs0 xs1
    = newRc i x2 (k0_pay9 i x1) (k0_pay10 x0 x1) xs0 xs1 := by
  unfold sout0_C_1
  exact read_four _ _ _ _ _ _ _ _ _ _ _ _ (fun y => rcC0 c i arg2 harg2 arg3 harg3 arg4 harg4 arg6 harg6 arg7 harg7 x0 x1 x2 xs0 xs1 y) (fun y => rcC1 c i arg2 harg2 arg3 harg3 arg4 harg4 arg6 harg6 arg7 harg7 x0 x1 x2 xs0 xs1 y) (fun y => rcC2 c i arg2 harg2 arg3 harg3 arg4 harg4 arg6 harg6 arg7 harg7 x0 x1 x2 xs0 xs1 y) (fun y => rcC3 c i arg2 harg2 arg3 harg3 arg4 harg4 arg6 harg6 arg7 harg7 x0 x1 x2 xs0 xs1 y)

/-- What case C leaves in the output's block: the indices computed from the minima and the chunk numbers. -/
theorem outC_3 (hc0 : ¬cond0_0 i) (hc1 : cond0_1 i) : out0_C_3 c i arg2 harg2 arg3 harg3 arg4 harg4 arg5 harg5 arg6 harg6 arg7 harg7 hc0 hc1 x0 x1 x2 xs0 xs1
    = k0_pay5 (newRm x2 (k0_pay9 i x1) (k0_pay10 x0 x1) xs0) (newRc i x2 (k0_pay9 i x1) (k0_pay10 x0 x1) xs0 xs1) := by
  have h0 : kernelRun0_C.sl.v1724 c i arg2 harg2 arg3 harg3 arg4 harg4 arg6 harg6 x0 x1 x2 xs0 = newRm x2 (k0_pay9 i x1) (k0_pay10 x0 x1) xs0 := by
    funext y
    have e := congrFun (read_four (F := F) arg6.view arg6.view.junk (newRm x2 (k0_pay9 i x1) (k0_pay10 x0 x1) xs0) _ _ _ _ [] (by decide) (by decide) (by decide) (by decide) (fun y => rmC0 c i arg2 harg2 arg3 harg3 arg4 harg4 arg6 harg6 x0 x1 x2 xs0 y) (fun y => rmC1 c i arg2 harg2 arg3 harg3 arg4 harg4 arg6 harg6 x0 x1 x2 xs0 y) (fun y => rmC2 c i arg2 harg2 arg3 harg3 arg4 harg4 arg6 harg6 x0 x1 x2 xs0 y) (fun y => rmC3 c i arg2 harg2 arg3 harg3 arg4 harg4 arg6 harg6 x0 x1 x2 xs0 y)) y
    refine Eq.trans ?_ e
    show arg6.view.read (Elt F) _ _ = arg6.view.read (Elt F) _ _
    refine congrArg _ (funext fun a => Fin.ext ?_)
    match a with
    | 0 => show 0 + 1 * (y 0).val = (y 0).val; omega
    | 1 => show 0 + 1 * (y 1).val = (y 1).val; omega
  have h1 : kernelRun0_C.sl.v1727 c i arg2 harg2 arg3 harg3 arg4 harg4 arg6 harg6 arg7 harg7 x0 x1 x2 xs0 xs1 = newRc i x2 (k0_pay9 i x1) (k0_pay10 x0 x1) xs0 xs1 := by
    funext y
    have e := congrFun (read_four (F := F) arg7.view arg7.view.junk (newRc i x2 (k0_pay9 i x1) (k0_pay10 x0 x1) xs0 xs1) _ _ _ _ [] (by decide) (by decide) (by decide) (by decide) (fun y => rcC0 c i arg2 harg2 arg3 harg3 arg4 harg4 arg6 harg6 arg7 harg7 x0 x1 x2 xs0 xs1 y) (fun y => rcC1 c i arg2 harg2 arg3 harg3 arg4 harg4 arg6 harg6 arg7 harg7 x0 x1 x2 xs0 xs1 y) (fun y => rcC2 c i arg2 harg2 arg3 harg3 arg4 harg4 arg6 harg6 arg7 harg7 x0 x1 x2 xs0 xs1 y) (fun y => rcC3 c i arg2 harg2 arg3 harg3 arg4 harg4 arg6 harg6 arg7 harg7 x0 x1 x2 xs0 xs1 y)) y
    refine Eq.trans ?_ e
    show arg7.view.read (Elt F) _ _ = arg7.view.read (Elt F) _ _
    refine congrArg _ (funext fun a => Fin.ext ?_)
    match a with
    | 0 => show 0 + 1 * (y 0).val = (y 0).val; omega
    | 1 => show 0 + 1 * (y 1).val = (y 1).val; omega
  unfold out0_C_3
  funext y
  refine (View.read_writes_cons_rows_of_mem (o := 0) _ _ _ _ _ _ y rfl (Nat.zero_add _).symm rfl).trans ?_
  show k0_pay5 (kernelRun0_C.sl.v1724 c i arg2 harg2 arg3 harg3 arg4 harg4 arg6 harg6 x0 x1 x2 xs0) (kernelRun0_C.sl.v1727 c i arg2 harg2 arg3 harg3 arg4 harg4 arg6 harg6 arg7 harg7 x0 x1 x2 xs0 xs1) y = _
  rw [h0, h1]

end Cert.Proof.Whole

end
-- ==== Proof.Nearest.lean ====
/-
  The first index at which a finite sequence of extended reals is least, three ways: as a predicate with one witness,
  as a running minimum over one lane, as the minimum over 128 lanes of what each lane kept, and as the fold a
  reference's arg-min runs. Nothing here mentions a program.
-/
module

public import Idealize.ShloMosaic.PureOps.Ideal.Laws

@[expose] public section

noncomputable section

namespace Cert.Proof.Nearest

open Idealize.ShloMosaic
open scoped BigOperators

/-- `i` is the first of the indices below `n` at which `d` is least. -/
def FirstMin (d : ℕ → EReal) (n i : ℕ) : Prop := i < n ∧ (∀ j < n, d i ≤ d j) ∧ ∀ j < i, d i < d j

/-- There is at most one such index. -/
theorem FirstMin.unique {d : ℕ → EReal} {n i j : ℕ} (hi : FirstMin d n i) (hj : FirstMin d n j) : i = j := by
  rcases lt_trichotomy i j with h | h | h
  · exact absurd (hj.2.2 i h) (not_lt.2 (hi.2.1 j hj.1))
  · exact h
  · exact absurd (hi.2.2 j h) (not_lt.2 (hj.2.1 i hi.1))

/-- Entries that are `+∞` at the end do not move it. -/
theorem FirstMin.restrict {d : ℕ → EReal} {n n' i : ℕ} (h : FirstMin d n i) (h0 : 0 < n') (hn : n' ≤ n)
    (htop : ∀ j, n' ≤ j → j < n → d j = ⊤) : FirstMin d n' i := by
  have hi : i < n' := by
    by_contra hc
    have := h.2.2 0 (by omega)
    rw [htop i (by omega) h.1] at this
    exact absurd this not_top_lt
  exact ⟨hi, fun j hj => h.2.1 j (by omega), h.2.2⟩

/-- It depends only on the entries below `n`. -/
theorem FirstMin.congr {d e : ℕ → EReal} {n i : ℕ} (h : FirstMin d n i) (he : ∀ j < n, d j = e j) : FirstMin e n i :=
  ⟨h.1, fun j hj => by rw [← he i h.1, ← he j hj]; exact h.2.1 j hj,
    fun j hj => by rw [← he i h.1, ← he j (hj.trans h.1)]; exact h.2.2 j hj⟩

/-! ## One lane -/

/-- What one lane holds after `n` steps: a bound `rm` of the entries seen, and the number `rc` of the first step that
    reached it, or the starting values `⊤` and `0`. -/
def Lane (d : ℕ → EReal) (n : ℕ) (rm rc : EReal) : Prop :=
  (∀ k < n, rm ≤ d k) ∧ ((rm = ⊤ ∧ rc = 0) ∨
    ∃ k, k < n ∧ rm = d k ∧ rm < ⊤ ∧ rc = ((k : ℝ) : EReal) ∧ ∀ k' < k, d k < d k')

theorem Lane.zero (d : ℕ → EReal) : Lane d 0 ⊤ 0 := ⟨fun _ h => absurd h (Nat.not_lt_zero _), .inl ⟨rfl, rfl⟩⟩

/-- One step of the lane. -/
theorem Lane.step {d : ℕ → EReal} {n : ℕ} {rm rc : EReal} (h : Lane d n rm rc) :
    Lane d (n + 1) (if d n < rm then d n else rm) (if d n < rm then ((n : ℝ) : EReal) else rc) := by
  by_cases hx : d n < rm
  · rw [if_pos hx, if_pos hx]
    refine ⟨fun k hk => ?_, .inr ⟨n, Nat.lt_succ_self _, rfl, hx.trans_le le_top, rfl, fun k' hk' => hx.trans_le (h.1 k' hk')⟩⟩
    rcases Nat.lt_succ_iff_lt_or_eq.1 hk with hk | rfl
    · exact hx.le.trans (h.1 k hk)
    · exact le_rfl
  · rw [if_neg hx, if_neg hx]
    refine ⟨fun k hk => ?_, ?_⟩
    · rcases Nat.lt_succ_iff_lt_or_eq.1 hk with hk | rfl
      · exact h.1 k hk
      · exact not_lt.1 hx
    · rcases h.2 with h | ⟨k, hk, h⟩
      · exact .inl h
      · exact .inr ⟨k, by omega, h⟩

/-! ## All the lanes -/

theorem col_eq (k l : ℕ) : ((k : ℝ) : EReal) * ((128 : ℝ) : EReal) + ((l : ℝ) : EReal) = (((128 * k + l : ℕ) : ℝ) : EReal) := by
  rw [← EReal.coe_mul, ← EReal.coe_add]
  congr 1
  push_cast
  ring

/-- The least column among the lanes that hold the least value is the first index at which `D` is least. -/
theorem combine (D : ℕ → EReal) (c : ℕ) (h0 : 0 < c) (hc : 128 * c ≤ 2 ^ 30) (rm rc : Fin 128 → EReal)
    (h : ∀ l : Fin 128, Lane (fun k => D (128 * k + l.val)) c (rm l) (rc l)) :
    ∃ i, FirstMin D (128 * c) i ∧ Finset.univ.inf (fun l : Fin 128 =>
      if rm l = Finset.univ.inf rm then rc l * ((128 : ℝ) : EReal) + ((l.val : ℝ) : EReal)
      else (((2 ^ 30 : ℕ) : ℝ) : EReal)) = ((i : ℝ) : EReal) := by
  have hle : ∀ j < 128 * c, Finset.univ.inf rm ≤ D j := fun j hj => by
    have := (h ⟨j % 128, Nat.mod_lt _ (by omega)⟩).1 (j / 128) (by omega)
    simp only [Nat.div_add_mod] at this
    exact (Finset.inf_le (Finset.mem_univ _)).trans this
  generalize hm : Finset.univ.inf rm = m at hle ⊢
  have hml : ∀ l, m ≤ rm l := fun l => hm ▸ Finset.inf_le (Finset.mem_univ l)
  by_cases hT : m = ⊤
  · subst hT
    have hrm : ∀ l, rm l = ⊤ := fun l => top_le_iff.1 (hml l)
    have hrc : ∀ l, rc l = 0 := fun l => by
      rcases (h l).2 with ⟨_, h⟩ | ⟨k, _, _, h, _⟩
      · exact h
      · rw [hrm l] at h
        exact absurd h (lt_irrefl _)
    refine ⟨0, ⟨by omega, fun j hj => le_top.trans (hle j hj), fun j hj => absurd hj (Nat.not_lt_zero _)⟩, ?_⟩
    refine le_antisymm ((Finset.inf_le (Finset.mem_univ (0 : Fin 128))).trans ?_) (Finset.le_inf fun l _ => ?_)
    · rw [if_pos (hrm 0), hrc 0]
      simp
    · rw [if_pos (hrm l), hrc l, zero_mul, zero_add]
      exact EReal.coe_le_coe_iff.2 (by simp)
  · have hmT : m < ⊤ := lt_top_iff_ne_top.2 hT
    have key : ∀ l, rm l = m → ∃ k, k < c ∧ D (128 * k + l.val) = m ∧ rc l = ((k : ℝ) : EReal)
        ∧ ∀ k' < k, m < D (128 * k' + l.val) := fun l hl => by
      rcases (h l).2 with ⟨ht, _⟩ | ⟨k, hk, h1, _, h3, h4⟩
      · exact absurd (hl.symm.trans ht) hT
      · exact ⟨k, hk, by rw [← hl, h1], h3, fun k' hk' => by rw [← hl, h1]; exact h4 k' hk'⟩
    obtain ⟨l0, -, hl0⟩ := Finset.exists_mem_eq_inf Finset.univ ⟨(0 : Fin 128), Finset.mem_univ _⟩ rm
    rw [hm] at hl0
    obtain ⟨l1, -, hl1⟩ := Finset.exists_mem_eq_inf Finset.univ ⟨(0 : Fin 128), Finset.mem_univ _⟩ (fun l : Fin 128 =>
      if rm l = m then rc l * ((128 : ℝ) : EReal) + ((l.val : ℝ) : EReal) else (((2 ^ 30 : ℕ) : ℝ) : EReal))
    have hall : ∀ l, rm l = m → ∀ k, rc l = ((k : ℝ) : EReal) → ∀ v : ℕ, (if rm l1 = m then
        rc l1 * ((128 : ℝ) : EReal) + ((l1.val : ℝ) : EReal) else (((2 ^ 30 : ℕ) : ℝ) : EReal)) = ((v : ℝ) : EReal) →
        ∀ k : ℕ, rc l = ((k : ℝ) : EReal) → v ≤ 128 * k + l.val := fun l hl k hk v hv k' hk' => by
      have := Finset.inf_le (f := fun l : Fin 128 =>
        if rm l = m then rc l * ((128 : ℝ) : EReal) + ((l.val : ℝ) : EReal) else (((2 ^ 30 : ℕ) : ℝ) : EReal)) (Finset.mem_univ l)
      rw [hl1] at this
      simp only [hv] at this
      rw [if_pos hl, hk', col_eq] at this
      exact_mod_cast EReal.coe_le_coe_iff.1 this
    obtain ⟨k0, hk0, -, hr0, -⟩ := key l0 hl0.symm
    have hl1m : rm l1 = m := by
      by_contra hne
      have := hall l0 hl0.symm k0 hr0 (2 ^ 30) (if_neg hne) k0 hr0
      have := l0.isLt
      omega
    obtain ⟨k1, hk1, hD1, hr1, hf1⟩ := key l1 hl1m
    have hv : (if rm l1 = m then rc l1 * ((128 : ℝ) : EReal) + ((l1.val : ℝ) : EReal) else (((2 ^ 30 : ℕ) : ℝ) : EReal))
        = (((128 * k1 + l1.val : ℕ) : ℝ) : EReal) := by rw [if_pos hl1m, hr1, col_eq]
    refine ⟨128 * k1 + l1.val, ⟨by have := l1.isLt; omega, fun j hj => hD1.le.trans (hle j hj), fun j hj => ?_⟩, hl1.trans hv⟩
    rw [hD1]
    have hjc : j < 128 * c := by have := l1.isLt; omega
    refine lt_of_le_of_ne (hle j hjc) fun hjm => ?_
    have hlj : rm ⟨j % 128, Nat.mod_lt _ (by omega)⟩ = m := by
      refine le_antisymm ?_ (hml _)
      have := (h ⟨j % 128, Nat.mod_lt _ (by omega)⟩).1 (j / 128) (by omega)
      simp only [Nat.div_add_mod] at this
      exact this.trans hjm.ge
    obtain ⟨k, hk, hD, hr, hf⟩ := key _ hlj
    have hle' := hall _ hlj k hr _ hv k hr
    have hkk : k ≤ j / 128 := by
      by_contra hc'
      have := hf (j / 128) (by omega)
      simp only [Nat.div_add_mod] at this
      exact absurd hjm this.ne
    simp only at hle'
    omega

/-! ## The fold of an arg-min -/

/-- The pair `a` comes before `b`: its value is less, or equal at a smaller index. -/
def Before (a b : EReal × BitVec 32) : Prop := a.1 < b.1 ∨ a.1 = b.1 ∧ a.2.toInt < b.2.toInt

/-- Folding "keep the one that comes first" ends at one of the pairs, and at none that another comes before. -/
theorem fold_before (f : EReal × BitVec 32 → EReal × BitVec 32 → EReal × BitVec 32)
    (hpos : ∀ a b, Before a b → f a b = a) (hneg : ∀ a b, ¬Before a b → f a b = b) :
    ∀ (l : List (EReal × BitVec 32)) (a : EReal × BitVec 32),
      l.foldl f a ∈ a :: l ∧ ∀ b ∈ a :: l, ¬Before b (l.foldl f a)
  | [], a => ⟨by simp, fun b hb => by
      rw [List.mem_singleton.1 hb]
      simp [Before]⟩
  | x :: l, a => by
    obtain ⟨h1, h2⟩ := fold_before f hpos hneg l (f a x)
    rw [List.foldl_cons]
    have htr : ∀ p q r : EReal × BitVec 32, ¬Before q p → ¬Before r q → ¬Before r p := by
      intro p q r h1 h2 h3
      simp only [Before, not_or, not_and, not_lt] at h1 h2
      rcases h3 with h3 | ⟨h3, h4⟩
      · exact absurd (h3.trans_le h1.1) (not_lt.2 h2.1)
      · have e : q.1 = r.1 := le_antisymm h2.1 (h3 ▸ h1.1)
        have := h1.2 (e.trans h3)
        have := h2.2 e.symm
        omega
    have hir : ∀ p : EReal × BitVec 32, ¬Before p p := fun p => by simp [Before]
    by_cases hb : Before a x
    · rw [hpos a x hb] at h1 h2 ⊢
      refine ⟨?_, ?_⟩
      · rcases List.mem_cons.1 h1 with h | h
        · rw [h]; simp
        · exact List.mem_cons_of_mem _ (List.mem_cons_of_mem _ h)
      · intro b hbm
        rcases List.mem_cons.1 hbm with rfl | hbm
        · exact h2 _ (by simp)
        · rcases List.mem_cons.1 hbm with rfl | hbm
          · refine htr _ a _ (h2 a (by simp)) fun hc => ?_
            rcases hb with hb | hb <;> rcases hc with hc | hc
            · exact absurd (hb.trans hc) (lt_irrefl _)
            · exact absurd hc.1 hb.ne'
            · exact absurd hb.1 hc.ne'
            · have := hb.2; have := hc.2; omega
          · exact h2 b (List.mem_cons_of_mem _ hbm)
    · rw [hneg a x hb] at h1 h2 ⊢
      refine ⟨List.mem_cons_of_mem _ h1, ?_⟩
      intro b hbm
      rcases List.mem_cons.1 hbm with rfl | hbm
      · exact htr _ x _ (h2 x (by simp)) hb
      · exact h2 b hbm

/-- Over pairs of an entry and its own index, from `(+∞, 0)`, that fold ends at the first least index. -/
theorem fold_firstMin (f : EReal × BitVec 32 → EReal × BitVec 32 → EReal × BitVec 32)
    (hpos : ∀ a b, Before a b → f a b = a) (hneg : ∀ a b, ¬Before a b → f a b = b)
    (d : ℕ → EReal) (n : ℕ) (hn0 : 0 < n) (hn : n ≤ 2 ^ 31) (l : List (EReal × BitVec 32))
    (hl : ∀ p, p ∈ l ↔ ∃ j, j < n ∧ p = (d j, BitVec.ofNat 32 j)) :
    ∃ i, FirstMin d n i ∧ (l.foldl f (⊤, 0#32)).2 = BitVec.ofNat 32 i := by
  obtain ⟨h1, h2⟩ := fold_before f hpos hneg l (⊤, 0#32)
  generalize l.foldl f (⊤, 0#32) = r at h1 h2
  have hint : ∀ j < n, (BitVec.ofNat 32 j).toInt = (j : ℤ) := fun j hj => by
    rw [BitVec.toInt_eq_toNat_of_lt] <;> simp only [BitVec.toNat_ofNat] <;> rw [Nat.mod_eq_of_lt] <;> omega
  rcases List.mem_cons.1 h1 with rfl | h1
  · refine ⟨0, ⟨hn0, fun j hj => ?_, fun j hj => absurd hj (Nat.not_lt_zero _)⟩, rfl⟩
    have := h2 (d j, BitVec.ofNat 32 j) (List.mem_cons_of_mem _ ((hl _).2 ⟨j, hj, rfl⟩))
    simp only [Before, not_or, not_lt] at this
    exact le_top.trans this.1
  · obtain ⟨i, hi, rfl⟩ := (hl _).1 h1
    refine ⟨i, ⟨hi, fun j hj => ?_, fun j hj => ?_⟩, rfl⟩
    · have := h2 (d j, BitVec.ofNat 32 j) (List.mem_cons_of_mem _ ((hl _).2 ⟨j, hj, rfl⟩))
      simp only [Before, not_or, not_lt] at this
      exact this.1
    · have := h2 (d j, BitVec.ofNat 32 j) (List.mem_cons_of_mem _ ((hl _).2 ⟨j, hj.trans hi, rfl⟩))
      simp only [Before, not_or, not_lt, not_and] at this
      refine lt_of_le_of_ne this.1 fun e => ?_
      have := this.2 e.symm
      rw [hint i hi, hint j (hj.trans hi)] at this
      omega

end Cert.Proof.Nearest

end
-- ==== Proof.TcNear.lean ====
/-
  What one grid point of the TensorCore kernel computes over the extended reals: a chunk's entry as a distance, a step
  of a lane, and the index the last point of a row of blocks writes.
-/
module

public import proofs.«01_k».proof.Proof.TcPay
public import proofs.«01_k».proof.Proof.Nearest
public import Idealize.ShloMosaic.PureOps.Ideal.Laws
public import Idealize.ShloMosaic.Lib.ValueIdxRank1
public import Idealize.ShloMosaic.Lib.ValueLayoutCasts

@[expose] public section

set_option maxRecDepth 16384

noncomputable section

namespace Cert.Proof.Whole

open Cert.KernelIdeal Cert.KernelIdeal.Gen Cert.Proof.Nearest
open Idealize.ShloMosaic Idealize.ShloMosaic.TcCoe Idealize.ShloMosaic.ValueIdx
open scoped BigOperators

/-! ## Constants and conversions -/

theorem inf_const : (FloatOps.ofBits .f32 0x7F800000#32 : Ideal .f32) = ⊤ := by
  show Ideal.ofBits .f32 0x7F800000#32 = ⊤
  simp [Ideal.ofBits, Ideal.ieee]

theorem zero_const : (FloatOps.ofBits .f32 0x00000000#32 : Ideal .f32) = 0 := by
  show Ideal.ofBits .f32 0x00000000#32 = 0
  simp [Ideal.ofBits, Ideal.ieee]

theorem lanes_const : (FloatOps.ofBits .f32 0x43000000#32 : Ideal .f32) = ((128 : ℝ) : EReal) := by
  show Ideal.ofBits .f32 0x43000000#32 = _
  simp [Ideal.ofBits, Ideal.ieee, -EReal.coe_mul]
  norm_num

theorem far_const : (FloatOps.ofBits .f32 0x4E800000#32 : Ideal .f32) = (((2 ^ 30 : ℕ) : ℝ) : EReal) := by
  show Ideal.ofBits .f32 0x4E800000#32 = _
  simp [Ideal.ofBits, Ideal.ieee, -EReal.coe_mul]
  norm_num

theorem toInt_small (n : ℕ) (hn : n < 2 ^ 31) : (BitVec.ofNat 32 n).toInt = (n : ℤ) := by
  rw [BitVec.toInt_eq_toNat_of_lt] <;> simp only [BitVec.toNat_ofNat] <;> rw [Nat.mod_eq_of_lt] <;> omega

/-- A chunk's number as a float. -/
theorem chunkNo_eq (i : grid0.Coords) (k : ℕ) (hk : k < 32) :
    (chunkNo i k : Ideal .f32) = (((32 * (i 1).val + k : ℕ) : ℝ) : EReal) := by
  have h1 : (i 1).val < 5 := (i 1).isLt
  have e : Scalar.addi (Scalar.muli (BitVec.ofNat 32 (i 1).val) 32#32) (BitVec.ofNat 32 k) = BitVec.ofNat 32 (32 * (i 1).val + k) := by
    apply BitVec.eq_of_toNat_eq
    show ((BitVec.ofNat 32 (i 1).val * 32#32) + BitVec.ofNat 32 k).toNat = _
    simp only [BitVec.toNat_add, BitVec.toNat_mul, BitVec.toNat_ofNat]
    omega
  show (((Scalar.addi (Scalar.muli (BitVec.ofNat 32 (i 1).val) 32#32) (BitVec.ofNat 32 k)).toInt : ℝ) : EReal) = _
  rw [e, toInt_small _ (by omega)]
  norm_cast

/-- A number below 2³¹ comes back from the extended reals. -/
theorem fptosi_nat (n : ℕ) (hn : n < 2 ^ 31) : Ideal.fptosi 32 ((n : ℝ) : EReal) = BitVec.ofNat 32 n := by
  unfold Ideal.fptosi
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]
    omega
  rw [e, BitVec.ofInt_natCast]

theorem select_olt (x y a b : Ideal .f32) :
    Scalar.select (FloatOps.cmpf .olt x y) a b = if (x : EReal) < y then a else b := by
  show (if Ideal.cmp .olt x y = 1#1 then a else b) = _
  by_cases h : (x : EReal) < y <;> simp [Ideal.cmp, h]

theorem select_oeq (x y a b : Ideal .f32) :
    Scalar.select (FloatOps.cmpf .oeq x y) a b = if (x : EReal) = y then a else b := by
  show (if Ideal.cmp .oeq x y = 1#1 then a else b) = _
  by_cases h : (x : EReal) = y <;> simp [Ideal.cmp, h]

/-! ## The payloads at an element -/

theorem pay6_apply (y : S512x128.Idx) : (k0_pay6 (F := Ideal)) y = (⊤ : EReal) := by
  unfold k0_pay6
  rw [shapeCast_self]
  exact inf_const

theorem pay7_apply (y : S512x128.Idx) : (k0_pay7 (F := Ideal)) y = (0 : EReal) := by
  unfold k0_pay7
  rw [shapeCast_self]
  exact zero_const

theorem lift_rows (j : S512.Idx) (k : Fin 128) : reduces_S512x128_S512.lift j k = ix2 (j 0) k := by
  funext a
  match a with
  | ⟨0, _⟩ => rfl
  | ⟨1, _⟩ => rfl

theorem lift_cols (j : S4096.Idx) (k : Fin 8) : reduces_S8x4096_S4096.lift j k = ix2 k (j 0) := by
  funext a
  match a with
  | ⟨0, _⟩ => rfl
  | ⟨1, _⟩ => rfl

/-- The masked squared length of a column. -/
theorem pay9_apply (i : grid0.Coords) (v5 : Vec Ideal S8x4096 .f32) (c : Fin 4096) :
    k0_pay9 i v5 (ix2 ⟨0, Nat.one_pos⟩ c)
      = (if 4096 * (i 1).val + c.val < 20000 then ∑ a : Fin 8, (v5 (ix2 a c) * v5 (ix2 a c) : EReal) else ⊤) := by
  have h1 : (i 1).val < 5 := (i 1).isLt
  have hc := c.isLt
  unfold k0_pay9
  simp only [k0_pay8, shapeCast_self]
  rw [select_apply]
  have hcond : cmpi .slt (addi (broadcast S1x4096 (Scalar.muli (BitVec.ofNat 32 (i 1).val) 4096#32)) (iota .tc S1x4096 32 [1] iota_S1x4096_d1_w32)) (broadcast S1x4096 20000#32) (ix2 ⟨0, Nat.one_pos⟩ c)
      = BitVec.ofBool (decide (4096 * (i 1).val + c.val < 20000)) := by
    have e : (addi (broadcast S1x4096 (Scalar.muli (BitVec.ofNat 32 (i 1).val) 4096#32)) (iota .tc S1x4096 32 [1] iota_S1x4096_d1_w32)) (ix2 ⟨0, Nat.one_pos⟩ c) = BitVec.ofNat 32 (4096 * (i 1).val + c.val) := by
      show (BitVec.ofNat 32 (i 1).val * 4096#32) + iota .tc S1x4096 32 [1] iota_S1x4096_d1_w32 (ix2 ⟨0, Nat.one_pos⟩ c) = _
      rw [show iota .tc S1x4096 32 [1] iota_S1x4096_d1_w32 (ix2 ⟨0, Nat.one_pos⟩ c) = BitVec.ofNat 32 c.val from iota_single_apply _ _ _ _ _ _]
      apply BitVec.eq_of_toNat_eq
      simp only [BitVec.toNat_add, BitVec.toNat_mul, BitVec.toNat_ofNat]
      omega
    show IntOp.cmpi .slt _ 20000#32 = _
    rw [e]
    show BitVec.ofBool (BitVec.slt _ _) = _
    rw [BitVec.slt, toInt_small _ (by omega)]
    congr 2
    simp
    omega
  rw [hcond]
  have hsum : shapeCast S1x4096 (multiReduction (F := Ideal) .add [0] S4096 (mulf v5 v5) 0x00000000#32 reduces_S8x4096_S4096 (.inl rfl) rfl) shapeCasts_S4096_S1x4096 (ix2 ⟨0, Nat.one_pos⟩ c)
      = (∑ a : Fin 8, (v5 (ix2 a c) * v5 (ix2 a c) : EReal)) := by
    refine (shapeCast_a_1a_apply _ _ _ _).trans ?_
    refine (Ideal.multiReduction_add_single _ _ _ _ _ _).trans ?_
    refine Finset.sum_congr rfl fun a _ => ?_
    exact congrArg (fun i => (v5 i * v5 i : EReal)) (lift_cols (ix1 c) a)
  rw [hsum]
  by_cases h : 4096 * (i 1).val + c.val < 20000
  · simp [h, Scalar.select]
  · simp only [h, decide_false, if_false]
    rfl

/-- A product of a row and a column. -/
theorem pay10_apply (v3 : Vec Ideal S512x8 .f32) (v5 : Vec Ideal S8x4096 .f32) (r : Fin 512) (c : Fin 4096) :
    k0_pay10 v3 v5 (ix2 r c) = (∑ a : Fin 8, (v3 (ix2 r a) * v5 (ix2 a c) : EReal)) := by
  unfold k0_pay10
  simp only [k0_pay8, shapeCast_self]
  refine (Ideal.matmul_constant_zero_apply dot_S512x8_S8x4096_S512x4096_1_0_0_1_n_n none v3 v5 (ix2 r c)).trans ?_
  refine Fintype.sum_equiv (contrEquiv1 dot_S512x8_S8x4096_S512x4096_1_0_0_1_n_n 8 rfl rfl)
    (fun k => (v3 (dot_S512x8_S8x4096_S512x4096_1_0_0_1_n_n.lhsIdx (ix2 r c) k) * v5 (dot_S512x8_S8x4096_S512x4096_1_0_0_1_n_n.rhsIdx (ix2 r c) k) : EReal))
    (fun a => (v3 (ix2 r a) * v5 (ix2 a c) : EReal)) fun k => ?_
  have el : dot_S512x8_S8x4096_S512x4096_1_0_0_1_n_n.lhsIdx (ix2 r c) k = ix2 r (contrEquiv1 dot_S512x8_S8x4096_S512x4096_1_0_0_1_n_n 8 rfl rfl k) := by
    funext a
    match a with
    | ⟨0, _⟩ => rfl
    | ⟨1, _⟩ => rfl
  have er : dot_S512x8_S8x4096_S512x4096_1_0_0_1_n_n.rhsIdx (ix2 r c) k = ix2 (contrEquiv1 dot_S512x8_S8x4096_S512x4096_1_0_0_1_n_n 8 rfl rfl k) c := by
    funext a
    match a with
    | ⟨0, _⟩ => rfl
    | ⟨1, _⟩ => rfl
  show (v3 _ * v5 _ : EReal) = _
  rw [el, er]

/-- A row minimum. -/
theorem rowMin_apply (x : Vec Ideal S512x128 .f32) (j : S512.Idx) :
    multiReduction (F := Ideal) (φ := .f32) .minimumf [1] S512 x 0x7F800000#32 reduces_S512x128_S512 (.inl rfl) rfl j
      = Finset.univ.inf (fun l : Fin 128 => (x (ix2 (j 0) l) : EReal)) := by
  refine (multiReduction_minimumf_eq_fold _ _ _ _ _ _).trans ?_
  refine (reduces_S512x128_S512.fold_filter_drop_single _ _ x j).trans ?_
  rw [inf_const]
  refine (Finset.fold_congr (g := fun l : Fin 128 => (x (ix2 (j 0) l) : EReal)) fun l _ => ?_).trans rfl
  exact congrArg x (lift_rows j l)

/-- The index the last point writes for a row, from what the lanes of that row hold. -/
theorem pay5_apply (rm rc : Vec Ideal S512x128 .f32) (r : Fin 512) :
    k0_pay5 rm rc (ix2 r ⟨0, Nat.one_pos⟩)
      = Ideal.fptosi 32 (Finset.univ.inf (fun l : Fin 128 =>
          if (rm (ix2 r l) : EReal) = Finset.univ.inf (fun l : Fin 128 => (rm (ix2 r l) : EReal))
          then (rc (ix2 r l) : EReal) * ((128 : ℝ) : EReal) + ((l.val : ℝ) : EReal) else (((2 ^ 30 : ℕ) : ℝ) : EReal))) := by
  unfold k0_pay5
  show Ideal.fptosi 32 (shapeCast S512x1 _ shapeCasts_S512_S512x1 (ix2 r ⟨0, Nat.one_pos⟩)) = _
  rw [shapeCast_a_a1_apply, rowMin_apply]
  congr 2
  funext l
  rw [select_apply]
  have hb : broadcastTo S512x128 (shapeCast S512x1 (multiReduction (F := Ideal) (φ := .f32) .minimumf [1] S512 rm 0x7F800000#32 reduces_S512x128_S512 (.inl rfl) rfl) shapeCasts_S512_S512x1) broadcasts_S512x1_S512x128 (ix2 r l)
      = Finset.univ.inf (fun l : Fin 128 => (rm (ix2 r l) : EReal)) := by
    refine (broadcastTo_apply _ _ _ (ix2 r ⟨0, Nat.one_pos⟩) ?_).trans ?_
    · intro ax
      match ax with
      | ⟨0, _⟩ => rfl
      | ⟨1, _⟩ => rfl
    · rw [shapeCast_a_a1_apply, rowMin_apply]
  refine (select_oeq _ _ _ _).trans ?_
  erw [hb]
  refine if_congr Iff.rfl ?_ far_const
  show (rc (ix2 r l) : EReal) * (FloatOps.ofBits .f32 0x43000000#32 : Ideal .f32) + (((iota .tc S512x128 32 [1] iota_S512x128_d1_w32 (ix2 r l)).toInt : ℝ) : EReal) = _
  rw [lanes_const, show iota .tc S512x128 32 [1] iota_S512x128_d1_w32 (ix2 r l) = BitVec.ofNat 32 l.val from iota_single_apply _ _ _ _ _ _,
    toInt_small _ (by have := l.isLt; omega), Int.cast_natCast]
/-! ## A grid point's step of a lane -/

/-- The distance of a row, with the eight doubled coordinates `P8` and the squared length `q`, to a column. -/
def dist (P8 : Fin 8 → EReal) (q : EReal) (T8 : Fin 8 → ℕ → EReal) (col : ℕ) : EReal :=
  (q + if col < 20000 then ∑ a : Fin 8, T8 a col * T8 a col else ⊤) - ∑ a : Fin 8, P8 a * T8 a col

/-- An entry of a grid point's block is the distance to its column. -/
theorem chS_eq (i : grid0.Coords) (x0 : Vec Ideal S512x8 .f32) (x1 : Vec Ideal S8x4096 .f32) (x2 : Vec Ideal S512x1 .f32)
    (T8 : Fin 8 → ℕ → EReal) (hT : ∀ a (c : Fin 4096), (x1 (ix2 a c) : EReal) = T8 a (4096 * (i 1).val + c.val))
    (r : Fin 512) (l : Fin 128) (k : Fin 32) :
    (chS x2 (k0_pay9 i x1) (k0_pay10 x0 x1) r l k : EReal)
      = dist (fun a => x0 (ix2 r a)) (x2 (ix2 r ⟨0, Nat.one_pos⟩)) T8 (128 * (32 * (i 1).val + k.val) + l.val) := by
  have hc : 4096 * (i 1).val + (128 * k.val + l.val) = 128 * (32 * (i 1).val + k.val) + l.val := by omega
  show ((x2 (ix2 r ⟨0, Nat.one_pos⟩) : EReal) + (k0_pay9 i x1 (ix2 ⟨0, Nat.one_pos⟩ ⟨128 * k.val + l.val, by omega⟩) : EReal))
    - (k0_pay10 x0 x1 (ix2 r ⟨128 * k.val + l.val, by omega⟩) : EReal) = _
  rw [pay9_apply, pay10_apply]
  simp only [hT, hc]
  rfl

/-- The chunks of one grid point, from a lane that has seen the chunks before. -/
theorem lane_run (i : grid0.Coords) (d : ℕ → EReal) (f : Fin 32 → Ideal .f32)
    (hf : ∀ k : Fin 32, (f k : EReal) = d (32 * (i 1).val + k.val)) (rm rc : Ideal .f32)
    (h : Lane d (32 * (i 1).val) rm rc) :
    ∀ (n : ℕ) (hn : n ≤ 32), Lane d (32 * (i 1).val + n) (srm f rm n hn) (src i f rm rc n hn)
  | 0, _ => h
  | n + 1, hn => by
    have ih := (lane_run i d f hf rm rc h n (Nat.le_of_succ_le hn)).step
    have e1 : (srm f rm (n + 1) hn : EReal) = if d (32 * (i 1).val + n) < srm f rm n (Nat.le_of_succ_le hn)
        then d (32 * (i 1).val + n) else srm f rm n (Nat.le_of_succ_le hn) := by
      refine (select_olt _ _ _ _).trans ?_
      rw [hf ⟨n, hn⟩]
    have e2 : (src i f rm rc (n + 1) hn : EReal) = if d (32 * (i 1).val + n) < srm f rm n (Nat.le_of_succ_le hn)
        then (((32 * (i 1).val + n : ℕ) : ℝ) : EReal) else src i f rm rc n (Nat.le_of_succ_le hn) := by
      refine (select_olt _ _ _ _).trans ?_
      rw [hf ⟨n, hn⟩, chunkNo_eq i n hn]
    rw [e1, e2]
    exact ih

/-- What a grid point leaves in a row and lane, from what it found there. -/
theorem point_lane (i : grid0.Coords) (x0 : Vec Ideal S512x8 .f32) (x1 : Vec Ideal S8x4096 .f32) (x2 : Vec Ideal S512x1 .f32)
    (T8 : Fin 8 → ℕ → EReal) (hT : ∀ a (c : Fin 4096), (x1 (ix2 a c) : EReal) = T8 a (4096 * (i 1).val + c.val))
    (r : Fin 512) (l : Fin 128) (rm rc : Vec Ideal S512x128 .f32)
    (h : Lane (fun k => dist (fun a => x0 (ix2 r a)) (x2 (ix2 r ⟨0, Nat.one_pos⟩)) T8 (128 * k + l.val)) (32 * (i 1).val)
      (rm (ix2 r l)) (rc (ix2 r l))) :
    Lane (fun k => dist (fun a => x0 (ix2 r a)) (x2 (ix2 r ⟨0, Nat.one_pos⟩)) T8 (128 * k + l.val)) (32 * ((i 1).val + 1))
      (newRm x2 (k0_pay9 i x1) (k0_pay10 x0 x1) rm (ix2 r l)) (newRc i x2 (k0_pay9 i x1) (k0_pay10 x0 x1) rm rc (ix2 r l)) :=
  lane_run i _ _ (fun k => chS_eq i x0 x1 x2 T8 hT r l k) _ _ h 32 le_rfl

/-- The index written for a row whose lanes have seen all the chunks is the first column at the least distance. -/
theorem row_index (D : ℕ → EReal) (rm rc : Vec Ideal S512x128 .f32) (r : Fin 512)
    (h : ∀ l : Fin 128, Lane (fun k => D (128 * k + l.val)) 160 (rm (ix2 r l)) (rc (ix2 r l))) :
    ∃ i, FirstMin D 20480 i ∧ k0_pay5 rm rc (ix2 r ⟨0, Nat.one_pos⟩) = BitVec.ofNat 32 i := by
  obtain ⟨i, hi, e⟩ := combine D 160 (by norm_num) (by norm_num) (fun l => rm (ix2 r l)) (fun l => rc (ix2 r l)) h
  refine ⟨i, hi, ?_⟩
  rw [pay5_apply, e, fptosi_nat i (by have := hi.1; omega)]

end Cert.Proof.Whole

end
-- ==== Proof.TcIdeal.lean ====
/-
  The TensorCore call over the extended reals: every row of its result holds the first column at the least distance.
-/
module

public import proofs.«01_k».proof.Proof.TcVal
public import proofs.«01_k».proof.Proof.TcNear

@[expose] public section

set_option maxRecDepth 16384

noncomputable section

namespace Cert.Proof.Whole

open Cert.KernelIdeal Cert.KernelIdeal.Gen Cert.Proof.Nearest
open Idealize.ShloMosaic Idealize.ShloMosaic.TcCoe Idealize.ShloMosaic.ValueIdx
open scoped BigOperators

variable (m : (c : Dev nD) → (b : Ref sig .tc) → Buf (Elt Ideal) ((c : Thread nD τ).loc b))

/-- The padded points, doubled. -/
def P8of (c : Dev nD) (row : Fin 5120) (a : Fin 8) : EReal := (m c main_v10 : Vec Ideal S5120x8 .f32) (ix2 row a)
/-- The points' squared lengths. -/
def Qof (c : Dev nD) (row : Fin 5120) : EReal := (m c main_v20 : Vec Ideal S5120x1 .f32) (ix2 row ⟨0, Nat.one_pos⟩)
/-- The padded targets, one column each. -/
def T8of (c : Dev nD) (a : Fin 8) (col : ℕ) : EReal :=
  if h : col < 20480 then (m c main_v17 : Vec Ideal S8x20480 .f32) (ix2 a ⟨col, h⟩) else 0

/-- The distance from a row to a column, read off the call's operands. -/
def distOf (c : Dev nD) (row : Fin 5120) (col : ℕ) : EReal := dist (P8of m c row) (Qof m c row) (T8of m c) col

/-! ## The blocks -/

theorem coords_facts : ∀ t : Fin cfg0.N, ((grid0.coords t) 1).val = t.val % 5 :=
  (by decide +kernel : ∀ t : Fin grid0.N, _)

theorem idx_facts0 : ∀ t : Fin cfg0.N, win0_0.index t (0 : Fin 2) = t.val / 5 ∧ win0_0.index t (1 : Fin 2) = 0 :=
  (by decide +kernel : ∀ t : Fin grid0.N, _)

theorem idx_facts1 : ∀ t : Fin cfg0.N, win0_1.index t (0 : Fin 2) = 0 ∧ win0_1.index t (1 : Fin 2) = t.val % 5 :=
  (by decide +kernel : ∀ t : Fin grid0.N, _)

theorem idx_facts2 : ∀ t : Fin cfg0.N, win0_2.index t (0 : Fin 2) = t.val / 5 ∧ win0_2.index t (1 : Fin 2) = 0 :=
  (by decide +kernel : ∀ t : Fin grid0.N, _)

theorem div_lt (t : Fin cfg0.N) : t.val / 5 < 10 := by
  have h := lt_of_lt_of_eq t.isLt (show cfg0.N = 50 from N_0)
  omega

/-- The row of the arrays that row `r` of point `t`'s block is. -/
def rowAt (t : Fin cfg0.N) (r : Fin 512) : Fin 5120 := ⟨512 * (t.val / 5) + r.val, by have := div_lt t; have := r.isLt; omega⟩

theorem iblk0_apply (c : Dev nD) (t : Fin cfg0.N) (r : Fin 512) (a : Fin 8) :
    ((iblk m c 0 t : Vec Ideal S512x8 .f32) (ix2 r a) : EReal) = P8of m c (rowAt t r) a := by
  obtain ⟨e0, e1⟩ := idx_facts0 t
  show (m c main_v10 : Vec Ideal S5120x8 .f32) (((cfg0.win 0).blk t).view.emb (ix2 r a)) = _
  refine congrArg (m c main_v10 : Vec Ideal S5120x8 .f32) (funext fun x => Fin.ext ?_)
  match x with
  | ⟨0, _⟩ => show win0_0.index t (0 : Fin 2) * 512 + 1 * r.val = 512 * (t.val / 5) + r.val; rw [e0]; omega
  | ⟨1, _⟩ => show win0_0.index t (1 : Fin 2) * 8 + 1 * a.val = a.val; rw [e1]; omega

theorem iblk1_apply (c : Dev nD) (t : Fin cfg0.N) (a : Fin 8) (cc : Fin 4096) :
    ((iblk m c 1 t : Vec Ideal S8x4096 .f32) (ix2 a cc) : EReal) = T8of m c a (4096 * ((grid0.coords t) 1).val + cc.val) := by
  obtain ⟨e0, e1⟩ := idx_facts1 t
  have ec := coords_facts t
  have hcc := cc.isLt
  have hl : 4096 * ((grid0.coords t) 1).val + cc.val < 20480 := by omega
  unfold T8of
  rw [dif_pos hl]
  show (m c main_v17 : Vec Ideal S8x20480 .f32) (((cfg0.win 1).blk t).view.emb (ix2 a cc)) = _
  refine congrArg (m c main_v17 : Vec Ideal S8x20480 .f32) (funext fun x => Fin.ext ?_)
  match x with
  | ⟨0, _⟩ => show win0_1.index t (0 : Fin 2) * 8 + 1 * a.val = a.val; rw [e0]; omega
  | ⟨1, _⟩ => show win0_1.index t (1 : Fin 2) * 4096 + 1 * cc.val = 4096 * ((grid0.coords t) 1).val + cc.val; rw [e1, ec]; omega

theorem iblk2_apply (c : Dev nD) (t : Fin cfg0.N) (r : Fin 512) :
    ((iblk m c 2 t : Vec Ideal S512x1 .f32) (ix2 r ⟨0, Nat.one_pos⟩) : EReal) = Qof m c (rowAt t r) := by
  obtain ⟨e0, e1⟩ := idx_facts2 t
  show (m c main_v20 : Vec Ideal S5120x1 .f32) (((cfg0.win 2).blk t).view.emb (ix2 r ⟨0, Nat.one_pos⟩)) = _
  refine congrArg (m c main_v20 : Vec Ideal S5120x1 .f32) (funext fun x => Fin.ext ?_)
  match x with
  | ⟨0, _⟩ => show win0_2.index t (0 : Fin 2) * 512 + 1 * r.val = 512 * (t.val / 5) + r.val; rw [e0]; omega
  | ⟨1, _⟩ => show win0_2.index t (1 : Fin 2) * 1 + 1 * 0 = 0; rw [e1]

/-- One point's step of a lane, in the call's own arrays. -/
theorem block_lane (c : Dev nD) (t : Fin cfg0.N) (r : Fin 512) (l : Fin 128) (rm rc : Vec Ideal S512x128 .f32)
    (h : Lane (fun k => distOf m c (rowAt t r) (128 * k + l.val)) (32 * (t.val % 5)) (rm (ix2 r l)) (rc (ix2 r l))) :
    Lane (fun k => distOf m c (rowAt t r) (128 * k + l.val)) (32 * (t.val % 5 + 1))
      (newRm (iblk m c 2 t : Vec Ideal S512x1 .f32) (k0_pay9 (grid0.coords t) (iblk m c 1 t : Vec Ideal S8x4096 .f32)) (k0_pay10 (iblk m c 0 t : Vec Ideal S512x8 .f32) (iblk m c 1 t : Vec Ideal S8x4096 .f32)) rm (ix2 r l))
      (newRc (grid0.coords t) (iblk m c 2 t : Vec Ideal S512x1 .f32) (k0_pay9 (grid0.coords t) (iblk m c 1 t : Vec Ideal S8x4096 .f32)) (k0_pay10 (iblk m c 0 t : Vec Ideal S512x8 .f32) (iblk m c 1 t : Vec Ideal S8x4096 .f32)) rm rc (ix2 r l)) := by
  have hd : (fun k => distOf m c (rowAt t r) (128 * k + l.val))
      = fun k => dist (fun a => (iblk m c 0 t : Vec Ideal S512x8 .f32) (ix2 r a)) ((iblk m c 2 t : Vec Ideal S512x1 .f32) (ix2 r ⟨0, Nat.one_pos⟩)) (T8of m c) (128 * k + l.val) := by
    funext k
    unfold distOf
    rw [iblk2_apply m c t r, show (fun a => ((iblk m c 0 t : Vec Ideal S512x8 .f32) (ix2 r a) : EReal)) = P8of m c (rowAt t r) from
      funext fun a => iblk0_apply m c t r a]
  rw [hd] at h ⊢
  rw [← coords_facts t] at h ⊢
  exact point_lane (grid0.coords t) _ _ _ (T8of m c) (fun a cc => iblk1_apply m c t a cc) r l rm rc h

/-! ## The sweep over a row of blocks -/

/-- What the scratch holds after a point: every lane has seen the chunks of the points of its row up to it. -/
theorem lanes_at (c : Dev nD) : ∀ (n : ℕ) (hn : n < cfg0.N) (r : Fin 512) (l : Fin 128),
    Lane (fun k => distOf m c (rowAt ⟨n, hn⟩ r) (128 * k + l.val)) (32 * (n % 5 + 1))
      ((outsAt0 m c n hn).2.1 (ix2 r l)) ((outsAt0 m c n hn).2.2 (ix2 r l)) := by
  intro n
  induction n with
  | zero =>
    intro hn r l
    have e := outsAt0_A m c ⟨0, hn⟩ (Nat.zero_mod _) (by show ¬ 0 % 5 = 4; decide)
    rw [show outsAt0 m c 0 hn = outsAt0 m c (⟨0, hn⟩ : Fin cfg0.N).val hn from rfl, e]
    dsimp only
    rw [soutA_0, soutA_1]
    refine block_lane m c ⟨0, hn⟩ r l _ _ ?_
    rw [pay6_apply, pay7_apply]
    exact Lane.zero _
  | succ n ih =>
    intro hn r l
    have hn' : n < cfg0.N := Nat.lt_of_succ_lt hn
    by_cases h0 : (n + 1) % 5 = 0
    · have h1 : ¬ (n + 1) % 5 = 4 := by omega
      have e := outsAt0_A m c ⟨n + 1, hn⟩ h0 h1
      rw [show outsAt0 m c (n + 1) hn = outsAt0 m c (⟨n + 1, hn⟩ : Fin cfg0.N).val hn from rfl, e]
      dsimp only
      rw [soutA_0, soutA_1]
      refine block_lane m c ⟨n + 1, hn⟩ r l _ _ ?_
      rw [pay6_apply, pay7_apply]
      simp only [h0]
      exact Lane.zero _
    · have hrow : rowAt ⟨n, hn'⟩ r = rowAt ⟨n + 1, hn⟩ r := Fin.ext (by
        show 512 * (n / 5) + r.val = 512 * ((n + 1) / 5) + r.val
        omega)
      have ih' := ih hn' r l
      rw [hrow, show n % 5 + 1 = (n + 1) % 5 by omega] at ih'
      rw [outsAt0_succ m c n hn]
      generalize outsAt0 m c n hn' = acc at ih'
      by_cases h1 : (n + 1) % 5 = 4
      · have e := stAt0_C m c ⟨n + 1, hn⟩ acc h0 h1
        rw [show stAt0 m c (n + 1) hn acc = stAt0 m c (⟨n + 1, hn⟩ : Fin cfg0.N).val hn acc from rfl, e]
        dsimp only
        rw [soutC_0, soutC_1]
        exact block_lane m c ⟨n + 1, hn⟩ r l _ _ ih'
      · have e := stAt0_B m c ⟨n + 1, hn⟩ acc h0 h1
        rw [show stAt0 m c (n + 1) hn acc = stAt0 m c (⟨n + 1, hn⟩ : Fin cfg0.N).val hn acc from rfl, e]
        dsimp only
        rw [soutB_0, soutB_1]
        exact block_lane m c ⟨n + 1, hn⟩ r l _ _ ih'

/-- The last point of a row of blocks writes, row by row, the index computed from what it leaves in the scratch. -/
theorem out_last (c : Dev nD) (n : ℕ) (hn : n < cfg0.N) (h1 : n % 5 = 4) :
    (outsAt0 m c n hn).1 = k0_pay5 (outsAt0 m c n hn).2.1 (outsAt0 m c n hn).2.2 := by
  obtain ⟨k, rfl⟩ : ∃ k, n = k + 1 := ⟨n - 1, by omega⟩
  have h0 : ¬ (k + 1) % 5 = 0 := by omega
  rw [outsAt0_succ m c k hn]
  generalize outsAt0 m c k (Nat.lt_of_succ_lt hn) = acc
  have e := stAt0_C m c ⟨k + 1, hn⟩ acc h0 h1
  rw [show stAt0 m c (k + 1) hn acc = stAt0 m c (⟨k + 1, hn⟩ : Fin cfg0.N).val hn acc from rfl, e]
  dsimp only
  rw [outC_3, soutC_0, soutC_1]

/-- The call's result: at every row, the first of the 20480 columns at the least distance. -/
theorem G3_row (c : Dev nD) (row : Fin 5120) : ∃ i, FirstMin (distOf m c row) 20480 i
    ∧ (G3 m c : IVec S5120x1 32) (ix2 row ⟨0, Nat.one_pos⟩) = BitVec.ofNat 32 i := by
  have hrow := row.isLt
  have hN : cfg0.N = 50 := N_0
  have hp : pt3Of (ix2 row ⟨0, Nat.one_pos⟩) = 5 * (row.val / 512) + 4 := by
    show 5 * (1 * (row.val / 512 - 0) + 1 * (0 / 1 - 0)) + 4 = _
    omega
  have hn : pt3Of (ix2 row ⟨0, Nat.one_pos⟩) < cfg0.N := by rw [hp, hN]; omega
  have hl : loc3Of (ix2 row ⟨0, Nat.one_pos⟩) = ix2 ⟨row.val % 512, Nat.mod_lt _ (by decide)⟩ ⟨0, Nat.one_pos⟩ := by
    funext a
    match a with
    | ⟨0, _⟩ => rfl
    | ⟨1, _⟩ => rfl
  have hr : rowAt ⟨pt3Of (ix2 row ⟨0, Nat.one_pos⟩), hn⟩ ⟨row.val % 512, Nat.mod_lt _ (by decide)⟩ = row := Fin.ext (by
    show 512 * (pt3Of (ix2 row ⟨0, Nat.one_pos⟩) / 5) + row.val % 512 = row.val
    rw [hp]
    omega)
  have h4 : pt3Of (ix2 row ⟨0, Nat.one_pos⟩) % 5 = 4 := by rw [hp]; omega
  obtain ⟨i, hi, e⟩ := row_index (distOf m c row) (outsAt0 m c _ hn).2.1 (outsAt0 m c _ hn).2.2 ⟨row.val % 512, Nat.mod_lt _ (by decide)⟩
    (fun l => by
      have := lanes_at m c _ hn ⟨row.val % 512, Nat.mod_lt _ (by decide)⟩ l
      rw [hr, h4] at this
      exact this)
  refine ⟨i, hi, ?_⟩
  unfold G3
  rw [dif_pos hn, ← outsAt0_sweep m c _ hn, out_last m c _ hn h4, hl]
  exact e

end Cert.Proof.Whole

end
-- ==== Proof.Pad.lean ====
/-
  A matrix written into the corner of a larger one by a scatter whose start indices are all zero: what each entry of the
  larger one is afterwards. Nothing here mentions a program.
-/
module

public import Idealize.ShloMosaic.Lib.Routing.OpsSet
public import Idealize.ShloMosaic.Lib.ValueIdxRank1

@[expose] public section

noncomputable section

namespace Cert.Proof.Pad

open Idealize.ShloMosaic Idealize.ShloMosaic.ValueIdx

/-- An array with two axes. -/
abbrev A2 (n m : ℕ) : Shape := ⟨2, ![n, m]⟩

section

variable {α : Type} {N0 N1 M0 M1 : ℕ} {si : Shape} (d : ScatterDims (A2 N0 N1) si (A2 M0 M1))
  (hw0 : ∀ j, d.window j 0 = (j 0).val) (hw1 : ∀ j, d.window j 1 = (j 1).val)
  (x0 : (A2 N0 N1).Idx → α) (idx : IVec si 32) (hidx : ∀ i, idx i = 0#32) (upd : (A2 M0 M1).Idx → α)
  (hM0 : M0 ≤ N0) (hM1 : M1 ≤ N1)

include hidx in
/-- Every window begins at the origin. -/
theorem start_zero (j : (A2 M0 M1).Idx) (a : Fin 2) : d.start j idx a = 0 := by
  unfold ScatterDims.start
  split
  · rw [hidx]; rfl
  · rfl

include hidx hw0 hw1 in
/-- Every entry of the smaller matrix lands at its own place in the larger one. -/
theorem lands (j : (A2 M0 M1).Idx) : d.resultIdx? j idx
    = some (ix2 ⟨(j 0).val, lt_of_lt_of_le (j 0).isLt hM0⟩ ⟨(j 1).val, lt_of_lt_of_le (j 1).isLt hM1⟩) := by
  have h0 : (j 0).val < M0 := (j 0).isLt
  have h1 : (j 1).val < M1 := (j 1).isLt
  have key : ∀ a, d.start j idx a + d.window j a = ((j a).val : ℤ) := by
    intro a
    rw [start_zero d idx hidx]
    match a with
    | ⟨0, _⟩ => exact (zero_add _).trans (congrArg Nat.cast (hw0 j))
    | ⟨1, _⟩ => exact (zero_add _).trans (congrArg Nat.cast (hw1 j))
  unfold ScatterDims.resultIdx?
  rw [dif_pos (fun a => by
    rw [key a]
    match a with
    | ⟨0, _⟩ => exact ⟨Int.natCast_nonneg _, Int.ofNat_lt.2 (lt_of_lt_of_le h0 hM0)⟩
    | ⟨1, _⟩ => exact ⟨Int.natCast_nonneg _, Int.ofNat_lt.2 (lt_of_lt_of_le h1 hM1)⟩)]
  refine congrArg some (funext fun a => Fin.ext ?_)
  show (d.start j idx a + d.window j a).toNat = _
  rw [key a]
  match a with
  | ⟨0, _⟩ => rfl
  | ⟨1, _⟩ => rfl

include hidx hw0 hw1 hM0 hM1 in
/-- The larger matrix afterwards. -/
theorem corner (r : Fin N0) (c : Fin N1) : Host.scatter d (fun _ b => b) x0 idx upd (ix2 r c)
    = if h : r.val < M0 ∧ c.val < M1 then upd (ix2 ⟨r.val, h.1⟩ ⟨c.val, h.2⟩) else x0 (ix2 r c) := by
  have at_of : ∀ j : (A2 M0 M1).Idx, d.resultIdx? j idx = some (ix2 r c) → (j 0).val = r.val ∧ (j 1).val = c.val := by
    intro j hj
    rw [lands d hw0 hw1 idx hidx hM0 hM1 j] at hj
    have e := Option.some.inj hj
    exact ⟨congrArg (fun q : Fin N0 => q.val) (congrFun e 0), congrArg (fun q : Fin N1 => q.val) (congrFun e 1)⟩
  by_cases h : r.val < M0 ∧ c.val < M1
  · rw [dif_pos h]
    refine Routing.scatter_set_hit d x0 idx upd _ _ (fun j hj => ?_) (ix2 ⟨r.val, h.1⟩ ⟨c.val, h.2⟩)
      ((lands d hw0 hw1 idx hidx hM0 hM1 _).trans rfl)
    have e := at_of j hj
    refine congrArg upd (funext fun a => Fin.ext ?_)
    match a with
    | ⟨0, _⟩ => exact e.1
    | ⟨1, _⟩ => exact e.2
  · rw [dif_neg h]
    refine Routing.scatter_set_miss d x0 idx upd _ fun j hj => h ?_
    have e := at_of j hj
    exact ⟨e.1 ▸ (j 0).isLt, e.2 ▸ (j 1).isLt⟩

end

end Cert.Proof.Pad

end

end
-- ==== Proof.RefRun.lean ====
/-
  The run of the reference: its host operations in order, in three stretches — up to the table of distances, the arg-min
  of each row, and the mean of squared differences — and what they leave in the buffers that matter.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The operations up to the table of distances. -/
abbrev opsDist : List (HloOp τ sig (Elt F)) :=
  [ unary main_arg0 main_v0 ((extractStridedSlice S5000x1 ![0, 3] · slices_S5000x4_S5000x1_0_3) : (⟨S5000x4, .f32⟩ : BufTy).Contents (Elt F) → (⟨S5000x1, .f32⟩ : BufTy).Contents (Elt F)),
    reshape main_v0 main_v1 (rfl : (.f32 : EltTy) = .f32) shapeCasts_S5000x1_S5000,
    unary main_arg1 main_v2 ((extractStridedSlice S20000x1 ![0, 3] · slices_S20000x4_S20000x1_0_3) : (⟨S20000x4, .f32⟩ : BufTy).Contents (Elt F) → (⟨S20000x1, .f32⟩ : BufTy).Contents (Elt F)),
    reshape main_v2 main_v3 (rfl : (.f32 : EltTy) = .f32) shapeCasts_S20000x1_S20000,
    unary main_arg0 main_v4 ((extractStridedSlice S5000x3 ![0, 0] · slices_S5000x4_S5000x3_0_0) : (⟨S5000x4, .f32⟩ : BufTy).Contents (Elt F) → (⟨S5000x3, .f32⟩ : BufTy).Contents (Elt F)),
    unary main_arg1 main_v5 ((extractStridedSlice S20000x3 ![0, 0] · slices_S20000x4_S20000x3_0_0) : (⟨S20000x4, .f32⟩ : BufTy).Contents (Elt F) → (⟨S20000x3, .f32⟩ : BufTy).Contents (Elt F)),
    binary main_v4 main_v4 main_v6 (mulf : (⟨S5000x3, .f32⟩ : BufTy).Contents (Elt F) → (⟨S5000x3, .f32⟩ : BufTy).Contents (Elt F) → (⟨S5000x3, .f32⟩ : BufTy).Contents (Elt F)),
    nullary main_cst (constant S_ .f32 0x00000000#32),
    binary main_v6 main_cst main_v7 ((fun x v => Host.reduceAdd x v reducesTo_S5000x3_S5000_d1 h_S_) : (⟨S5000x3, .f32⟩ : BufTy).Contents (Elt F) → (⟨S_, .f32⟩ : BufTy).Contents (Elt F) → (⟨S5000, .f32⟩ : BufTy).Contents (Elt F)),
    unary main_v7 main_v8 (broadcastInDim S5000x1 ![0] bcast_S5000_S5000x1_0 : (⟨S5000, .f32⟩ : BufTy).Contents (Elt F) → (⟨S5000x1, .f32⟩ : BufTy).Contents (Elt F)),
    binary main_v5 main_v5 main_v9 (mulf : (⟨S20000x3, .f32⟩ : BufTy).Contents (Elt F) → (⟨S20000x3, .f32⟩ : BufTy).Contents (Elt F) → (⟨S20000x3, .f32⟩ : BufTy).Contents (Elt F)),
    nullary main_cst_0 (constant S_ .f32 0x00000000#32),
    binary main_v9 main_cst_0 main_v10 ((fun x v => Host.reduceAdd x v reducesTo_S20000x3_S20000_d1 h_S_) : (⟨S20000x3, .f32⟩ : BufTy).Contents (Elt F) → (⟨S_, .f32⟩ : BufTy).Contents (Elt F) → (⟨S20000, .f32⟩ : BufTy).Contents (Elt F)),
    unary main_v10 main_v11 (broadcastInDim S20000x1 ![0] bcast_S20000_S20000x1_0 : (⟨S20000, .f32⟩ : BufTy).Contents (Elt F) → (⟨S20000x1, .f32⟩ : BufTy).Contents (Elt F)),
    unary main_v11 main_v12 ((transpose S1x20000 [1, 0] · transposes_S20000x1_S1x20000_1_0) : (⟨S20000x1, .f32⟩ : BufTy).Contents (Elt F) → (⟨S1x20000, .f32⟩ : BufTy).Contents (Elt F)),
    unary main_v8 main_v13 (broadcastInDim S5000x20000 ![0, 1] bcast_S5000x1_S5000x20000_0_1 : (⟨S5000x1, .f32⟩ : BufTy).Contents (Elt F) → (⟨S5000x20000, .f32⟩ : BufTy).Contents (Elt F)),
    unary main_v12 main_v14 (broadcastInDim S5000x20000 ![0, 1] bcast_S1x20000_S5000x20000_0_1 : (⟨S1x20000, .f32⟩ : BufTy).Contents (Elt F) → (⟨S5000x20000, .f32⟩ : BufTy).Contents (Elt F)),
    binary main_v13 main_v14 main_v15 (addf : (⟨S5000x20000, .f32⟩ : BufTy).Contents (Elt F) → (⟨S5000x20000, .f32⟩ : BufTy).Contents (Elt F) → (⟨S5000x20000, .f32⟩ : BufTy).Contents (Elt F)),
    unary main_v5 main_v16 ((transpose S3x20000 [1, 0] · transposes_S20000x3_S3x20000_1_0) : (⟨S20000x3, .f32⟩ : BufTy).Contents (Elt F) → (⟨S3x20000, .f32⟩ : BufTy).Contents (Elt F)),
    binary main_v4 main_v16 main_v17 ((fun l r => Host.dotGeneral dot_S5000x3_S3x20000_S5000x20000_1_0_0_1_n_n none l r) : (⟨S5000x3, .f32⟩ : BufTy).Contents (Elt F) → (⟨S3x20000, .f32⟩ : BufTy).Contents (Elt F) → (⟨S5000x20000, .f32⟩ : BufTy).Contents (Elt F)),
    nullary main_cst_1 (constant S_ .f32 0x40000000#32),
    unary main_cst_1 main_v18 (broadcastInDim S5000x20000 ![] bcast_S_S5000x20000 : (⟨S_, .f32⟩ : BufTy).Contents (Elt F) → (⟨S5000x20000, .f32⟩ : BufTy).Contents (Elt F)),
    binary main_v18 main_v17 main_v19 (mulf : (⟨S5000x20000, .f32⟩ : BufTy).Contents (Elt F) → (⟨S5000x20000, .f32⟩ : BufTy).Contents (Elt F) → (⟨S5000x20000, .f32⟩ : BufTy).Contents (Elt F)),
    binary main_v15 main_v19 main_v20 (subf : (⟨S5000x20000, .f32⟩ : BufTy).Contents (Elt F) → (⟨S5000x20000, .f32⟩ : BufTy).Contents (Elt F) → (⟨S5000x20000, .f32⟩ : BufTy).Contents (Elt F)) ]

theorem opsDist_sub : (opsDist : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- The arg-min of each row. -/
abbrev opsArg : List (HloOp τ sig (Elt F)) :=
  [ nullary main_call0_v0 (iotaInDim S5000x20000 32 1),
    nullary main_call0_cst (constant S_ .f32 0x7F800000#32),
    nullary main_call0_c (constantI S_ 32 0#32),
    quaternary main_v20 main_call0_v0 main_call0_cst main_call0_c main_call0_v1_0 ((fun x y u v j => (Host.argReduce reducer_argmin_f32_i32 x y u v reducesTo_S5000x20000_S5000_d1 h_S_ j).1) : (⟨S5000x20000, .f32⟩ : BufTy).Contents (Elt F) → (⟨S5000x20000, .i32⟩ : BufTy).Contents (Elt F) → (⟨S_, .f32⟩ : BufTy).Contents (Elt F) → (⟨S_, .i32⟩ : BufTy).Contents (Elt F) → (⟨S5000, .f32⟩ : BufTy).Contents (Elt F)),
    quaternary main_v20 main_call0_v0 main_call0_cst main_call0_c main_v21 ((fun x y u v j => (Host.argReduce reducer_argmin_f32_i32 x y u v reducesTo_S5000x20000_S5000_d1 h_S_ j).2) : (⟨S5000x20000, .f32⟩ : BufTy).Contents (Elt F) → (⟨S5000x20000, .i32⟩ : BufTy).Contents (Elt F) → (⟨S_, .f32⟩ : BufTy).Contents (Elt F) → (⟨S_, .i32⟩ : BufTy).Contents (Elt F) → (⟨S5000, .i32⟩ : BufTy).Contents (Elt F)) ]

theorem opsArg_sub : (opsArg : List (HloOp τ sig (Elt F))).Forall fun op => op.bufs ⊆ tcRefs τ sig :=
  ⟨nullary_bufs_sub .., nullary_bufs_sub .., nullary_bufs_sub .., quaternary_bufs_sub .., quaternary_bufs_sub ..⟩

/-- The operations after it. -/
abbrev opsMean : List (HloOp τ sig (Elt F)) :=
  [ nullary main_c (constantI S_ 32 0#32),
    unary main_c main_v22 (broadcastInDim S5000 ![] bcast_S_S5000 : (⟨S_, .i32⟩ : BufTy).Contents (Elt F) → (⟨S5000, .i32⟩ : BufTy).Contents (Elt F)),
    binary main_v21 main_v22 main_v23 (cmpi .slt : (⟨S5000, .i32⟩ : BufTy).Contents (Elt F) → (⟨S5000, .i32⟩ : BufTy).Contents (Elt F) → (⟨S5000, .i1⟩ : BufTy).Contents (Elt F)),
    nullary main_c_2 (constantI S_ 32 20000#32),
    unary main_c_2 main_v24 (broadcastInDim S5000 ![] bcast_S_S5000 : (⟨S_, .i32⟩ : BufTy).Contents (Elt F) → (⟨S5000, .i32⟩ : BufTy).Contents (Elt F)),
    binary main_v21 main_v24 main_v25 (addi : (⟨S5000, .i32⟩ : BufTy).Contents (Elt F) → (⟨S5000, .i32⟩ : BufTy).Contents (Elt F) → (⟨S5000, .i32⟩ : BufTy).Contents (Elt F)),
    ternary main_v23 main_v25 main_v21 main_v26 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v26 main_v27 (broadcastInDim S5000x1 ![0] bcast_S5000_S5000x1_0 : (⟨S5000, .i32⟩ : BufTy).Contents (Elt F) → (⟨S5000x1, .i32⟩ : BufTy).Contents (Elt F)),
    binary main_v3 main_v27 main_v28 ((fun x i => Host.gather gather_S20000_S5000x1_S5000_n_0_n_n_0_1_1 x i) : (⟨S20000, .f32⟩ : BufTy).Contents (Elt F) → (⟨S5000x1, .i32⟩ : BufTy).Contents (Elt F) → (⟨S5000, .f32⟩ : BufTy).Contents (Elt F)),
    binary main_v1 main_v28 main_v29 (subf : (⟨S5000, .f32⟩ : BufTy).Contents (Elt F) → (⟨S5000, .f32⟩ : BufTy).Contents (Elt F) → (⟨S5000, .f32⟩ : BufTy).Contents (Elt F)),
    binary main_v29 main_v29 main_v30 (mulf : (⟨S5000, .f32⟩ : BufTy).Contents (Elt F) → (⟨S5000, .f32⟩ : BufTy).Contents (Elt F) → (⟨S5000, .f32⟩ : BufTy).Contents (Elt F)),
    nullary main_cst_3 (constant S_ .f32 0x00000000#32),
    binary main_v30 main_cst_3 main_v31 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    nullary main_cst_4 (constant S_ .f32 0x459C4000#32),
    binary main_v31 main_cst_4 main_v32 (Host.divf : (⟨S_, .f32⟩ : BufTy).Contents (Elt F) → (⟨S_, .f32⟩ : BufTy).Contents (Elt F) → (⟨S_, .f32⟩ : BufTy).Contents (Elt F)) ]

theorem opsMean_sub : (opsMean : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., binary_bufs_sub ..⟩

theorem main_eq (c : Dev nD) : main (F := F) c = seq (opsDist ++ (opsArg ++ opsMean)) := rfl

theorem scopedRefs_eq : (Finset.univ.filter fun b : Ref sig .tc => b.isScoped) = ∅ := by decide
theorem scopedSems_eq : (Finset.univ.filter fun sm : SemLoc sig => sm.isScoped .tc) = ∅ := by decide

theorem ops_sub : (opsDist ++ (opsArg ++ opsMean) : List (HloOp τ sig (Elt F))).Forall fun op => op.bufs ⊆ tcRefs τ sig := by
  simp only [List.forall_append]
  exact ⟨opsDist_sub, opsArg_sub, opsMean_sub⟩

/-- A buffer of the TensorCore, as a buffer of the device. -/
abbrev dv (r : Ref sig .tc) : DevRef τ sig := Proc.devRef .tc r

variable (m : (ℓ : Loc nD τ sig) → Buf (Elt F) ℓ) (ρ : Dev nD → PrngReg)

/-- The buffers once the distances are there. -/
def W1 (c : Dev nD) (r : DevRef τ sig) : Buf (Elt F) (c, r) := after opsDist (launchContents m c) r
/-- The buffers once the arg-min is there. -/
def W2 (c : Dev nD) (r : DevRef τ sig) : Buf (Elt F) (c, r) := after opsArg (W1 m c) r
/-- The buffers at the end. -/
def W3 (c : Dev nD) (r : DevRef τ sig) : Buf (Elt F) (c, r) := after opsMean (W2 m c) r

/-- Every weakly fair execution ends with the buffers so. -/
theorem run : θ_run (defs (F := F)) (onTc (τ := τ) (main (F := F))) ⟨m, fun _ => 0, ρ⟩ fun r => ∀ (c : Dev nD) (b : Ref sig .tc),
    r.2.mem ((c.tc : Thread nD τ).loc b) = W3 m c (dv b) :=
  (θ_run defs _ _).mono (fun _ h c b => (h c b).trans (rfl))
    (run_seq scopedRefs_eq scopedSems_eq defs main (fun _ => opsDist ++ (opsArg ++ opsMean)) main_eq (fun _ => ops_sub) m ρ)

/-- The arguments are still what they were. -/
theorem W3_arg0 (c : Dev nD) : W3 m c (dv main_arg0) = m ((c.tc : Thread nD τ).loc main_arg0) := by
  have h3 : W3 m c (dv main_arg0) = W2 m c (dv main_arg0) := by unfold W3; after_results <;> rfl
  have h2 : W2 m c (dv main_arg0) = W1 m c (dv main_arg0) := by unfold W2; after_results <;> rfl
  rw [h3, h2]; unfold W1; after_results <;> rfl

theorem W3_arg1 (c : Dev nD) : W3 m c (dv main_arg1) = m ((c.tc : Thread nD τ).loc main_arg1) := by
  have h3 : W3 m c (dv main_arg1) = W2 m c (dv main_arg1) := by unfold W3; after_results <;> rfl
  have h2 : W2 m c (dv main_arg1) = W1 m c (dv main_arg1) := by unfold W2; after_results <;> rfl
  rw [h3, h2]; unfold W1; after_results <;> rfl

/-- The three channels of the points of the first cloud, and of the second. -/
abbrev chan3P (A : FVec F S5000x4 .f32) : FVec F S5000x3 .f32 := extractStridedSlice S5000x3 ![0, 0] A slices_S5000x4_S5000x3_0_0
abbrev chan3T (B : FVec F S20000x4 .f32) : FVec F S20000x3 .f32 := extractStridedSlice S20000x3 ![0, 0] B slices_S20000x4_S20000x3_0_0

/-- The intensities. -/
abbrev intP (A : FVec F S5000x4 .f32) : FVec F S5000 .f32 :=
  shapeCast _ (extractStridedSlice S5000x1 ![0, 3] A slices_S5000x4_S5000x1_0_3) shapeCasts_S5000x1_S5000
abbrev intT (B : FVec F S20000x4 .f32) : FVec F S20000 .f32 :=
  shapeCast _ (extractStridedSlice S20000x1 ![0, 3] B slices_S20000x4_S20000x1_0_3) shapeCasts_S20000x1_S20000

/-- The sums of squares of the channels, and the inner products. -/
abbrev sqP (A : FVec F S5000x4 .f32) : FVec F S5000 .f32 :=
  Host.reduceAdd (mulf (chan3P A) (chan3P A)) (constant S_ .f32 0x00000000#32) reducesTo_S5000x3_S5000_d1 h_S_
abbrev sqT (B : FVec F S20000x4 .f32) : FVec F S20000 .f32 :=
  Host.reduceAdd (mulf (chan3T B) (chan3T B)) (constant S_ .f32 0x00000000#32) reducesTo_S20000x3_S20000_d1 h_S_
abbrev inner (A : FVec F S5000x4 .f32) (B : FVec F S20000x4 .f32) : FVec F S5000x20000 .f32 :=
  Host.dotGeneral dot_S5000x3_S3x20000_S5000x20000_1_0_0_1_n_n none (chan3P A)
    (transpose S3x20000 [1, 0] (chan3T B) transposes_S20000x3_S3x20000_1_0)

/-- The table of distances. -/
def distR (A : FVec F S5000x4 .f32) (B : FVec F S20000x4 .f32) : FVec F S5000x20000 .f32 :=
  subf (addf (broadcastInDim S5000x20000 ![0, 1] bcast_S5000x1_S5000x20000_0_1 (broadcastInDim S5000x1 ![0] bcast_S5000_S5000x1_0 (sqP A)))
      (broadcastInDim S5000x20000 ![0, 1] bcast_S1x20000_S5000x20000_0_1
        (transpose S1x20000 [1, 0] (broadcastInDim S20000x1 ![0] bcast_S20000_S20000x1_0 (sqT B)) transposes_S20000x1_S1x20000_1_0)))
    (mulf (broadcastInDim S5000x20000 ![] bcast_S_S5000x20000 (constant S_ .f32 0x40000000#32)) (inner A B))

/-- The arg-min of each row of a table. -/
def argR (D : FVec F S5000x20000 .f32) : IVec S5000 32 := fun j =>
  (Host.argReduce reducer_argmin_f32_i32 D (iotaInDim S5000x20000 32 1) (constant S_ .f32 0x7F800000#32) (constantI S_ 32 0#32)
    reducesTo_S5000x20000_S5000_d1 h_S_ j).2

/-- The index words as the gather takes them. -/
abbrev gatherWords (J : IVec S5000 32) : IVec S5000x1 32 :=
  broadcastInDim S5000x1 ![0] bcast_S5000_S5000x1_0
    (select (cmpi .slt J (broadcastInDim S5000 ![] bcast_S_S5000 (constantI S_ 32 0#32)))
      (addi J (broadcastInDim S5000 ![] bcast_S_S5000 (constantI S_ 32 20000#32))) J)

/-- The differences of the intensities. -/
abbrev refDiff (J : IVec S5000 32) (x : FVec F S5000 .f32) (y : FVec F S20000 .f32) : FVec F S5000 .f32 :=
  subf x (Host.gather gather_S20000_S5000x1_S5000_n_0_n_n_0_1_1 y (gatherWords J))

/-- The mean of their squares. -/
def meanR (J : IVec S5000 32) (x : FVec F S5000 .f32) (y : FVec F S20000 .f32) : FVec F S_ .f32 :=
  Host.divf (Host.reduceAdd (mulf (refDiff J x y) (refDiff J x y)) (constant S_ .f32 0x00000000#32) reducesTo_S5000_S_d0 h_S_)
    (constant S_ .f32 0x459C4000#32)

theorem W1_v20 (c : Dev nD) : W1 m c (dv main_v20)
    = distR (m ((c.tc : Thread nD τ).loc main_arg0)) (m ((c.tc : Thread nD τ).loc main_arg1)) := by
  unfold W1; after_results <;> rfl

theorem W1_v1 (c : Dev nD) : W1 m c (dv main_v1) = intP (m ((c.tc : Thread nD τ).loc main_arg0)) := by
  unfold W1; after_results <;> rfl

theorem W1_v3 (c : Dev nD) : W1 m c (dv main_v3) = intT (m ((c.tc : Thread nD τ).loc main_arg1)) := by
  unfold W1; after_results <;> rfl

theorem W2_v1 (c : Dev nD) : W2 m c (dv main_v1) = intP (m ((c.tc : Thread nD τ).loc main_arg0)) :=
  Eq.trans (by unfold W2; after_results <;> rfl) (W1_v1 m c)

theorem W2_v3 (c : Dev nD) : W2 m c (dv main_v3) = intT (m ((c.tc : Thread nD τ).loc main_arg1)) :=
  Eq.trans (by unfold W2; after_results <;> rfl) (W1_v3 m c)

theorem W2_v21 (c : Dev nD) : W2 m c (dv main_v21)
    = argR (distR (m ((c.tc : Thread nD τ).loc main_arg0)) (m ((c.tc : Thread nD τ).loc main_arg1))) := by
  have h : W2 m c (dv main_v21) = argR (W1 m c (dv main_v20)) := by unfold W2; after_results <;> rfl
  rw [h, W1_v20]

/-- The result, from the arguments. -/
theorem W3_result (c : Dev nD) : W3 m c (dv main_v32)
    = meanR (argR (distR (m ((c.tc : Thread nD τ).loc main_arg0)) (m ((c.tc : Thread nD τ).loc main_arg1))))
        (intP (m ((c.tc : Thread nD τ).loc main_arg0))) (intT (m ((c.tc : Thread nD τ).loc main_arg1))) := by
  have h : W3 m c (dv main_v32) = meanR (W2 m c (dv main_v21)) (W2 m c (dv main_v1)) (W2 m c (dv main_v3)) := by
    unfold W3; after_results <;> rfl
  rw [h, W2_v21, W2_v1, W2_v3]

end Cert.Proof.Ref

end

end
-- ==== Proof.RefNear.lean ====
/-
  What the reference's table of distances and its arg-min are over the extended reals: the squared lengths less twice
  the inner product, and in each row the first column at the least entry.
-/
module

public import proofs.«01_k».proof.Proof.RefRun
public import proofs.«01_k».proof.Proof.Nearest
public import Idealize.ShloMosaic.Lib.ValueIdxRank1

@[expose] public section

noncomputable section

namespace Cert.Proof.Ref

open Cert.ReferenceIdeal Cert.ReferenceIdeal.Gen Cert.Proof.Nearest
open Idealize.ShloMosaic Idealize.ShloMosaic.ValueIdx
open scoped BigOperators

/-- The squared distance of two points in space, written out. -/
def d2 (p t : Fin 3 → EReal) : EReal := ((∑ k, p k * p k) + ∑ k, t k * t k) - 2 * ∑ k, p k * t k

/-- The coordinates of a point of the first cloud, and of the second. -/
def xyzP (A : FVec Ideal S5000x4 .f32) (r : Fin 5000) (k : Fin 3) : EReal := A (ix2 r ⟨k.val, by omega⟩)
def xyzT (B : FVec Ideal S20000x4 .f32) (c : Fin 20000) (k : Fin 3) : EReal := B (ix2 c ⟨k.val, by omega⟩)

variable (A : FVec Ideal S5000x4 .f32) (B : FVec Ideal S20000x4 .f32)

theorem chan3P_apply (r : Fin 5000) (k : Fin 3) : (chan3P A (ix2 r k) : EReal) = xyzP A r k := by
  refine congrArg A (funext fun a => Fin.ext ?_)
  match a with
  | ⟨0, _⟩ => exact Nat.zero_add _
  | ⟨1, _⟩ => exact Nat.zero_add _

theorem chan3T_apply (c : Fin 20000) (k : Fin 3) : (chan3T B (ix2 c k) : EReal) = xyzT B c k := by
  refine congrArg B (funext fun a => Fin.ext ?_)
  match a with
  | ⟨0, _⟩ => exact Nat.zero_add _
  | ⟨1, _⟩ => exact Nat.zero_add _

theorem two_const : Ideal.ofBits .f32 0x40000000#32 = (2 : EReal) := by
  simp [Ideal.ofBits, Ideal.ieee, -EReal.coe_mul]; norm_num
  rfl

theorem reduces_P : S5000x3.Reduces [1] S5000 := by decide
theorem reduces_T : S20000x3.Reduces [1] S20000 := by decide

theorem sqP_apply (r : Fin 5000) : (sqP A (ix1 r) : EReal) = ∑ k, xyzP A r k * xyzP A r k := by
  refine (Ideal.hostReduceAdd_single reducesTo_S5000x3_S5000_d1 reduces_P _ _ (ix1 r)).trans ?_
  show Ideal.ofBits .f32 0x00000000#32 + _ = _
  rw [Ideal.ofBits_zero_f32, zero_add]
  refine Finset.sum_congr rfl fun (k : Fin 3) _ => ?_
  have e : reduces_P.lift (ix1 r) k = ix2 r k := by
    funext a
    match a with
    | ⟨0, _⟩ => rfl
    | ⟨1, _⟩ => rfl
  show (chan3P A _ * chan3P A _ : EReal) = _
  rw [e, chan3P_apply]

theorem sqT_apply (c : Fin 20000) : (sqT B (ix1 c) : EReal) = ∑ k, xyzT B c k * xyzT B c k := by
  refine (Ideal.hostReduceAdd_single reducesTo_S20000x3_S20000_d1 reduces_T _ _ (ix1 c)).trans ?_
  show Ideal.ofBits .f32 0x00000000#32 + _ = _
  rw [Ideal.ofBits_zero_f32, zero_add]
  refine Finset.sum_congr rfl fun (k : Fin 3) _ => ?_
  have e : reduces_T.lift (ix1 c) k = ix2 c k := by
    funext a
    match a with
    | ⟨0, _⟩ => rfl
    | ⟨1, _⟩ => rfl
  show (chan3T B _ * chan3T B _ : EReal) = _
  rw [e, chan3T_apply]

abbrev dotR : DotDims S5000x3 S3x20000 S5000x20000 := dot_S5000x3_S3x20000_S5000x20000_1_0_0_1_n_n

theorem inner_apply (r : Fin 5000) (c : Fin 20000) : (inner A B (ix2 r c) : EReal) = ∑ k, xyzP A r k * xyzT B c k := by
  refine (Ideal.dotGeneral_apply dotR none _ _ _ (ix2 r c)).trans ?_
  refine Fintype.sum_equiv (contrEquiv1 dotR 3 rfl rfl) _ (fun k => xyzP A r k * xyzT B c k) fun k => ?_
  have el : dotR.lhsIdx (ix2 r c) k = ix2 r (contrEquiv1 dotR 3 rfl rfl k) := by
    funext a
    match a with
    | ⟨0, _⟩ => rfl
    | ⟨1, _⟩ => rfl
  have er : dotR.rhsIdx (ix2 r c) k = ix2 (contrEquiv1 dotR 3 rfl rfl k) c := by
    funext a
    match a with
    | ⟨0, _⟩ => rfl
    | ⟨1, _⟩ => rfl
  rw [el, er, ← chan3P_apply, ← chan3T_apply]
  refine congrArg (fun z : EReal => _ * z) (congrArg (chan3T B) (funext fun a => Fin.ext ?_))
  match a with
  | ⟨0, _⟩ => rfl
  | ⟨1, _⟩ => rfl

/-- An entry of the table. -/
theorem distR_apply (r : Fin 5000) (c : Fin 20000) : (distR A B (ix2 r c) : EReal) = d2 (xyzP A r) (xyzT B c) := by
  have e1 : (broadcastInDim S5000x20000 ![0, 1] bcast_S5000x1_S5000x20000_0_1 (broadcastInDim S5000x1 ![0] bcast_S5000_S5000x1_0 (sqP A)) (ix2 r c) : EReal)
      = sqP A (ix1 r) := by
    refine congrArg (sqP A) (funext fun a => Fin.ext ?_)
    match a with
    | ⟨0, _⟩ => rfl
  have e2 : (broadcastInDim S5000x20000 ![0, 1] bcast_S1x20000_S5000x20000_0_1
        (transpose S1x20000 [1, 0] (broadcastInDim S20000x1 ![0] bcast_S20000_S20000x1_0 (sqT B)) transposes_S20000x1_S1x20000_1_0) (ix2 r c) : EReal)
      = sqT B (ix1 c) := by
    refine congrArg (sqT B) (funext fun a => Fin.ext ?_)
    match a with
    | ⟨0, _⟩ => rfl
  unfold distR
  show ((broadcastInDim S5000x20000 ![0, 1] bcast_S5000x1_S5000x20000_0_1 (broadcastInDim S5000x1 ![0] bcast_S5000_S5000x1_0 (sqP A)) (ix2 r c) : EReal)
    + (broadcastInDim S5000x20000 ![0, 1] bcast_S1x20000_S5000x20000_0_1
        (transpose S1x20000 [1, 0] (broadcastInDim S20000x1 ![0] bcast_S20000_S20000x1_0 (sqT B)) transposes_S20000x1_S1x20000_1_0) (ix2 r c) : EReal))
    - Ideal.ofBits .f32 0x40000000#32 * (inner A B (ix2 r c) : EReal) = _
  rw [e1, e2, sqP_apply, sqT_apply, inner_apply, two_const]
  rfl

/-! ## The arg-min -/

open scoped Classical in
/-- One comparison of the arg-min keeps the pair that is before the other. -/
theorem keep (a b : EReal × BitVec 32) : reducer_argmin_f32_i32 (F := Ideal) a b = if Before a b then a else b := by
  obtain ⟨x, i⟩ := a
  obtain ⟨y, j⟩ := b
  have e1 : FloatOps.cmpf (F := Ideal) (φ := .f32) .olt x y = BitVec.ofBool (decide (x < y)) := rfl
  have e2 : FloatOps.cmpf (F := Ideal) (φ := .f32) .oeq x y = BitVec.ofBool (decide (x = y)) := rfl
  have e3 : IntOp.cmpi .slt i j = BitVec.ofBool (decide (i.toInt < j.toInt)) := by
    rw [← BitVec.slt_eq_decide]; rfl
  have e4 : FloatOps.cmpf (F := Ideal) (φ := .f32) .une x x = BitVec.ofBool (decide (x ≠ x)) := rfl
  unfold reducer_argmin_f32_i32 Before
  dsimp only
  rw [e1, e2, e3, e4, decide_eq_false (p := x ≠ x) (fun h => h rfl)]
  by_cases h1 : x < y
  · rw [decide_eq_true h1, if_pos (Or.inl h1)]
    generalize decide (x = y) = p
    generalize decide (i.toInt < j.toInt) = q
    have : ∀ p q : Bool, IntOp.ori (IntOp.ori (BitVec.ofBool true) (BitVec.ofBool false)) (IntOp.andi (BitVec.ofBool p) (BitVec.ofBool q)) = 1#1 := by decide
    rw [this p q]; rfl
  · rw [decide_eq_false h1]
    by_cases h2 : x = y
    · subst h2
      rw [decide_eq_true (rfl : x = x)]
      by_cases h3 : i.toInt < j.toInt
      · rw [decide_eq_true h3, if_pos (Or.inr ⟨rfl, h3⟩)]; rfl
      · rw [decide_eq_false h3, if_neg (fun h => h.elim h1 (fun h => h3 h.2))]; rfl
    · rw [decide_eq_false h2, if_neg (fun h => h.elim h1 (fun h => h2 h.1))]
      generalize decide (i.toInt < j.toInt) = q
      have : ∀ q : Bool, IntOp.ori (IntOp.ori (BitVec.ofBool false) (BitVec.ofBool false)) (IntOp.andi (BitVec.ofBool false) (BitVec.ofBool q)) = 0#1 := by decide
      rw [this q]; rfl

theorem inf_word : Ideal.ofBits .f32 0x7F800000#32 = (⊤ : EReal) := by
  simp [Ideal.ofBits, Ideal.ieee]

/-- The pairs an arg-min folds over in one row of a table: the row's entries, each with its label. -/
theorem mem_row {N M : ℕ} (h : (⟨2, ![N, M]⟩ : Shape).ReducesTo [1] ⟨1, ![N]⟩) (x : (⟨2, ![N, M]⟩ : Shape).Idx → EReal)
    (y : (⟨2, ![N, M]⟩ : Shape).Idx → BitVec 32) (r : Fin N) (p : EReal × BitVec 32) :
    p ∈ Host.argReduceFiber x y h (ix1 r) ↔ ∃ c : Fin M, p = (x (ix2 r c), y (ix2 r c)) := by
  unfold Host.argReduceFiber
  rw [List.mem_map]
  constructor
  · rintro ⟨n, hn, rfl⟩
    have hd := of_decide_eq_true (List.mem_filter.1 hn).2
    obtain ⟨a, b, hab⟩ : ∃ (a : Fin N) (b : Fin M), (⟨2, ![N, M]⟩ : Shape).rowMajor.symm n = ix2 a b :=
      ⟨(⟨2, ![N, M]⟩ : Shape).rowMajor.symm n 0, (⟨2, ![N, M]⟩ : Shape).rowMajor.symm n 1, eq_ix2 _⟩
    rw [hab] at hd ⊢
    have ha : a = r := Fin.ext (congrArg (fun q : Fin N => q.val) (congrFun hd 0))
    subst ha
    exact ⟨b, rfl⟩
  · rintro ⟨c, rfl⟩
    refine ⟨(⟨2, ![N, M]⟩ : Shape).rowMajor (ix2 r c), List.mem_filter.2 ⟨List.mem_finRange _, decide_eq_true ?_⟩, ?_⟩
    · rw [Equiv.symm_apply_apply]
      funext a
      match a with
      | ⟨0, _⟩ => rfl
    · rw [Equiv.symm_apply_apply]

/-- A row of a table, by the number of the column. -/
def rowOf {N M : ℕ} (D : (⟨2, ![N, M]⟩ : Shape).Idx → EReal) (r : Fin N) (c : ℕ) : EReal := if h : c < M then D (ix2 r ⟨c, h⟩) else ⊤

/-- Folding over one row's entries, each with its column's number, finds the first column at the least entry. -/
theorem row_fold {N M : ℕ} (hM0 : 0 < M) (hM : M ≤ 2 ^ 31) (h : (⟨2, ![N, M]⟩ : Shape).ReducesTo [1] ⟨1, ![N]⟩)
    (D : (⟨2, ![N, M]⟩ : Shape).Idx → EReal) (y : (⟨2, ![N, M]⟩ : Shape).Idx → BitVec 32) (r : Fin N)
    (hy : ∀ c : Fin M, y (ix2 r c) = BitVec.ofNat 32 c.val) :
    ∃ i, FirstMin (rowOf D r) M i ∧ ((Host.argReduceFiber D y h (ix1 r)).foldl (reducer_argmin_f32_i32 (F := Ideal))
      ((⊤ : EReal), 0#32)).2 = BitVec.ofNat 32 i := by
  classical
  refine fold_firstMin (reducer_argmin_f32_i32 (F := Ideal)) (fun a b h => (keep a b).trans (if_pos h))
    (fun a b h => (keep a b).trans (if_neg h)) (rowOf D r) M hM0 hM _ fun p => (mem_row h D y r p).trans ?_
  constructor
  · rintro ⟨c, rfl⟩
    exact ⟨c.val, c.isLt, by rw [hy]; unfold rowOf; rw [dif_pos c.isLt]⟩
  · rintro ⟨j, hj, rfl⟩
    exact ⟨⟨j, hj⟩, by rw [hy]; unfold rowOf; rw [dif_pos hj]⟩

/-- The same of an arg-min that starts from `+∞` and the label zero. -/
theorem row_argmin {N M : ℕ} {u : Shape} (hM0 : 0 < M) (hM : M ≤ 2 ^ 31) (h : (⟨2, ![N, M]⟩ : Shape).ReducesTo [1] ⟨1, ![N]⟩) (hu : 0 < u.numel)
    (D : FVec Ideal ⟨2, ![N, M]⟩ .f32) (y : IVec ⟨2, ![N, M]⟩ 32) (ix : FVec Ideal u .f32) (iy : IVec u 32)
    (hix : ix (Shape.Idx.first hu) = (⊤ : EReal)) (hiy : iy (Shape.Idx.first hu) = 0#32) (r : Fin N)
    (hy : ∀ c : Fin M, y (ix2 r c) = BitVec.ofNat 32 c.val) :
    ∃ i, FirstMin (rowOf D r) M i ∧ (Host.argReduce (reducer_argmin_f32_i32 (F := Ideal)) D y ix iy h hu (ix1 r)).2 = BitVec.ofNat 32 i := by
  obtain ⟨i, hi, e⟩ := row_fold hM0 hM h D y r hy
  refine ⟨i, hi, ?_⟩
  rw [Ideal.argReduce_eq_reduce2, Host.reduce2_eq_foldl_fiber, hix, hiy]
  exact e

theorem iota_col (r : Fin 5000) (c : Fin 20000) : iotaInDim S5000x20000 32 1 (ix2 r c) = BitVec.ofNat 32 c.val := rfl

theorem le_31 : 20000 ≤ 2 ^ 31 := by norm_num

theorem argR_eq (D : FVec Ideal S5000x20000 .f32) : argR D = fun j =>
    (Host.argReduce (reducer_argmin_f32_i32 (F := Ideal)) D (iotaInDim S5000x20000 32 1) (constant S_ .f32 0x7F800000#32)
      (constantI S_ 32 0#32) reducesTo_S5000x20000_S5000_d1 h_S_ j).2 := rfl

/-- The arg-min of a row is the first column at the least entry. -/
theorem argR_row (D : FVec Ideal S5000x20000 .f32) (r : Fin 5000) :
    ∃ i, FirstMin (rowOf (N := 5000) (M := 20000) D r) 20000 i ∧ argR D (ix1 r) = BitVec.ofNat 32 i := by
  rw [argR_eq]
  exact row_argmin (N := 5000) (M := 20000) (by norm_num) le_31 reducesTo_S5000x20000_S5000_d1 h_S_ D
    (iotaInDim S5000x20000 32 1) (constant S_ .f32 0x7F800000#32) (constantI S_ 32 0#32) inf_word rfl r (iota_col r)

end Cert.Proof.Ref

end

end
-- ==== Proof.WholeHost.lean ====
/-
  The whole kernel's host operations over the extended reals: the padded operands of the nearest-neighbour call, the
  distances they give, and from them the indices the call returns: for each of the 5000 points the reference's own.
-/
module

public import proofs.«01_k».proof.Proof.WholeRun
public import proofs.«01_k».proof.Proof.TcIdeal
public import proofs.«01_k».proof.Proof.Pad
public import proofs.«01_k».proof.Proof.RefNear
public import Idealize.ShloMosaic.Lib.ValueLayout

@[expose] public section

set_option maxRecDepth 16384

noncomputable section

namespace Cert.Proof.Whole

open Cert.KernelIdeal Cert.KernelIdeal.Gen Cert.Proof.Nearest
open Idealize.ShloMosaic Idealize.ShloMosaic.TcCoe Idealize.ShloMosaic.ValueIdx Idealize.ShloMosaic.StableHlo
open scoped BigOperators

/-! ## Sums of three among eight -/

theorem sum_three (f : Fin 3 → EReal) : (∑ a : Fin 8, if h : a.val < 3 then f ⟨a.val, h⟩ else 0) = ∑ k, f k := by
  rw [Fin.sum_univ_eight, Fin.sum_univ_three]
  simp

theorem two_mul_sum (f : Fin 3 → EReal) : ∑ k, 2 * f k = 2 * ∑ k, f k := by
  have h : ∀ y z : EReal, (2 : EReal) * (y + z) = 2 * y + 2 * z :=
    EReal.left_distrib_of_nonneg_of_ne_top (by norm_num) (by exact_mod_cast EReal.coe_ne_top 2)
  rw [Fin.sum_univ_three, Fin.sum_univ_three, h, h]

theorem sq_nonneg' (x : EReal) : 0 ≤ x * x := by
  rcases le_total 0 x with h | h
  · exact mul_nonneg h h
  · rw [← neg_mul_neg]
    exact mul_nonneg (EReal.neg_nonneg.2 h) (EReal.neg_nonneg.2 h)

/-- The padded points, their squared lengths and the padded targets. -/
def padP (p : ℕ → Fin 3 → EReal) (row : ℕ) (a : Fin 8) : EReal := if row < 5000 then (if h : a.val < 3 then 2 * p row ⟨a.val, h⟩ else 0) else 0
def padQ (p : ℕ → Fin 3 → EReal) (row : ℕ) : EReal := if row < 5000 then ∑ k, p row k * p row k else 0
def padT (t : ℕ → Fin 3 → EReal) (a : Fin 8) (col : ℕ) : EReal := if col < 20000 then (if h : a.val < 3 then t col ⟨a.val, h⟩ else 0) else 0

theorem padQ_ne_bot (p : ℕ → Fin 3 → EReal) (row : ℕ) : padQ p row ≠ ⊥ := by
  have : 0 ≤ padQ p row := by
    unfold padQ
    split
    · exact Finset.sum_nonneg fun k _ => sq_nonneg' _
    · exact le_rfl
  exact fun h => absurd (h ▸ this) (by simp)

/-- A column that is only padding is infinitely far. -/
theorem dist_far (p t : ℕ → Fin 3 → EReal) (row col : ℕ) (h : 20000 ≤ col) :
    dist (padP p row) (padQ p row) (padT t) col = ⊤ := by
  have hc : ¬ col < 20000 := by omega
  unfold dist
  rw [if_neg hc, EReal.add_top_of_ne_bot (padQ_ne_bot p row), Finset.sum_eq_zero fun a _ => by unfold padT; rw [if_neg hc, mul_zero], sub_zero]

/-- The distance of a point to a target is the reference's. -/
theorem dist_near (p t : ℕ → Fin 3 → EReal) (row col : ℕ) (hr : row < 5000) (hc : col < 20000) :
    dist (padP p row) (padQ p row) (padT t) col = Ref.d2 (p row) (t col) := by
  have e1 : ∑ a : Fin 8, padT t a col * padT t a col = ∑ k, t col k * t col k := by
    rw [← sum_three fun k => t col k * t col k]
    refine Finset.sum_congr rfl fun a _ => ?_
    unfold padT
    rw [if_pos hc]
    split
    · rfl
    · exact mul_zero _
  have e2 : ∑ a : Fin 8, padP p row a * padT t a col = 2 * ∑ k, p row k * t col k := by
    rw [← two_mul_sum, ← sum_three fun k => 2 * (p row k * t col k)]
    refine Finset.sum_congr rfl fun a _ => ?_
    unfold padP padT
    rw [if_pos hc, if_pos hr]
    split
    · exact mul_assoc _ _ _
    · exact mul_zero _
  unfold dist Ref.d2
  rw [if_pos hc, e1, e2]
  unfold padQ
  rw [if_pos hr]

/-! ## The operands of the call -/

variable (m : (ℓ : Loc nD τ sig) → Buf (Elt Ideal) ℓ)

/-- The two arguments. -/
abbrev argA (d : Dev nD) : FVec Ideal S5000x4 .f32 := m ((SparseCore.T d).loc main_arg0)
abbrev argB (d : Dev nD) : FVec Ideal S20000x4 .f32 := m ((SparseCore.T d).loc main_arg1)

/-- The points and targets by number. -/
def pts (d : Dev nD) (r : ℕ) (k : Fin 3) : EReal := if h : r < 5000 then Ref.xyzP (argA m d) ⟨r, h⟩ k else 0
def tgts (d : Dev nD) (c : ℕ) (k : Fin 3) : EReal := if h : c < 20000 then Ref.xyzT (argB m d) ⟨c, h⟩ k else 0

abbrev zeros2 : IVec S2 32 :=
  concatenate S2 0 [⟨S1, broadcastInDim S1 ![] bcast_S_S1 (constantI S_ 32 0#32)⟩, ⟨S1, broadcastInDim S1 ![] bcast_S_S1 (constantI S_ 32 0#32)⟩] concatenates_S1_S1_S2_d0

theorem zeros2_apply (i : S2.Idx) : zeros2 i = 0#32 := by
  obtain ⟨k, rfl⟩ : ∃ k : Fin 2, i = ix1 k := ⟨i 0, eq_ix1 i⟩
  match k with
  | ⟨0, _⟩ => rfl
  | ⟨1, _⟩ => rfl

theorem V1_v10 (d : Dev nD) : (V1 m d (dv main_v10) : FVec Ideal S5120x8 .f32)
    = Host.scatter scatter_S5120x8_S2_S5000x3_01_n_01_0 (fun _ b => b)
      (broadcastInDim S5120x8 ![] bcast_S_S5120x8 (constant S_ .f32 0x00000000#32)) zeros2
      (mulf (broadcastInDim S5000x3 ![] bcast_S_S5000x3 (constant S_ .f32 0x40000000#32)) (Ref.chan3P (argA m d))) := by
  unfold V1; after_results <;> rfl

theorem V1_v17 (d : Dev nD) : (V1 m d (dv main_v17) : FVec Ideal S8x20480 .f32)
    = Host.scatter scatter_S8x20480_S2_S3x20000_01_n_01_0 (fun _ b => b)
      (broadcastInDim S8x20480 ![] bcast_S_S8x20480 (constant S_ .f32 0x00000000#32)) zeros2
      (transpose S3x20000 [1, 0] (Ref.chan3T (argB m d)) transposes_S20000x3_S3x20000_1_0) := by
  unfold V1; after_results <;> rfl

theorem V1_v20 (d : Dev nD) : (V1 m d (dv main_v20) : FVec Ideal S5120x1 .f32)
    = Host.scatter scatter_S5120x1_S1_S5000x1_01_n_0_0 (fun _ b => b)
      (broadcastInDim S5120x1 ![] bcast_S_S5120x1 (constant S_ .f32 0x00000000#32)) (broadcastInDim S1 ![] bcast_S_S1 (constantI S_ 32 0#32))
      (broadcastInDim S5000x1 ![0] bcast_S5000_S5000x1_0 (Ref.sqP (argA m d))) := by
  unfold V1; after_results <;> rfl

theorem P8_eq (d : Dev nD) (row : Fin 5120) (a : Fin 8) : P8of (m1 m) d row a = padP (pts m d) row.val a := by
  unfold P8of
  refine (congrFun (V1_v10 m d) (ix2 row a)).trans ?_
  refine (Pad.corner (N0 := 5120) (N1 := 8) (M0 := 5000) (M1 := 3) scatter_S5120x8_S2_S5000x3_01_n_01_0 (fun _ => rfl) (fun _ => rfl) _ _ zeros2_apply _
    (by norm_num) (by norm_num) row a).trans ?_
  unfold padP
  by_cases hr : row.val < 5000
  · rw [if_pos hr]
    by_cases ha : a.val < 3
    · rw [dif_pos ⟨hr, ha⟩, dif_pos ha]
      show Ideal.ofBits .f32 0x40000000#32 * (Ref.chan3P (argA m d) (ix2 ⟨row.val, hr⟩ ⟨a.val, ha⟩) : EReal) = _
      rw [Ref.two_const, Ref.chan3P_apply]
      unfold pts
      rw [dif_pos hr]
    · rw [dif_neg (fun h => ha h.2), dif_neg ha]
      exact Ideal.ofBits_zero_f32
  · rw [dif_neg (fun h => hr h.1), if_neg hr]
    exact Ideal.ofBits_zero_f32

theorem Q_eq (d : Dev nD) (row : Fin 5120) : Qof (m1 m) d row = padQ (pts m d) row.val := by
  unfold Qof
  refine (congrFun (V1_v20 m d) (ix2 row ⟨0, Nat.one_pos⟩)).trans ?_
  refine (Pad.corner (N0 := 5120) (N1 := 1) (M0 := 5000) (M1 := 1) scatter_S5120x1_S1_S5000x1_01_n_0_0 (fun _ => rfl) (fun _ => rfl) _ _ (fun _ => rfl) _
    (by norm_num) (by norm_num) row ⟨0, Nat.one_pos⟩).trans ?_
  unfold padQ
  by_cases hr : row.val < 5000
  · rw [if_pos hr, dif_pos ⟨hr, Nat.one_pos⟩]
    have e : (broadcastInDim S5000x1 ![0] bcast_S5000_S5000x1_0 (Ref.sqP (argA m d)) (ix2 ⟨row.val, hr⟩ ⟨0, Nat.one_pos⟩) : EReal)
        = Ref.sqP (argA m d) (ix1 ⟨row.val, hr⟩) := by
      refine congrArg (Ref.sqP (argA m d)) (funext fun a => Fin.ext ?_)
      match a with
      | ⟨0, _⟩ => rfl
    refine e.trans ((Ref.sqP_apply _ _).trans (Finset.sum_congr rfl fun k _ => ?_))
    unfold pts
    rw [dif_pos hr]
  · rw [dif_neg (fun h => hr h.1), if_neg hr]
    exact Ideal.ofBits_zero_f32

theorem T8_eq (d : Dev nD) (a : Fin 8) (col : ℕ) : T8of (m1 m) d a col = padT (tgts m d) a col := by
  unfold T8of padT
  by_cases h0 : col < 20480
  · rw [dif_pos h0]
    refine (congrFun (V1_v17 m d) (ix2 a ⟨col, h0⟩)).trans ?_
    refine (Pad.corner (N0 := 8) (N1 := 20480) (M0 := 3) (M1 := 20000) scatter_S8x20480_S2_S3x20000_01_n_01_0 (fun _ => rfl) (fun _ => rfl) _ _ zeros2_apply _
      (by norm_num) (by norm_num) a ⟨col, h0⟩).trans ?_
    by_cases hc : col < 20000
    · rw [if_pos hc]
      by_cases ha : a.val < 3
      · rw [dif_pos ⟨ha, hc⟩, dif_pos ha]
        have e : (transpose S3x20000 [1, 0] (Ref.chan3T (argB m d)) transposes_S20000x3_S3x20000_1_0 (ix2 ⟨a.val, ha⟩ ⟨col, hc⟩) : EReal)
            = Ref.chan3T (argB m d) (ix2 ⟨col, hc⟩ ⟨a.val, ha⟩) := by
          refine congrArg (Ref.chan3T (argB m d)) (funext fun b => Fin.ext ?_)
          match b with
          | ⟨0, _⟩ => rfl
          | ⟨1, _⟩ => rfl
        refine e.trans ((Ref.chan3T_apply _ _ _).trans ?_)
        unfold tgts
        rw [dif_pos hc]
      · rw [dif_neg (fun h => ha h.1), dif_neg ha]
        exact Ideal.ofBits_zero_f32
    · rw [dif_neg (fun h => hc h.2), if_neg hc]
      exact Ideal.ofBits_zero_f32
  · rw [dif_neg h0, if_neg (by omega)]

theorem distOf_eq (d : Dev nD) (row : Fin 5120) (col : ℕ) :
    distOf (m1 m) d row col = dist (padP (pts m d) row.val) (padQ (pts m d) row.val) (padT (tgts m d)) col := by
  unfold distOf
  rw [show P8of (m1 m) d row = padP (pts m d) row.val from funext fun a => P8_eq m d row a, Q_eq,
    show T8of (m1 m) d = padT (tgts m d) from funext fun a => funext fun c => T8_eq m d a c]

/-! ## The indices -/

theorem Iv_apply (d : Dev nD) (row : Fin 5120) :
    (Iv m d : IVec S5120 32) (ix1 row) = (G3 (m1 m) d : IVec S5120x1 32) (ix2 row ⟨0, Nat.one_pos⟩) := by
  have h : (Iv m d : IVec S5120 32) = shapeCast S5120 (V2 m d (dv main_v21) : IVec S5120x1 32) shapeCasts_S5120x1_S5120 := by
    unfold Iv V3; after_results <;> rfl
  rw [h, V2_out]
  refine shapeCast_apply _ shapeCasts_S5120x1_S5120 (ix1 row) (ix2 row ⟨0, Nat.one_pos⟩) ?_
  rw [Shape.rowMajor_val_two, Shape.rowMajor_val_one]
  show row.val * 1 + 0 = row.val
  omega

/-- The index of every row, and that it is the first of the 20000 targets at the least distance. -/
theorem Iv_row (d : Dev nD) (row : Fin 5120) : ∃ i, FirstMin (distOf (m1 m) d row) 20000 i
    ∧ (Iv m d : IVec S5120 32) (ix1 row) = BitVec.ofNat 32 i := by
  obtain ⟨i, hi, e⟩ := G3_row (m1 m) d row
  exact ⟨i, hi.restrict (by norm_num) (by norm_num) (fun j h _ => (distOf_eq m d row j).trans (dist_far _ _ _ _ h)), (Iv_apply m d row).trans e⟩

/-- Every index is a row of the table. -/
theorem Iv_lt (d : Dev nD) (j : S5120.Idx) : (Iv m d j).toNat < 20000 := by
  obtain ⟨row, rfl⟩ : ∃ row : Fin 5120, j = ix1 row := ⟨j 0, eq_ix1 j⟩
  obtain ⟨i, hi, e⟩ := Iv_row m d row
  have h : (Iv m d (ix1 row)).toNat = (BitVec.ofNat 32 i).toNat := congrArg BitVec.toNat e
  have := hi.1
  rw [h, BitVec.toNat_ofNat]
  omega

/-- The index of a point is the reference's. -/
theorem Iv_ref (d : Dev nD) (r : Fin 5000) : (Iv m d : IVec S5120 32) (ix1 ⟨r.val, by omega⟩)
    = Ref.argR (Ref.distR (argA m d) (argB m d)) (ix1 r) := by
  obtain ⟨i, hi, e⟩ := Iv_row m d ⟨r.val, by omega⟩
  obtain ⟨i', hi', e'⟩ := Ref.argR_row (Ref.distR (argA m d) (argB m d)) r
  have h : ∀ j < 20000, distOf (m1 m) d ⟨r.val, by omega⟩ j = Ref.rowOf (N := 5000) (M := 20000) (Ref.distR (argA m d) (argB m d)) r j := by
    intro j hj
    rw [distOf_eq, dist_near _ _ _ _ r.isLt hj]
    unfold Ref.rowOf
    rw [dif_pos hj]
    refine Eq.trans ?_ (Ref.distR_apply (argA m d) (argB m d) r ⟨j, hj⟩).symm
    unfold pts tgts
    simp only [dif_pos r.isLt, dif_pos hj]
  rw [e, e', (hi.congr h).unique hi']

end Cert.Proof.Whole

end

end
-- ==== Proof.Mean.lean ====
/-
  Mathematics of the mean of squared differences that mentions no program: sums cut into rows of lanes, an array
  padded by a scatter, and the reference's own expression read as a sum over the 5000 rows.
-/
module

public import Idealize.ShloMosaic.PureOps.Ideal.Laws
public import Idealize.ShloMosaic.Lib.Routing.OpsSet
public import Idealize.ShloMosaic.Lib.ValueIdxRank1
public import Idealize.ShloMosaic.Lib.StableHlo.Predicate

@[expose] public section

noncomputable section

namespace Cert.Proof.Mean

open Idealize.ShloMosaic Idealize.ShloMosaic.ValueIdx
open scoped BigOperators

/-- An array with one axis. -/
abbrev A1 (n : ℕ) : Shape := ⟨1, ![n]⟩

/-! ## Sums -/

/-- A sum over `m * n` numbers is `m` sums over `n` consecutive ones. -/
theorem sum_blocks {M : Type} [AddCommMonoid M] (n : ℕ) (f : ℕ → M) :
    ∀ m, ∑ i ∈ Finset.range (m * n), f i = ∑ a ∈ Finset.range m, ∑ b ∈ Finset.range n, f (a * n + b)
  | 0 => by simp
  | m + 1 => by rw [Nat.succ_mul, Finset.sum_range_add, sum_blocks n f m, Finset.sum_range_succ]

/-- The partial sums of thirty-two rows of sixteen lanes, each over ten steps, are together the sum over the rows
    that exist, when the terms beyond those are zero. -/
theorem sum_rows {M : Type} [AddCommMonoid M] (g : ℕ → M) (hg : ∀ r, 5000 ≤ r → g r = 0) :
    ∑ w : Fin 32, ∑ l : Fin 16, ∑ k : Fin 10, g (w.val * 160 + k.val * 16 + l.val) = ∑ r : Fin 5000, g r.val := by
  have h1 : ∀ w : Fin 32, (∑ l : Fin 16, ∑ k : Fin 10, g (w.val * 160 + k.val * 16 + l.val))
      = ∑ b ∈ Finset.range 160, g (w.val * 160 + b) := by
    intro w
    rw [Finset.sum_comm, show 160 = 10 * 16 from rfl, sum_blocks 16 (fun b => g (w.val * (10 * 16) + b)) 10, ← Fin.sum_univ_eq_sum_range
      (fun a => ∑ b ∈ Finset.range 16, g (w.val * (10 * 16) + (a * 16 + b)))]
    refine Finset.sum_congr rfl fun k _ => ?_
    rw [← Fin.sum_univ_eq_sum_range (fun b => g (w.val * (10 * 16) + (k.val * 16 + b)))]
    exact Finset.sum_congr rfl fun l _ => by rw [Nat.add_assoc]
  rw [Finset.sum_congr rfl fun w _ => h1 w, Fin.sum_univ_eq_sum_range (fun a => ∑ b ∈ Finset.range 160, g (a * 160 + b)),
    ← sum_blocks 160 g 32, show 32 * 160 = 5000 + 120 from rfl, Finset.sum_range_add,
    Finset.sum_eq_zero (s := Finset.range 120) (fun r _ => hg _ (by omega)), add_zero, Fin.sum_univ_eq_sum_range]

/-! ## One row's term -/

/-- The squared difference of row `r`: zero beyond the 5000 rows. -/
def rowTerm (I : (A1 5120).Idx → BitVec 32) (Pn : (A1 5120).Idx → EReal) (Tn : (A1 20000).Idx → EReal) (r : ℕ) : EReal :=
  if h : r < 5000 then
    (Pn (ix1 ⟨r, by omega⟩) - Tn (ix1 ⟨(I (ix1 ⟨r, by omega⟩)).toNat % 20000, Nat.mod_lt _ (by decide)⟩))
      * (Pn (ix1 ⟨r, by omega⟩) - Tn (ix1 ⟨(I (ix1 ⟨r, by omega⟩)).toNat % 20000, Nat.mod_lt _ (by decide)⟩))
  else 0

theorem rowTerm_beyond (I : (A1 5120).Idx → BitVec 32) (Pn : (A1 5120).Idx → EReal) (Tn : (A1 20000).Idx → EReal) (r : ℕ)
    (h : 5000 ≤ r) : rowTerm I Pn Tn r = 0 := dif_neg (by omega)

/-! ## An array padded at its end -/

/-- Writing a shorter array at offset zero: the entries it has are its own. -/
theorem scatter_front {α : Type} {N M : ℕ} (d : ScatterDims (A1 N) (A1 1) (A1 M)) (huw : d.updateWindowDims = [0]) (hiw : d.insertedWindowDims = [])
    (hsd : d.scatterDimsToOperandDims = [0]) (x0 : (A1 N).Idx → α) (idx : IVec (A1 1) 32) (hidx : ∀ i, idx i = 0#32)
    (upd : (A1 M).Idx → α) (hMN : M ≤ N) (r : Fin M) :
    Host.scatter d (fun _ b => b) x0 idx upd (ix1 ⟨r.val, by omega⟩) = upd (ix1 r) := by
  have hm : (0 : Fin 1) ∈ d.scatterDimsToOperandDims := by rw [hsd]; exact List.mem_singleton.2 rfl
  have hk : (0 : Fin 1) ∈ d.sKept := List.mem_filter.2 ⟨List.mem_finRange _, by rw [hiw]; exact decide_eq_true List.not_mem_nil⟩
  have hwin : ∀ j : (A1 M).Idx, d.window j 0 = (j 0).val := by
    intro j; unfold ScatterDims.window; rw [dif_pos hk]
    exact congrArg (fun a => (j a).val) (Subsingleton.elim (α := Fin 1) _ _)
  have hstart : ∀ j : (A1 M).Idx, d.start j idx 0 = 0 := by
    intro j; unfold ScatterDims.start; rw [dif_pos hm, hidx]; rfl
  have lands : ∀ (j : (A1 M).Idx), d.resultIdx? j idx = some (ix1 ⟨(j 0).val, lt_of_lt_of_le (j 0).isLt hMN⟩) := by
    intro j
    have hj : (j 0).val < M := (j 0).isLt
    unfold ScatterDims.resultIdx?
    rw [dif_pos (fun a => by
      obtain rfl : a = 0 := Subsingleton.elim (α := Fin 1) _ _
      rw [hstart, hwin]
      show (0 : ℤ) ≤ 0 + ((j 0).val : ℤ) ∧ (0 : ℤ) + ((j 0).val : ℤ) < (N : ℤ)
      omega)]
    refine congrArg some (funext fun a => Fin.ext ?_)
    obtain rfl : a = 0 := Subsingleton.elim (α := Fin 1) _ _
    show (d.start j idx 0 + d.window j 0).toNat = (j 0).val
    rw [hstart, hwin]; omega
  refine Routing.scatter_set_hit d x0 idx upd _ _ (fun j hj => ?_) (ix1 r) (lands (ix1 r))
  rw [lands j] at hj
  have e := congrFun (Option.some.inj hj) 0
  have e' : (j 0).val = r.val := congrArg (fun q : Fin N => q.val) e
  rw [eq_ix1 j]; exact congrArg (fun q => upd (ix1 q)) (Fin.ext e')

/-! ## A host sum and a host quotient -/

/-- A host sum over everything, begun at zero. -/
theorem total {s u : Shape} {axes : List (Fin s.rank)} {t : Shape} (x : FVec Ideal s .f32) (h : s.ReducesTo axes t) (hu : 0 < u.numel)
    (ht : ∀ b, t.size b = 1) (j : t.Idx) :
    Host.reduceAdd x (constant (F := Ideal) u .f32 0x00000000#32) h hu j = ∑ i : s.Idx, x i := by
  show Ideal.hostReduceAdd h x (Ideal.ofBits .f32 0x00000000#32) j = _
  rw [Ideal.hostReduceAdd_total h ht, Ideal.ofBits_zero_f32, zero_add]

/-! ## An index word in the range of the table -/

theorem toInt_of_lt (v : BitVec 32) (h : v.toNat < 20000) : v.toInt = (v.toNat : ℤ) := by
  rw [BitVec.toInt_eq_toNat_cond]; split <;> omega

theorem not_slt_zero (v : BitVec 32) (h : v.toNat < 20000) : IntOp.cmpi .slt v 0#32 ≠ 1#1 := by
  intro e
  simp only [IntOp.cmpi, BitVec.slt_eq_decide, toInt_of_lt v h] at e
  have h0 : ¬ ((v.toNat : ℤ) < (0#32 : BitVec 32).toInt) := by simp
  rw [decide_eq_false h0] at e
  exact absurd e (by decide)

end Cert.Proof.Mean

end

end
-- ==== Proof.WholeValue.lean ====
/-
  The whole kernel's result over the extended reals: the sum over the 5000 points of the squared differences of the
  intensities at the indices found, divided by their number; and that the reference's result is the same.
-/
module

public import proofs.«01_k».proof.Proof.WholeHost
public import proofs.«01_k».proof.Proof.Mean

@[expose] public section

set_option maxRecDepth 16384

noncomputable section

namespace Cert.Proof.Whole

open Cert.KernelIdeal Cert.KernelIdeal.Gen Cert.Proof.Steps Cert.Proof.Mean
open Idealize.ShloMosaic Idealize.ShloMosaic.TcCoe Idealize.ShloMosaic.ValueIdx Idealize.ShloMosaic.StableHlo Idealize.SL.Sem
open scoped BigOperators

variable (I : IVec S5120 32) (Pn : FVec Ideal S5120 .f32) (Tn : FVec Ideal S20000 .f32)

/-- The number of a subcore. -/
abbrev num (L : grid1.Coords) : ℕ := 2 * (L 1).val + (L 0).val

theorem num_lt (L : grid1.Coords) : num L < 32 := by
  have h0 : (L 0).val < 2 := (L 0).isLt
  have h1 : (L 1).val < 16 := (L 1).isLt
  show 2 * (L 1).val + (L 0).val < 32
  omega

theorem base_toNat (L : grid1.Coords) : (base L).toNat = num L * 160 := by
  have h0 : (L 0).val < 2 := (L 0).isLt
  have h1 : (L 1).val < 16 := (L 1).isLt
  show (((BitVec.ofNat 32 (L 1).val * 2#32) + BitVec.ofNat 32 (L 0).val) * 160#32).toNat = (2 * (L 1).val + (L 0).val) * 160
  simp only [BitVec.toNat_mul, BitVec.toNat_add, BitVec.toNat_ofNat]
  omega

theorem off_eq (L : grid1.Coords) : k1_off1 L 0 = num L * 160 := (show k1_off1 L 0 = (base L).toNat from rfl).trans (base_toNat L)

/-- Where lane `x` of the sixteen words from `o` of a subcore's segment lies. -/
theorem pAt_apply (L : grid1.Coords) (o : ℕ) (h : ∀ a, (![o] : Fin 1 → ℕ) a + S16.size a ≤ S160.size a) (x : S16.Idx)
    (hr : num L * 160 + o + (x 0).val < 5120) : pAt Pn L o h x = Pn (ix1 ⟨num L * 160 + o + (x 0).val, hr⟩) := by
  refine congrArg Pn (funext fun a => Fin.ext ?_)
  obtain rfl : a = 0 := Subsingleton.elim (α := Fin 1) _ _
  show k1_off1 L 0 + 1 * (o + 1 * (x 0).val) = num L * 160 + o + (x 0).val
  rw [off_eq]; omega

theorem gAt_apply (L : grid1.Coords) (o : ℕ) (h : ∀ a, (![o] : Fin 1 → ℕ) a + S16.size a ≤ S160.size a) (x : S16.Idx)
    (hr : num L * 160 + o + (x 0).val < 5120) :
    gAt I Tn L o h x = Tn (ix1 ⟨(I (ix1 ⟨num L * 160 + o + (x 0).val, hr⟩)).toNat % 20000, Nat.mod_lt _ (by decide)⟩) := by
  have e : (sI.view.readAt (Elt Ideal) (lanes o h) (segI (F := Ideal) I L) : IVec S16 32) x = I (ix1 ⟨num L * 160 + o + (x 0).val, hr⟩) := by
    refine congrArg I (funext fun a => Fin.ext ?_)
    obtain rfl : a = 0 := Subsingleton.elim (α := Fin 1) _ _
    show k1_off1 L 0 + 1 * (o + 1 * (x 0).val) = num L * 160 + o + (x 0).val
    rw [off_eq]; omega
  refine congrArg Tn (funext fun a => Fin.ext ?_)
  obtain rfl : a = 0 := Subsingleton.elim (α := Fin 1) _ _
  show ((sI.view.readAt (Elt Ideal) (lanes o h) (segI (F := Ideal) I L) : IVec S16 32) x).toNat % 20000 = _
  rw [e]

/-- Sixteen lanes' squared differences, zero where the row does not exist. -/
def lanesSq (L : grid1.Coords) (o : BitVec 32) (g p : FVec Ideal S16 .f32) : FVec Ideal S16 .f32 :=
  mulf (select (cmpi .slt (addi (broadcast S16 (Scalar.addi (base L) o)) iot) (broadcast S16 5000#32)) (subf p g)
      (broadcast S16 (Scalar.ofBits .f32 0x00000000#32)))
    (select (cmpi .slt (addi (broadcast S16 (Scalar.addi (base L) o)) iot) (broadcast S16 5000#32)) (subf p g)
      (broadcast S16 (Scalar.ofBits .f32 0x00000000#32)))

theorem exists_row (L : grid1.Coords) (o : ℕ) (ho : o < 160) (x : S16.Idx) :
    cmpi .slt (addi (broadcast S16 (Scalar.addi (base L) (BitVec.ofNat 32 o))) iot) (broadcast S16 5000#32) x
      = BitVec.ofBool (decide (num L * 160 + o + (x 0).val < 5000)) := by
  have hx : (x 0).val < 16 := (x 0).isLt
  have hn := num_lt L
  have hb := base_toNat L
  have e : (addi (broadcast S16 (Scalar.addi (base L) (BitVec.ofNat 32 o))) iot x).toNat = num L * 160 + o + (x 0).val := by
    show ((base L + BitVec.ofNat 32 o) + BitVec.ofNat 32 (0 * 16 + (x 0).val)).toNat = _
    simp only [BitVec.toNat_add, BitVec.toNat_ofNat, hb]
    omega
  show BitVec.ofBool ((addi (broadcast S16 (Scalar.addi (base L) (BitVec.ofNat 32 o))) iot x).slt 5000#32) = _
  rw [BitVec.slt_eq_decide, toInt_of_lt _ (by rw [e]; omega), e]
  have h5 : (5000#32 : BitVec 32).toInt = 5000 := by decide
  refine congrArg BitVec.ofBool (decide_eq_decide.2 ?_)
  rw [h5]; omega

theorem lanesSq_apply (L : grid1.Coords) (o : ℕ) (ho : o ≤ 144) (h : ∀ a, (![o] : Fin 1 → ℕ) a + S16.size a ≤ S160.size a) (x : S16.Idx) :
    lanesSq L (BitVec.ofNat 32 o) (gAt I Tn L o h) (pAt Pn L o h) x = rowTerm I Pn Tn (num L * 160 + o + (x 0).val) := by
  have hx : (x 0).val < 16 := (x 0).isLt
  have hn := num_lt L
  have hr : num L * 160 + o + (x 0).val < 5120 := by omega
  have key : select (cmpi .slt (addi (broadcast S16 (Scalar.addi (base L) (BitVec.ofNat 32 o))) iot) (broadcast S16 5000#32))
      (subf (pAt Pn L o h) (gAt I Tn L o h)) (broadcast S16 (Scalar.ofBits (F := Ideal) .f32 0x00000000#32)) x
      = if num L * 160 + o + (x 0).val < 5000 then
          Pn (ix1 ⟨num L * 160 + o + (x 0).val, hr⟩) - Tn (ix1 ⟨(I (ix1 ⟨num L * 160 + o + (x 0).val, hr⟩)).toNat % 20000, Nat.mod_lt _ (by decide)⟩)
        else 0 := by
    show (if cmpi .slt (addi (broadcast S16 (Scalar.addi (base L) (BitVec.ofNat 32 o))) iot) (broadcast S16 5000#32) x = 1 then
      pAt Pn L o h x - gAt I Tn L o h x else Ideal.ofBits .f32 0x00000000#32) = _
    rw [exists_row L o (by omega), pAt_apply Pn L o h x hr, gAt_apply I Tn L o h x hr, Ideal.ofBits_zero_f32]
    by_cases c : num L * 160 + o + (x 0).val < 5000
    · rw [if_pos c, decide_eq_true c]; exact if_pos rfl
    · rw [if_neg c, decide_eq_false c]; exact if_neg (by decide)
  show select _ _ _ x * select _ _ _ x = _
  rw [key]
  unfold rowTerm
  by_cases c : num L * 160 + o + (x 0).val < 5000
  · rw [if_pos c, dif_pos c]
  · rw [if_neg c, dif_neg c, mul_zero]

/-- A lane of a subcore's row is the sum of its ten rows' terms. -/
theorem tileVal_apply (L : grid1.Coords) (x : S16.Idx) :
    tileVal I Pn Tn L x = ∑ k : Fin 10, rowTerm I Pn Tn (num L * 160 + k.val * 16 + (x 0).val) := by
  have e : tileVal I Pn Tn L x =
      ((((((((((Ideal.ofBits .f32 0x00000000#32
        + lanesSq L 0#32 (gAt I Tn L 0 inb_S160_S16_0) (pAt Pn L 0 inb_S160_S16_0) x)
        + lanesSq L 16#32 (gAt I Tn L 16 inb_S160_S16_16) (pAt Pn L 16 inb_S160_S16_16) x)
        + lanesSq L 32#32 (gAt I Tn L 32 inb_S160_S16_32) (pAt Pn L 32 inb_S160_S16_32) x)
        + lanesSq L 48#32 (gAt I Tn L 48 inb_S160_S16_48) (pAt Pn L 48 inb_S160_S16_48) x)
        + lanesSq L 64#32 (gAt I Tn L 64 inb_S160_S16_64) (pAt Pn L 64 inb_S160_S16_64) x)
        + lanesSq L 80#32 (gAt I Tn L 80 inb_S160_S16_80) (pAt Pn L 80 inb_S160_S16_80) x)
        + lanesSq L 96#32 (gAt I Tn L 96 inb_S160_S16_96) (pAt Pn L 96 inb_S160_S16_96) x)
        + lanesSq L 112#32 (gAt I Tn L 112 inb_S160_S16_112) (pAt Pn L 112 inb_S160_S16_112) x)
        + lanesSq L 128#32 (gAt I Tn L 128 inb_S160_S16_128) (pAt Pn L 128 inb_S160_S16_128) x)
        + lanesSq L 144#32 (gAt I Tn L 144 inb_S160_S16_144) (pAt Pn L 144 inb_S160_S16_144) x : EReal) := rfl
  rw [e, Ideal.ofBits_zero_f32, zero_add,
    lanesSq_apply I Pn Tn L 0 (by decide), lanesSq_apply I Pn Tn L 16 (by decide), lanesSq_apply I Pn Tn L 32 (by decide),
    lanesSq_apply I Pn Tn L 48 (by decide), lanesSq_apply I Pn Tn L 64 (by decide), lanesSq_apply I Pn Tn L 80 (by decide),
    lanesSq_apply I Pn Tn L 96 (by decide), lanesSq_apply I Pn Tn L 112 (by decide), lanesSq_apply I Pn Tn L 128 (by decide),
    lanesSq_apply I Pn Tn L 144 (by decide)]
  simp only [Fin.sum_univ_succ, Fin.sum_univ_zero, add_zero, ← add_assoc]
  rfl

/-- The partial sums are together the sum over all rows. -/
theorem sum_outVal : ∑ j : S32x16.Idx, outVal I Pn Tn j = ∑ r : Fin 5000, rowTerm I Pn Tn r.val := by
  rw [sum_idx2 (n0 := 32) (n1 := 16) (fun j => outVal I Pn Tn j), ← sum_rows (rowTerm I Pn Tn) (rowTerm_beyond I Pn Tn)]
  refine Finset.sum_congr rfl fun w _ => Finset.sum_congr rfl fun l _ => ?_
  show tileVal I Pn Tn _ _ = _
  rw [tileVal_apply]
  refine Finset.sum_congr rfl fun k _ => congrArg (rowTerm I Pn Tn) ?_
  show (2 * (w.val / 2) + w.val % 2) * 160 + k.val * 16 + l.val = _
  rw [Nat.div_add_mod]

/-! ## The reference's difference -/

section Reference

variable (J : IVec Cert.ReferenceIdeal.S5000 32) (x : FVec Ideal Cert.ReferenceIdeal.S5000 .f32) (y : FVec Ideal Cert.ReferenceIdeal.S20000 .f32)

theorem gatherWords_apply (r : Fin 5000) (hJ : (J (ix1 r)).toNat < 20000) : Ref.gatherWords J (ix2 r (0 : Fin 1)) = J (ix1 r) := by
  have e : ∀ x : IVec Cert.ReferenceIdeal.S5000 32,
      broadcastInDim Cert.ReferenceIdeal.S5000x1 ![0] Cert.ReferenceIdeal.Gen.bcast_S5000_S5000x1_0 x (ix2 r (0 : Fin 1)) = x (ix1 r) := by
    intro x
    refine congrArg x (funext fun a => Fin.ext ?_)
    match a with
    | ⟨0, _⟩ => rfl
  exact (e _).trans (if_neg (not_slt_zero _ hJ))

theorem refDiff_apply (r : Fin 5000) (hJ : (J (ix1 r)).toNat < 20000) : Ref.refDiff J x y (ix1 r)
    = x (ix1 r) - y (ix1 ⟨(J (ix1 r)).toNat % 20000, Nat.mod_lt _ (by decide)⟩) := by
  show x (ix1 r) - Host.gather _ _ _ (ix1 r) = _
  rw [Routing.gather_take1 Cert.ReferenceIdeal.gather_S20000_S5000x1_S5000_n_0_n_n_0_1_1 rfl rfl rfl rfl y (Ref.gatherWords J) r
    ⟨(J (ix1 r)).toNat % 20000, Nat.mod_lt _ (by decide)⟩ (by
      rw [gatherWords_apply J r hJ]
      refine BitVec.eq_of_toNat_eq ?_
      show _ = (BitVec.ofNat 32 ((J (ix1 r)).toNat % 20000)).toNat
      rw [BitVec.toNat_ofNat]; omega) (by decide)]

/-- The reference's sum of squares is the sum over the points, whichever array holds its indices and intensities at
    its front. -/
theorem sum_refDiff (I : IVec S5120 32) (Pn : FVec Ideal S5120 .f32) (hI : ∀ j, (I j).toNat < 20000)
    (hJ : ∀ r : Fin 5000, I (ix1 ⟨r.val, by omega⟩) = J (ix1 r)) (hP : ∀ r : Fin 5000, Pn (ix1 ⟨r.val, by omega⟩) = x (ix1 r)) :
    ∑ i : Cert.ReferenceIdeal.S5000.Idx, mulf (Ref.refDiff J x y) (Ref.refDiff J x y) i = ∑ r : Fin 5000, rowTerm I Pn y r.val := by
  refine Fintype.sum_equiv idxEquiv1 _ _ fun i => ?_
  obtain ⟨r, rfl⟩ : ∃ r : Fin 5000, i = ix1 r := ⟨i 0, eq_ix1 i⟩
  show Ref.refDiff J x y (ix1 r) * Ref.refDiff J x y (ix1 r) = rowTerm I Pn y r.val
  have h : (J (ix1 r)).toNat < 20000 := by rw [← hJ]; exact hI _
  rw [refDiff_apply J x y r h, rowTerm, dif_pos r.isLt, hP]
  simp only [hJ]

end Reference

/-! ## What the buffers hold at the end -/

variable (m : (ℓ : Loc nD τ sig) → Buf (Elt Ideal) ℓ)

theorem V5_arg0 (d : Dev nD) : V5 m d (dv main_arg0) = m ((SparseCore.T d).loc main_arg0) := by
  have h5 : V5 m d (dv main_arg0) = V4 m d (dv main_arg0) := by unfold V5; after_results <;> rfl
  have h3 : V3 m d (dv main_arg0) = V2 m d (dv main_arg0) := by unfold V3; after_results <;> rfl
  rw [h5, V4_of_ne m d (by decide), h3, V2_of_ne m d (by decide)]; unfold V1; after_results <;> rfl

theorem V5_arg1 (d : Dev nD) : V5 m d (dv main_arg1) = m ((SparseCore.T d).loc main_arg1) := by
  have h5 : V5 m d (dv main_arg1) = V4 m d (dv main_arg1) := by unfold V5; after_results <;> rfl
  have h3 : V3 m d (dv main_arg1) = V2 m d (dv main_arg1) := by unfold V3; after_results <;> rfl
  rw [h5, V4_of_ne m d (by decide), h3, V2_of_ne m d (by decide)]; unfold V1; after_results <;> rfl

theorem V2_arg0 (d : Dev nD) : V2 m d (dv main_arg0) = argA m d := by
  rw [V2_of_ne m d (by decide)]; unfold V1; after_results <;> rfl

theorem V2_arg1 (d : Dev nD) : V2 m d (dv main_arg1) = argB m d := by
  rw [V2_of_ne m d (by decide)]; unfold V1; after_results <;> rfl

/-- The sum of the partial sums, divided by the number of points. -/
def meanOf (o : FVec Ideal S32x16 .f32) : FVec Ideal S_ .f32 :=
  Host.divf (Host.reduceAdd o (constant S_ .f32 0x00000000#32) reducesTo_S32x16_S_d0_1 h_S_) (constant S_ .f32 0x459C4000#32)

theorem V5_result (d : Dev nD) : (V5 m d (dv main_v32) : FVec Ideal S_ .f32) = meanOf (outVal (Iv m d) (Pv m d) (Tv m d)) := by
  have h : (V5 m d (dv main_v32) : FVec Ideal S_ .f32) = meanOf (V4 m d (dv main_v30)) := by unfold V5; after_results <;> rfl
  rw [h, V4_out]

theorem Pv_eq (d : Dev nD) : Pv m d = Host.scatter scatter_S5120_S1_S5000_0_n_0_0 (fun _ b => b)
    (broadcastInDim S5120 ![] bcast_S_S5120 (constant S_ .f32 0x00000000#32)) (broadcastInDim S1 ![] bcast_S_S1 (constantI S_ 32 0#32))
    (Ref.intP (argA m d)) := by
  have h : Pv m d = Host.scatter scatter_S5120_S1_S5000_0_n_0_0 (fun _ b => b)
      (broadcastInDim S5120 ![] bcast_S_S5120 (constant S_ .f32 0x00000000#32)) (broadcastInDim S1 ![] bcast_S_S1 (constantI S_ 32 0#32))
      (Ref.intP (V2 m d (dv main_arg0) : FVec Ideal S5000x4 .f32)) := by
    unfold Pv V3; after_results <;> rfl
  rw [h, V2_arg0]

theorem Tv_eq (d : Dev nD) : Tv m d = Ref.intT (argB m d) := by
  have h : Tv m d = Ref.intT (V2 m d (dv main_arg1) : FVec Ideal S20000x4 .f32) := by
    unfold Tv V3; after_results <;> rfl
  rw [h, V2_arg1]

/-- The kernel's result, from the arguments, is the reference's. -/
theorem result_eq (d : Dev nD) : (V5 m d (dv main_v32) : FVec Ideal S_ .f32)
    = Ref.meanR (Ref.argR (Ref.distR (argA m d) (argB m d))) (Ref.intP (argA m d)) (Ref.intT (argB m d)) := by
  rw [V5_result]
  unfold Ref.meanR meanOf
  refine congrArg (fun z => Host.divf z (constant (F := Ideal) S_ .f32 0x459C4000#32)) (funext fun j => ?_)
  rw [total _ _ _ (fun b => b.elim0), sum_outVal]
  refine Eq.trans ?_ (total (mulf (Ref.refDiff (Ref.argR (Ref.distR (argA m d) (argB m d))) (Ref.intP (argA m d)) (Ref.intT (argB m d)))
    (Ref.refDiff (Ref.argR (Ref.distR (argA m d) (argB m d))) (Ref.intP (argA m d)) (Ref.intT (argB m d))))
    Cert.ReferenceIdeal.Gen.reducesTo_S5000_S_d0 Cert.ReferenceIdeal.Gen.h_S_ (fun b => b.elim0) j).symm
  rw [sum_refDiff _ _ _ (Iv m d) (Pv m d) (Iv_lt m d) (Iv_ref m d) (fun r => by
    rw [Pv_eq]; exact scatter_front scatter_S5120_S1_S5000_0_n_0_0 rfl rfl rfl _ _ (fun _ => rfl) _ (by decide) r), Tv_eq]

end Cert.Proof.Whole

end

end
-- ==== Proof.MseTile.lean ====
/-
  One vector subcore's run of the mean-squared-difference kernel, at a symbolic subcore. It fetches its 160 indices and
  its 160 predicted intensities and the whole target intensity table into its own memory, adds sixteen lanes at a time
  the squared differences of the rows that exist, and writes the sixteen sums to its own row of the partial sums. The
  postcondition says what that row holds.
-/
module

public import proofs.«01_k».proof.Defs
public import proofs.«01_k».proof.Proof.Steps
public import Idealize.ShloMosaic.Lib.SparseCore.Quiescent
public import Idealize.ShloMosaic.Lib.ShareLeaves
public import Idealize.ShloMosaic.Lib.StableHlo.Run
public import proofs.«01_k».proof.Proof.Gen.MseIdeal
public import proofs.«01_k».proof.Proof.Gen.MseIdeal.Skeleton

@[expose] public section

noncomputable section

namespace Cert.Proof.MseTile

open Cert.MseIdeal Cert.MseIdeal.Gen Cert.Proof.Steps

open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it, and the ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-! ## The operands and the tile's own memory -/

abbrev iLoc (d : Dev nD) : Loc nD τ sig := (SparseCore.T d).loc main_arg0
abbrev pLoc (d : Dev nD) : Loc nD τ sig := (SparseCore.T d).loc main_v4
abbrev tLoc (d : Dev nD) : Loc nD τ sig := (SparseCore.T d).loc main_v6
abbrev oLoc (d : Dev nD) : Loc nD τ sig := (SparseCore.T d).loc main_v7

abbrev iV : Memref sig .scVector .hbm S5120 .i32 := Memref.whole main_arg0_scv
abbrev pV : Memref sig .scVector .hbm S5120 .f32 := Memref.whole main_v4_scv
abbrev tV : Memref sig .scVector .hbm S20000 .f32 := Memref.whole main_v6_scv
abbrev oV : Memref sig .scVector .hbm S32x16 .f32 := Memref.whole main_v7_scv
abbrev sI : Memref sig .scVector .vmem S160 .i32 := Memref.whole cc0_scratch0
abbrev sP : Memref sig .scVector .vmem S160 .f32 := Memref.whole cc0_scratch1
abbrev sT : Memref sig .scVector .vmem S20000 .f32 := Memref.whole cc0_scratch2
abbrev sA : Memref sig .scVector .vmem S16 .f32 := Memref.whole cc0_scratch3

/-- The 160 words of a tile, and its row of the result. -/
abbrev seg (L : grid0.Coords) : Rect S5120 := Rect.unit (s := S5120) (k0_off1 L) S160.size (k0_off1_inb L)
abbrev iSeg (L : grid0.Coords) : Memref sig .scVector .hbm S160 .i32 := iV.slice (seg L) (fun _ => rfl)
abbrev pSeg (L : grid0.Coords) : Memref sig .scVector .hbm S160 .f32 := pV.slice (seg L) (fun _ => rfl)
abbrev oRow (L : grid0.Coords) : Memref sig .scVector .hbm S16 .f32 :=
  (oV.slice (Rect.unit (s := S32x16) (k0_off2 L) S1x16.size (k0_off2_inb L)) (fun _ => rfl)).squeeze S16 squeezes_S1x16_S16

/-! ## The value -/

section Value

variable [FloatOps F] (I : IVec S5120 32) (Pn : FVec F S5120 .f32) (Tn : FVec F S20000 .f32)

/-- The sixteen lanes of a tile's segment that begin at `o`. -/
abbrev lanes (o : ℕ) (h : ∀ a, (![o] : Fin 1 → ℕ) a + S16.size a ≤ S160.size a) : LoadRect S160 :=
  (Rect.unit (s := S160) ![o] S16.size h).toLoadRect

abbrev segI (L : grid0.Coords) : IVec S160 32 := (iSeg L).view.read (Elt F) I
abbrev segP (L : grid0.Coords) : FVec F S160 .f32 := (pSeg L).view.read (Elt F) Pn

/-- The target intensities gathered at sixteen of a tile's indices; the predicted ones beside them. -/
abbrev gAt (L : grid0.Coords) (o : ℕ) (h : ∀ a, (![o] : Fin 1 → ℕ) a + S16.size a ≤ S160.size a) : FVec F S16 .f32 :=
  gat (n := 20000) Tn ((sI.view.readAt (Elt F) (lanes o h) (segI (F := F) I L)) : IVec S16 32)
abbrev pAt (L : grid0.Coords) (o : ℕ) (h : ∀ a, (![o] : Fin 1 → ℕ) a + S16.size a ≤ S160.size a) : FVec F S16 .f32 :=
  sP.view.readAt (Elt F) (lanes o h) (segP Pn L)

/-- The number of the first row a tile works on, as the kernel computes it. -/
abbrev base (L : grid0.Coords) : BitVec 32 :=
  Scalar.muli (Scalar.addi (Scalar.muli (BitVec.ofNat 32 (L 1).val) 2#32) (BitVec.ofNat 32 (L 0).val)) 160#32
abbrev iot : IVec S16 32 := iota .scVector S16 32 [0] iota_S16_d0_w32_scVector

/-- What a tile leaves in its row. -/
def tileVal (L : grid0.Coords) : FVec F S16 .f32 :=
  k0_pay1 (base L) iot
    (k0_pay5 (base L) iot
      (k0_pay4 (base L) iot (k0_pay2 L (gAt I Tn L 0 inb_S160_S16_0) (pAt Pn L 0 inb_S160_S16_0))
        (k0_pay3 L (gAt I Tn L 16 inb_S160_S16_16) (pAt Pn L 16 inb_S160_S16_16))
        (gAt I Tn L 32 inb_S160_S16_32) (pAt Pn L 32 inb_S160_S16_32) (gAt I Tn L 48 inb_S160_S16_48) (pAt Pn L 48 inb_S160_S16_48)
        (gAt I Tn L 64 inb_S160_S16_64) (pAt Pn L 64 inb_S160_S16_64))
      (gAt I Tn L 80 inb_S160_S16_80) (pAt Pn L 80 inb_S160_S16_80) (gAt I Tn L 96 inb_S160_S16_96) (pAt Pn L 96 inb_S160_S16_96)
      (gAt I Tn L 112 inb_S160_S16_112) (pAt Pn L 112 inb_S160_S16_112))
    (gAt I Tn L 128 inb_S160_S16_128) (pAt Pn L 128 inb_S160_S16_128) (gAt I Tn L 144 inb_S160_S16_144) (pAt Pn L 144 inb_S160_S16_144)

end Value

/-! ## A tile's cells and buffers -/

section Tile

variable (d : Dev nD) (L : grid0.Coords)

abbrev cV : Fin τ.nSC := (L 0).castLE hcore0
abbrev jV : Fin τ.nSub := (L 1).castLE hsub0
abbrev tile : Thread nD τ := V d (cV L) (jV L)

theorem ownSems0_tile :
    (ownSems0 (tile d L) : sProp 𝕄)
      = iprop(semVal (tile d L, .dma cc0_scoped0.sem) 0 ∗ semVal (tile d L, .dma cc0_scoped1.sem) 0 ∗ semVal (tile d L, .dma cc0_scoped2.sem) 0
          ∗ semVal (tile d L, .dma cc0_scoped3.sem) 0
          ∗ bigSep (((((ownCells (tile d L)).erase (tile d L, .dma cc0_scoped0.sem)).erase (tile d L, .dma cc0_scoped1.sem)).erase
              (tile d L, .dma cc0_scoped2.sem)).erase (tile d L, .dma cc0_scoped3.sem)) fun g => semVal g 0) := by
  have hm : ∀ x : DmaSem sig, (SemLoc.dma x : SemLoc sig).isScoped .scVector = true → ((tile d L, .dma x) : GSem nD τ sig) ∈ ownCells (tile d L) :=
    fun x hx => mem_ownCells.mpr ⟨rfl, hx⟩
  have hne : ∀ x y : DmaSem sig, x ≠ y → ((tile d L, SemLoc.dma x) : GSem nD τ sig) ≠ (tile d L, .dma y) := fun x y h e => h (by
    have := congrArg Prod.snd e; simpa using this)
  unfold SparseCore.Cfg.ownSems0
  rw [SparseCore.bigSep_erase' (hm cc0_scoped0.sem (by decide)),
    SparseCore.bigSep_erase' (Finset.mem_erase.mpr ⟨hne cc0_scoped1.sem cc0_scoped0.sem (by decide), hm _ (by decide)⟩),
    SparseCore.bigSep_erase' (Finset.mem_erase.mpr ⟨hne cc0_scoped2.sem cc0_scoped1.sem (by decide),
      Finset.mem_erase.mpr ⟨hne cc0_scoped2.sem cc0_scoped0.sem (by decide), hm _ (by decide)⟩⟩),
    SparseCore.bigSep_erase' (Finset.mem_erase.mpr ⟨hne cc0_scoped3.sem cc0_scoped2.sem (by decide),
      Finset.mem_erase.mpr ⟨hne cc0_scoped3.sem cc0_scoped1.sem (by decide),
      Finset.mem_erase.mpr ⟨hne cc0_scoped3.sem cc0_scoped0.sem (by decide), hm _ (by decide)⟩⟩⟩)]

theorem ownBufs_tile :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have hne : ∀ x y : Ref sig .scVector, x ≠ y → (Proc.scVector (cV L) (jV L)).devRef x ≠ (Proc.scVector (cV L) (jV L)).devRef y :=
    fun x y h e => h (Proc.devRef_injective _ e)
  have h0 := mem_ownRefs_of_owner (p := Proc.scVector (cV L) (jV L)) (b := (Proc.scVector (cV L) (jV L)).devRef cc0_scratch0) rfl
  have h1 := mem_ownRefs_of_owner (p := Proc.scVector (cV L) (jV L)) (b := (Proc.scVector (cV L) (jV L)).devRef cc0_scratch1) rfl
  have h2 := mem_ownRefs_of_owner (p := Proc.scVector (cV L) (jV L)) (b := (Proc.scVector (cV L) (jV L)).devRef cc0_scratch2) rfl
  have h3 := mem_ownRefs_of_owner (p := Proc.scVector (cV L) (jV L)) (b := (Proc.scVector (cV L) (jV L)).devRef cc0_scratch3) rfl
  unfold SparseCore.Cfg.ownBufs
  refine (SparseCore.bigSep_erase' h0).trans ?_
  rw [SparseCore.bigSep_erase' (Finset.mem_erase.mpr ⟨hne cc0_scratch1 cc0_scratch0 (by decide), h1⟩),
    SparseCore.bigSep_erase' (Finset.mem_erase.mpr ⟨hne cc0_scratch2 cc0_scratch1 (by decide),
      Finset.mem_erase.mpr ⟨hne cc0_scratch2 cc0_scratch0 (by decide), h2⟩⟩),
    SparseCore.bigSep_erase' (Finset.mem_erase.mpr ⟨hne cc0_scratch3 cc0_scratch2 (by decide),
      Finset.mem_erase.mpr ⟨hne cc0_scratch3 cc0_scratch1 (by decide),
      Finset.mem_erase.mpr ⟨hne cc0_scratch3 cc0_scratch0 (by decide), h3⟩⟩⟩)]

variable [FloatOps F]

/-- What a tile is handed and hands back: the three operands at a read share, its row of the result at `f`. -/
def lent (q : PosShare TreeShare) (I : IVec S5120 32) (Pn : FVec F S5120 .f32) (Tn : FVec F S20000 .f32)
    (f : FVec F S32x16 .f32) : sProp 𝕄 :=
  iprop((iLoc d ↦{q} (I : Buf (Elt F) (iLoc d))) ∗ (pLoc d ↦{q} (Pn : Buf (Elt F) (pLoc d))) ∗ (tLoc d ↦{q} (Tn : Buf (Elt F) (tLoc d)))
    ∗ (oLoc d ↦[(oRow L).view.set]{fullShare} (f : Buf (Elt F) (oLoc d))))

set_option maxHeartbeats 400000 in
/-- One tile's run: handed its operands, with every index in the table, it gives them back, its row of the result at
    `tileVal`. -/
theorem tile_body (q : PosShare TreeShare) (I : IVec S5120 32) (Pn : FVec F S5120 .f32) (Tn : FVec F S20000 .f32) (f f' : FVec F S32x16 .f32)
    (hI : ∀ j, (I j).toNat < 20000) (hf' : ∀ x : S16.Idx, f' ((oRow L).view.emb x) = tileVal I Pn Tn L x)
    (hF : (K (F := F)).Facts) (O : CellTallies nD τ sig (HIx 1)) (W : Waits sig (HIx 1)) (hO : ∀ g, O g none = 0) :
    iprop(levAts (K (F := F)).L (K (F := F)).lev ∗ emp ∗ lent d L q I Pn Tn f ∗ scopedBufs (tile d L) ∗ scopedSems0 (tile d L) ∗ owes (tile d L) O W)
      ⊢ wp frame (wpE (defs₀ (F := F)) 𝒱₀ (tile d L) none) Set.univ
          (cc0__sc_mse_body L iV (Memref.isWhole_whole _) pV (Memref.isWhole_whole _) tV (Memref.isWhole_whole _) oV (Memref.isWhole_whole _)
            sI (Memref.isWhole_whole _) sP (Memref.isWhole_whole _) sT (Memref.isWhole_whole _) sA (Memref.isWhole_whole _)
            cc0_scoped0 cc0_scoped1 cc0_scoped2 cc0_scoped3)
          fun _ => iprop(lent d L q I Pn Tn f' ∗ scopedBufs (tile d L) ∗ scopedSems0 (tile d L)
            ∗ ∃ W', ⌜∀ p ∈ W', p ∈ W ∨ p.2 = none⌝ ∗ owes (tile d L) O W') := by
  have hchk : ∀ (o : ℕ) (h : ∀ a, (![o] : Fin 1 → ℕ) a + S16.size a ≤ S160.size a),
      ∀ a x, ((![(sI.view.readAt (Elt F) (lanes o h) (segI (F := F) I L) : IVec S16 32)] : Fin 1 → IVec S16 32) a x).toNat < S20000.size a := by
    intro o h a x
    obtain rfl : a = 0 := Subsingleton.elim _ _
    exact hI _
  have hdone : ∀ g : FVec F S16 .f32, g = tileVal I Pn Tn L →
      (((oRow L).view.loc (tile d L)) ↦[(oRow L).view.set]{fullShare} ((oRow L).view.write (Elt F) f g Finset.univ : Buf (Elt F) ((oRow L).view.loc (tile d L))) : sProp 𝕄)
        = oLoc d ↦[(oRow L).view.set]{fullShare} (f' : Buf (Elt F) (oLoc d)) := by
    intro g hg
    refine pointsTo_congr (fun i hi => ?_)
    obtain ⟨x, -, rfl⟩ := Finset.mem_map.mp hi
    refine (View.write_emb_of_mem (v := (oRow L).view) (Val := Elt F) f g (Finset.mem_univ x)).trans ?_
    exact (congrFun hg x).trans (hf' x).symm
  have hset : (sA : Memref sig .scVector .vmem S16 .f32).view.set = Finset.univ := by rw [Memref.view_whole, View.set_whole]
  have hst : ∀ (fa : FVec F S16 .f32) (g : FVec F S16 .f32),
      ((sA.access (Rect.unit (s := S16) ![0] S16.size inb_S16_S16_0)).loc (tile d L) ↦{fullShare}
        ((sA.access (Rect.unit (s := S16) ![0] S16.size inb_S16_S16_0)).write (Elt F) fa g Finset.univ
          : Buf (Elt F) ((sA.access (Rect.unit (s := S16) ![0] S16.size inb_S16_S16_0)).loc (tile d L))) : sProp 𝕄)
        = (sA.view.loc (tile d L) ↦[sA.view.set]{fullShare} (g : Buf (Elt F) (sA.view.loc (tile d L)))) := by
    intro fa g
    rw [hset]
    exact congrArg (fun z => ((tile d L).loc cc0_scratch3 ↦{fullShare} z : sProp 𝕄))
      (Memref.write_access_unit_zero_univ (Elt F) cc0_scratch3 (off := ![0]) (funext fun a => match a with | 0 => rfl) inb_S16_S16_0 fa g)
  simp only [cc0__sc_mse_body_eq_skeleton]
  unfold cc0__sc_mse_body_skel
  simp only [k0_part1_eq_skeleton, k0_part2_eq_skeleton, k0_part3_eq_skeleton, k0_part1_skel, k0_part2_skel, k0_part3_skel,
    Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_tile, ownBufs_tile]
  unfold lent
  iintro ⟨#Hlv, -, ⟨Hi, Hp, Ht, Ho⟩, ⟨⟨%fi, Hsi⟩, ⟨%fp, Hsp⟩, ⟨%ft, Hst⟩, ⟨%fa, Hsa⟩, Hbufs⟩, ⟨Hv0, Hv1, Hv2, Hv3, Hsems⟩, HO⟩
  icases ((pointsTo_split_subset (ℓ := iLoc d) (q := q) (f := (I : Buf (Elt F) (iLoc d))) (Finset.subset_univ (iSeg L).view.set)).1) $$ Hi with ⟨Hi, Hir⟩
  iapply (wp_copyWait countersEmb 𝒱₀ (tile d L) none (src := (iSeg L)) (dst := sI) (q := q) (none : HIx 1)
    (View.dmaCredit_pos _ (by decide)) (Finset.subset_univ _) (O := O)) $$ [Hi Hsi Hv0 HO]
  · isplitl [Hi]; · iexact Hi
    isplitl [Hsi]; · iexact Hsi
    isplitl [Hv0]; · iexact Hv0
    isplitl [HO]; · iexact HO
    iapply ((K (F := F)).mayWait_none (SemLoc.dma cc0_scoped0.sem) hO); iexact Hlv
  iintro ⟨Hsi, Hi, Hv0, HO⟩
  ihave Hi := ((pointsTo_split_subset (ℓ := iLoc d) (q := q) (f := (I : Buf (Elt F) (iLoc d))) (Finset.subset_univ (iSeg L).view.set)).2) $$ [Hi Hir]
  · isplitl [Hi] <;> iassumption
  icases ((pointsTo_split_subset (ℓ := pLoc d) (q := q) (f := (Pn : Buf (Elt F) (pLoc d))) (Finset.subset_univ (pSeg L).view.set)).1) $$ Hp with ⟨Hp, Hpr⟩
  iapply (wp_copyWait countersEmb 𝒱₀ (tile d L) none (src := (pSeg L)) (dst := sP) (q := q) (none : HIx 1)
    (View.dmaCredit_pos _ (by decide)) (Finset.subset_univ _) (O := O)) $$ [Hp Hsp Hv1 HO]
  · isplitl [Hp]; · iexact Hp
    isplitl [Hsp]; · iexact Hsp
    isplitl [Hv1]; · iexact Hv1
    isplitl [HO]; · iexact HO
    iapply ((K (F := F)).mayWait_none (SemLoc.dma cc0_scoped1.sem) hO); iexact Hlv
  iintro ⟨Hsp, Hp, Hv1, HO⟩
  ihave Hp := ((pointsTo_split_subset (ℓ := pLoc d) (q := q) (f := (Pn : Buf (Elt F) (pLoc d))) (Finset.subset_univ (pSeg L).view.set)).2) $$ [Hp Hpr]
  · isplitl [Hp] <;> iassumption
  icases ((pointsTo_split_subset (ℓ := tLoc d) (q := q) (f := (Tn : Buf (Elt F) (tLoc d))) (Finset.subset_univ tV.view.set)).1) $$ Ht with ⟨Ht, Htr⟩
  iapply (wp_copyWait countersEmb 𝒱₀ (tile d L) none (src := tV) (dst := sT) (q := q) (none : HIx 1)
    (View.dmaCredit_pos _ (by decide)) (Finset.subset_univ _) (O := O)) $$ [Ht Hst Hv2 HO]
  · isplitl [Ht]; · iexact Ht
    isplitl [Hst]; · iexact Hst
    isplitl [Hv2]; · iexact Hv2
    isplitl [HO]; · iexact HO
    iapply ((K (F := F)).mayWait_none (SemLoc.dma cc0_scoped2.sem) hO); iexact Hlv
  iintro ⟨Hst, Ht, Hv2, HO⟩
  ihave Ht := ((pointsTo_split_subset (ℓ := tLoc d) (q := q) (f := (Tn : Buf (Elt F) (tLoc d))) (Finset.subset_univ tV.view.set)).2) $$ [Ht Htr]
  · isplitl [Ht] <;> iassumption
  ihave Hsi := (Entails.of_eq (congrArg (fun g => ((tile d L).loc cc0_scratch0 ↦{fullShare} g : sProp 𝕄))
    (View.write_whole_univ cc0_scratch0 fi (segI (F := F) I L)))) $$ Hsi
  ihave Hsp := (Entails.of_eq (congrArg (fun g => ((tile d L).loc cc0_scratch1 ↦{fullShare} g : sProp 𝕄))
    (View.write_whole_univ cc0_scratch1 fp (segP Pn L)))) $$ Hsp
  ihave Hst := (Entails.of_eq (congrArg (fun g => ((tile d L).loc cc0_scratch2 ↦{fullShare} g : sProp 𝕄))
    ((View.write_whole_univ cc0_scratch2 ft (tV.view.read (Elt F) Tn)).trans (show tV.view.read (Elt F) Tn = Tn from rfl)))) $$ Hst
  iapply (wp_gather (n := 20000) (n' := 160) 𝒱₀ (tile d L) none (ix := sI) (tb := sT) (q := fullShare) k0_idx1_inb (hchk 0 inb_S160_S16_0)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx2_inb (hchk 16 inb_S160_S16_16)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx3_inb (hchk 32 inb_S160_S16_32)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx4_inb (hchk 48 inb_S160_S16_48)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx5_inb (hchk 64 inb_S160_S16_64)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx6_inb (hchk 80 inb_S160_S16_80)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx7_inb (hchk 96 inb_S160_S16_96)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx8_inb (hchk 112 inb_S160_S16_112)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx9_inb (hchk 128 inb_S160_S16_128)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_gather (n := 20000) (n' := 160) 𝒱₀ (tile d L) none (ix := sI) (tb := sT) (q := fullShare) k0_idx10_inb (hchk 144 inb_S160_S16_144)
    (Memref.read_access_whole (Elt F) cc0_scratch2 Tn)) $$ [Hsi Hst]
  · isplitl [Hsi] <;> iassumption
  iintro ⟨Hsi, Hst⟩
  iapply (wp_load 𝒱₀ (tile d L) none Set.univ (m := sP) (S := Finset.univ) (Finset.subset_univ _)) $$ Hsp; iintro Hsp
  iapply (wp_load 𝒱₀ (tile d L) none Set.univ (m := sA) (S := Finset.univ) (Finset.subset_univ _)) $$ Hsa; iintro Hsa
  iapply (wp_store 𝒱₀ (tile d L) none Set.univ (m := sA) (r := Rect.unit (s := S16) ![0] S16.size inb_S16_S16_0) (Mk := Finset.univ)
    (S := Finset.univ) (Finset.subset_univ _)) $$ Hsa; iintro Hsa
  ihave Hsa := (Entails.of_eq (hst fa _)) $$ Hsa
  iapply (wp_copyWait countersEmb 𝒱₀ (tile d L) none (src := sA) (dst := oRow L) (q := fullShare) (none : HIx 1)
    (View.dmaCredit_pos _ (by decide)) (Finset.Subset.refl _) (O := O)) $$ [Hsa Ho Hv3 HO]
  · isplitl [Hsa]; · iexact Hsa
    isplitl [Ho]; · iexact Ho
    isplitl [Hv3]; · iexact Hv3
    isplitl [HO]; · iexact HO
    iapply ((K (F := F)).mayWait_none (SemLoc.dma cc0_scoped3.sem) hO); iexact Hlv
  iintro ⟨Ho, Hsa, Hv3, HO⟩
  ihave Ho := (Entails.of_eq (hdone _ (by rfl))) $$ Ho
  rw [wp_ret]; imodintro
  isplitl [Hi Hp Ht Ho]
  · isplitl [Hi]; · iexact Hi
    isplitl [Hp]; · iexact Hp
    isplitl [Ht]; · iexact Ht
    iexact Ho
  isplitl [Hsi Hsp Hst Hsa Hbufs]
  · isplitl [Hsi]; · iexists _; iexact Hsi
    isplitl [Hsp]; · iexists _; iexact Hsp
    isplitl [Hst]; · iexists _; iexact Hst
    isplitl [Hsa]; · iexists _; rw [hset]; iexact Hsa
    iexact Hbufs
  isplitl [Hv0 Hv1 Hv2 Hv3 Hsems]
  · isplitl [Hv0]; · iexact Hv0
    isplitl [Hv1]; · iexact Hv1
    isplitl [Hv2]; · iexact Hv2
    isplitl [Hv3]; · iexact Hv3
    iexact Hsems
  iexists (insert (SemLoc.dma cc0_scoped3.sem, none) (insert (SemLoc.dma cc0_scoped2.sem, none)
    (insert (SemLoc.dma cc0_scoped1.sem, none) (insert (SemLoc.dma cc0_scoped0.sem, none) W))))
  isplitr
  · ipureintro
    intro p hp
    simp only [Finset.mem_insert] at hp
    rcases hp with rfl | rfl | rfl | rfl | hp
    · exact .inr rfl
    · exact .inr rfl
    · exact .inr rfl
    · exact .inr rfl
    · exact .inl hp
  iexact HO

end Tile

end Cert.Proof.MseTile

end
-- ==== Proof.MseCall.lean ====
/-
  The one SparseCore call: what the TensorCore hands each of the thirty-two subcores and what it takes back, the
  operands divided among them and joined again.
-/
module

public import proofs.«01_k».proof.Proof.MseTile

@[expose] public section

noncomputable section

namespace Cert.Proof.MseTile

open Cert.MseIdeal Cert.MseIdeal.Gen Cert.Proof.Steps

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev EH : Emb UH (MT nD τ sig (HIx 1) (Elt F) ℕ UU ℕ) := embL

/-- A subcore's coordinates from its SparseCore and its number there. -/
def at' (c : Fin 2) (i : Fin 16) : grid0.Coords := fun | 0 => c | 1 => i | ⟨_ + 2, h⟩ => absurd h (Nat.not_lt.2 (Nat.le_add_left _ _))

/-- The number of a subcore among the thirty-two, as its share of the operands is numbered. -/
def wid : Fin 2 × Fin 16 ≃ Fin (2 ^ 5) := finProdFinEquiv.trans (finCongr (by norm_num))

abbrev share (c : Fin 2) (i : Fin 16) : PosShare TreeShare := ShareLeaves.leaf 5 fullShare (wid (c, i))

/-- The lane of a number. -/
def lane (k : Fin 16) : S16.Idx := fun a => match a with | 0 => k

/-! ## Rows of the result -/

/-- The words of the result that are a subcore's. -/
abbrev rowSet (p : Fin 2 × Fin 16) : Finset S32x16.Idx := (oRow (at' p.1 p.2)).view.set

/-- Where lane `x` of a subcore's row lies in the result. -/
theorem emb_oRow (L : grid0.Coords) (x : S16.Idx) :
    ((oRow L).view.emb x 0).val = 2 * (L 1).val + (L 0).val ∧ ((oRow L).view.emb x 1).val = (x 0).val := by
  have e : (oRow L).view.emb x = (Rect.unit (s := S32x16) (k0_off2 L) S1x16.size (k0_off2_inb L)).emb (Shape.reshapeEquiv squeezes_S1x16_S16.numel_eq x) := rfl
  have e1 : Shape.reshapeEquiv squeezes_S1x16_S16.numel_eq x = (Fin.cons ⟨0, Nat.one_pos⟩ x : S1x16.Idx) := Shape.reshapeEquiv_cons_one _ x
  rw [e, e1]
  constructor
  · rw [Rect.emb_apply]
    show k0_off2 L 0 + 1 * 0 = _
    rw [k0_off2_eq]; simp
  · rw [Rect.emb_apply]
    show k0_off2 L 1 + 1 * (x 0).val = _
    rw [k0_off2_eq]; simp

/-- A subcore's row holds the words whose first coordinate is its number. -/
theorem mem_oRow (L : grid0.Coords) (j : S32x16.Idx) : j ∈ (oRow L).view.set ↔ (j 0).val = 2 * (L 1).val + (L 0).val := by
  constructor
  · intro h
    obtain ⟨x, -, rfl⟩ := Finset.mem_map.mp h
    exact (emb_oRow L x).1
  · intro h
    refine Finset.mem_map.mpr ⟨lane (j 1), Finset.mem_univ _, ?_⟩
    funext a
    match a with
    | 0 => exact Fin.ext ((emb_oRow L _).1.trans h.symm)
    | 1 => exact Fin.ext (emb_oRow L _).2

theorem rows_disjoint : ∀ p ∈ (Finset.univ : Finset (Fin 2 × Fin 16)), ∀ p' ∈ (Finset.univ : Finset (Fin 2 × Fin 16)), p ≠ p' →
    Disjoint (rowSet p) (rowSet p') := by
  intro p _ p' _ hne
  refine Finset.disjoint_left.mpr fun j h h' => hne ?_
  have h1 : (j 0).val = 2 * p.2.val + p.1.val := (mem_oRow (at' p.1 p.2) j).mp h
  have h2 : (j 0).val = 2 * p'.2.val + p'.1.val := (mem_oRow (at' p'.1 p'.2) j).mp h'
  have b1 := p.1.isLt; have b2 := p'.1.isLt
  exact Prod.ext (Fin.ext (by omega)) (Fin.ext (by omega))

theorem rows_cover : (Finset.univ : Finset (Fin 2 × Fin 16)).biUnion rowSet = Finset.univ := by
  refine Finset.eq_univ_iff_forall.mpr fun j => Finset.mem_biUnion.mpr ?_
  have hj : (j 0).val < 32 := (j 0).isLt
  refine ⟨(⟨(j 0).val % 2, by omega⟩, ⟨(j 0).val / 2, by omega⟩), Finset.mem_univ _, (mem_oRow _ j).mpr ?_⟩
  show (j 0).val = 2 * ((j 0).val / 2) + (j 0).val % 2
  omega

variable [FloatOps F]

/-- The whole result: row `w` is what subcore `w` leaves. -/
def outVal (I : IVec S5120 32) (Pn : FVec F S5120 .f32) (Tn : FVec F S20000 .f32) : FVec F S32x16 .f32 := fun j =>
  tileVal I Pn Tn (at' ⟨(j 0).val % 2, Nat.mod_lt _ (by decide)⟩ ⟨(j 0).val / 2, by have h : (j 0).val < 32 := (j 0).isLt; omega⟩) (lane (j 1))

theorem outVal_row (I : IVec S5120 32) (Pn : FVec F S5120 .f32) (Tn : FVec F S20000 .f32) (L : grid0.Coords) (x : S16.Idx) :
    outVal I Pn Tn ((oRow L).view.emb x) = tileVal I Pn Tn L x := by
  obtain ⟨h0, h1⟩ := emb_oRow L x
  have b0 : (L 0).val < 2 := (L 0).isLt
  unfold outVal
  congr 1
  · congr 1
    funext a
    match a with
    | 0 => exact Fin.ext (by show ((oRow L).view.emb x 0).val % 2 = _; rw [h0]; omega)
    | 1 => exact Fin.ext (by show ((oRow L).view.emb x 0).val / 2 = _; rw [h0]; omega)
  · funext a
    obtain rfl : a = 0 := Subsingleton.elim _ _
    exact Fin.ext h1

/-- The operands whole and the result whole are the thirty-two subcores' portions at once. -/
theorem dealt (d : Dev nD) (I : IVec S5120 32) (Pn : FVec F S5120 .f32) (Tn : FVec F S20000 .f32) (f : FVec F S32x16 .f32) :
    (iprop((iLoc d ↦{fullShare} (I : Buf (Elt F) (iLoc d))) ∗ (pLoc d ↦{fullShare} (Pn : Buf (Elt F) (pLoc d)))
        ∗ (tLoc d ↦{fullShare} (Tn : Buf (Elt F) (tLoc d))) ∗ (oLoc d ↦{fullShare} (f : Buf (Elt F) (oLoc d)))) : sProp 𝕄)
      = bigSep Finset.univ fun c : Fin 2 => bigSep Finset.univ fun i : Fin 16 => lent d (at' c i) (share c i) I Pn Tn f := by
  have shares : ∀ (ℓ : Loc nD τ sig) (g : Buf (Elt F) ℓ), (ℓ ↦{fullShare} g : sProp 𝕄)
      = bigSep Finset.univ fun c : Fin 2 => bigSep Finset.univ fun i : Fin 16 => ℓ ↦{share c i} g := by
    intro ℓ g
    rw [ShareLeaves.pointsTo_leaves Finset.univ g 5 fullShare, bigSep_univ_equiv wid, bigSep_univ_prod]
  have rows : (oLoc d ↦{fullShare} (f : Buf (Elt F) (oLoc d)) : sProp 𝕄)
      = bigSep Finset.univ fun c : Fin 2 => bigSep Finset.univ fun i : Fin 16 => oLoc d ↦[(oRow (at' c i)).view.set]{fullShare} (f : Buf (Elt F) (oLoc d)) := by
    have h := pointsTo_biUnion (Val := Elt F) (Ix := HIx 1) (Name := ℕ) (U := UU) (Lvl := ℕ) (ℓ := oLoc d) (q := fullShare) (f := (f : Buf (Elt F) (oLoc d))) Finset.univ
      rowSet rows_disjoint
    rw [← bigSep_univ_prod (fun p : Fin 2 × Fin 16 => (oLoc d ↦[rowSet p]{fullShare} (f : Buf (Elt F) (oLoc d)) : sProp 𝕄)), ← h]
    exact congrArg (fun J => (oLoc d ↦[J]{fullShare} (f : Buf (Elt F) (oLoc d)) : sProp 𝕄)) rows_cover.symm
  rw [shares (iLoc d), shares (pLoc d), shares (tLoc d), rows]
  unfold lent
  simp only [bigSep_sep']

/-! ## The call's payloads -/

variable (I : Dev nD → IVec S5120 32) (Pn : Dev nD → FVec F S5120 .f32) (Tn : Dev nD → FVec F S20000 .f32) (o : Dev nD → FVec F S32x16 .f32)

/-- A subcore is handed its portion with the result as it was found, and hands it back with the result computed. -/
def P : (K (F := F)).Pay (nD := nD) (Val := Elt F) (Name := ℕ) (U := UU) where
  st := fun q d c => match q with
    | 0 => bigSep Finset.univ fun i : Fin 16 => lent d (at' c i) (share c i) (I d) (Pn d) (Tn d) (o d)
  dn := fun q d c => match q with
    | 0 => bigSep Finset.univ fun i : Fin 16 => lent d (at' c i) (share c i) (I d) (Pn d) (Tn d) (outVal (I d) (Pn d) (Tn d))
  go := fun q d c i => match q with
    | 0 => lent d (at' c i) (share c i) (I d) (Pn d) (Tn d) (o d)
  td := fun q d c i => match q with
    | 0 => lent d (at' c i) (share c i) (I d) (Pn d) (Tn d) (outVal (I d) (Pn d) (Tn d))
  x := fun _ _ => iprop(emp)

instance P_storable : (P I Pn Tn o).IsStorable where
  st q d c := by match q with | 0 => unfold P lent; infer_instance
  dn q d c := by match q with | 0 => unfold P lent; infer_instance
  go q d c i := by match q with | 0 => unfold P lent; infer_instance
  td q d c i := by match q with | 0 => unfold P lent; infer_instance

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right .inl
  iexact HO

theorem defs₀_tile (c : Fin τ.nSC) (s : Fin τ.nSub) :
    defs₀ (F := F) (.scVector c s) 0 () = SparseCore.onTile hcore0 hsub0 (fun c s =>
      cc0__sc_mse_body (at' c s) iV (Memref.isWhole_whole _) pV (Memref.isWhole_whole _) tV (Memref.isWhole_whole _) oV (Memref.isWhole_whole _)
        sI (Memref.isWhole_whole _) sP (Memref.isWhole_whole _) sT (Memref.isWhole_whole _) sA (Memref.isWhole_whole _)
        cc0_scoped0 cc0_scoped1 cc0_scoped2 cc0_scoped3) ⟨⟩ c s := rfl

/-- What the launch asks of each subcore's task. -/
theorem tileObl (hI : ∀ d j, (I d j).toNat < 20000) : (K (F := F)).TileObl (D (F := F)) 𝒱 (P I Pn Tn o) v₀ 0 := by
  intro d c i O W hO _ _
  simp only [show (P I Pn Tn o).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body d (at' c i) (share c i) (I d) (Pn d) (Tn d) (o d) (outVal (I d) (Pn d) (Tn d)) (hI d)
    (outVal_row _ _ _ (at' c i)) facts O W hO).trans (wp_mono frame _ _ fun _ => obl_post)

/-- A SparseCore's operands are its sixteen subcores' portions. -/
theorem vecSplit : (K (F := F)).VecSplit' (P I Pn Tn o) 0 := by
  intro d c
  show (bigSep Finset.univ fun i : Fin 16 => lent d (at' c i) (share c i) (I d) (Pn d) (Tn d) (o d)) ⊢ |={Set.univ}=> iprop(
    (bigSep Finset.univ fun i : Fin 16 => lent d (at' c i) (share c i) (I d) (Pn d) (Tn d) (o d))
      ∗ ((bigSep Finset.univ fun i : Fin 16 => lent d (at' c i) (share c i) (I d) (Pn d) (Tn d) (outVal (I d) (Pn d) (Tn d)))
        -∗ bigSep Finset.univ fun i : Fin 16 => lent d (at' c i) (share c i) (I d) (Pn d) (Tn d) (outVal (I d) (Pn d) (Tn d))))
  iintro H; imodintro
  isplitl [H]; · iexact H
  iintro H; iexact H

omit [FloatOps F] in
theorem bigSep_emp' {α : Type} (s : Finset α) : (bigSep s fun _ => (iprop(emp) : sProp 𝕄)) = iprop(emp) := bigSep_emp_const s

/-- The launch element: the handshakes' rounds, no counter. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P I Pn Tn o).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.MseTile

end
-- ==== Proof.MseRun.lean ====
/-
  The whole run of the program: the host's operations before the SparseCore call, the call, the host's operations
  after it; from this, what every buffer holds at the end.
-/
module

public import proofs.«01_k».proof.Proof.MseCall
public import Idealize.ShloMosaic.Lib.StableHlo.Run
public import Idealize.ShloMosaic.Lib.Pipeline.Frame

@[expose] public section

noncomputable section

namespace Cert.Proof.MseTile

open Cert.MseIdeal Cert.MseIdeal.Gen Cert.Proof.Steps

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (ucRefs sub_ucRefs unscopedBufs_held)

variable {F : FTy → Type} [FloatOps F]

local notation "𝕄" => MT nD τ sig (HIx 1) (Elt F) ℕ UU ℕ

/-- The host's operations before the call. -/
abbrev opsPre : List (HloOp τ sig (Elt F)) :=
  [ nullary main_cst (constant S_ .f32 0x00000000#32),
    unary main_cst main_v0 (broadcastInDim S5120 ![] bcast_S_S5120 : (⟨S_, .f32⟩ : BufTy).Contents (Elt F) → (⟨S5120, .f32⟩ : BufTy).Contents (Elt F)),
    unary main_arg1 main_v1 ((extractStridedSlice S5000x1 ![0, 3] · slices_S5000x4_S5000x1_0_3) : (⟨S5000x4, .f32⟩ : BufTy).Contents (Elt F) → (⟨S5000x1, .f32⟩ : BufTy).Contents (Elt F)),
    reshape main_v1 main_v2 (rfl : (.f32 : EltTy) = .f32) shapeCasts_S5000x1_S5000,
    nullary main_c (constantI S_ 32 0#32),
    unary main_c main_v3 (broadcastInDim S1 ![] bcast_S_S1 : (⟨S_, .i32⟩ : BufTy).Contents (Elt F) → (⟨S1, .i32⟩ : BufTy).Contents (Elt F)),
    ternary main_v0 main_v3 main_v2 main_v4 ((fun x i u => Host.scatter scatter_S5120_S1_S5000_0_n_0_0 (fun _ b => b) x i u) : (⟨S5120, .f32⟩ : BufTy).Contents (Elt F) → (⟨S1, .i32⟩ : BufTy).Contents (Elt F) → (⟨S5000, .f32⟩ : BufTy).Contents (Elt F) → (⟨S5120, .f32⟩ : BufTy).Contents (Elt F)),
    unary main_arg2 main_v5 ((extractStridedSlice S20000x1 ![0, 3] · slices_S20000x4_S20000x1_0_3) : (⟨S20000x4, .f32⟩ : BufTy).Contents (Elt F) → (⟨S20000x1, .f32⟩ : BufTy).Contents (Elt F)),
    reshape main_v5 main_v6 (rfl : (.f32 : EltTy) = .f32) shapeCasts_S20000x1_S20000 ]

/-- The host's operations after the call. -/
abbrev opsPost : List (HloOp τ sig (Elt F)) :=
  [ nullary main_cst_0 (constant S_ .f32 0x00000000#32),
    binary main_v7 main_cst_0 main_v8 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    nullary main_cst_1 (constant S_ .f32 0x459C4000#32),
    binary main_v8 main_cst_1 main_v9 (Host.divf : (⟨S_, .f32⟩ : BufTy).Contents (Elt F) → (⟨S_, .f32⟩ : BufTy).Contents (Elt F) → (⟨S_, .f32⟩ : BufTy).Contents (Elt F)) ]

theorem main_eq (d : Dev nD) : main (F := F) d = (seq opsPre >>= fun _ => (sc (F := F)).run d 0 >>= fun _ => seq opsPost) := by
  rw [seq_bind_seqK]; rfl

theorem opsPre_sub : (opsPre : List (HloOp τ sig (Elt F))).Forall fun op => op.bufs ⊆ tcRefs τ sig :=
  ⟨nullary_bufs_sub .., unary_bufs_sub .., unary_bufs_sub .., reshape_bufs_sub .., nullary_bufs_sub .., unary_bufs_sub .., ternary_bufs_sub .., unary_bufs_sub .., reshape_bufs_sub ..⟩

theorem opsPost_sub : (opsPost : List (HloOp τ sig (Elt F))).Forall fun op => op.bufs ⊆ tcRefs τ sig :=
  ⟨nullary_bufs_sub .., binary_bufs_sub .., nullary_bufs_sub .., binary_bufs_sub ..⟩

theorem opsPre_fresh : (opsPre : List (HloOp τ sig (Elt F))).Forall fun op => op.fresh = ∅ := forall_fresh_of_map rfl
theorem opsPost_fresh : (opsPost : List (HloOp τ sig (Elt F))).Forall fun op => op.fresh = ∅ := forall_fresh_of_map rfl

variable (m : (ℓ : Loc nD τ sig) → Buf (Elt F) ℓ) (ρ : Dev nD → PrngReg)

/-- A reference of the TensorCore as a buffer of the device. -/
abbrev dv (r : Ref sig .tc) : DevRef τ sig := Proc.devRef (τ := τ) .tc r

/-- What the buffers hold when the call starts. -/
def V1 (d : Dev nD) : Valuation τ sig (Elt F) := after opsPre (launchContents m d)

abbrev Iv (d : Dev nD) : IVec S5120 32 := m (iLoc d)
abbrev Pv (d : Dev nD) : FVec F S5120 .f32 := V1 m d (dv main_v4)
abbrev Tv (d : Dev nD) : FVec F S20000 .f32 := V1 m d (dv main_v6)
abbrev Ov (d : Dev nD) : FVec F S32x16 .f32 := V1 m d (dv main_v7)

/-- What they hold when it has returned. -/
def V2 (d : Dev nD) : Valuation τ sig (Elt F) := Function.update (V1 m d) (dv main_v7) (outVal (Iv m d) (Pv m d) (Tv m d))

/-- What they hold at the end. -/
def V3 (d : Dev nD) : Valuation τ sig (Elt F) := after opsPost (V2 m d)

theorem V1_arg0 (d : Dev nD) : V1 m d (dv main_arg0) = m (iLoc d) := by
  unfold V1; after_results <;> rfl

/-- The four buffers of the call. -/
def four : Finset (DevRef τ sig) := {dv main_arg0, dv main_v4, dv main_v6, dv main_v7}

theorem four_sub : four ⊆ ucRefs τ sig := by
  intro b hb
  simp only [four, Finset.mem_insert, Finset.mem_singleton] at hb
  rcases hb with rfl | rfl | rfl | rfl <;> exact Finset.mem_filter.mpr ⟨devRef_mem_tcRefs _, by decide⟩

omit [FloatOps F] in
theorem held_four (d : Dev nD) (W : Valuation τ sig (Elt F)) :
    (held (SparseCore.T d) four W : sProp 𝕄) = iprop((iLoc d ↦{fullShare} W (dv main_arg0)) ∗ (pLoc d ↦{fullShare} W (dv main_v4))
      ∗ (tLoc d ↦{fullShare} W (dv main_v6)) ∗ (oLoc d ↦{fullShare} W (dv main_v7))) := by
  unfold held four
  rw [SparseCore.bigSep_insert' (by decide), SparseCore.bigSep_insert' (by decide), SparseCore.bigSep_insert' (by decide), bigSep_singleton]

abbrev PP := P (fun d => Iv m d) (fun d => Pv m d) (fun d => Tv m d) (fun d => Ov m d)

theorem st_eq (d : Dev nD) : (bigSep Finset.univ fun c : Fin ((K (F := F)).nCore 0) => (PP m).st 0 d c)
    = (iprop((iLoc d ↦{fullShare} (Iv m d : Buf (Elt F) (iLoc d))) ∗ (pLoc d ↦{fullShare} (Pv m d : Buf (Elt F) (pLoc d)))
        ∗ (tLoc d ↦{fullShare} (Tv m d : Buf (Elt F) (tLoc d))) ∗ (oLoc d ↦{fullShare} (Ov m d : Buf (Elt F) (oLoc d)))) : sProp 𝕄) :=
  (dealt d (Iv m d) (Pv m d) (Tv m d) (Ov m d)).symm

theorem dn_eq (d : Dev nD) : (bigSep Finset.univ fun c : Fin ((K (F := F)).nCore 0) => (PP m).dn 0 d c)
    = (iprop((iLoc d ↦{fullShare} (Iv m d : Buf (Elt F) (iLoc d))) ∗ (pLoc d ↦{fullShare} (Pv m d : Buf (Elt F) (pLoc d)))
        ∗ (tLoc d ↦{fullShare} (Tv m d : Buf (Elt F) (tLoc d)))
        ∗ (oLoc d ↦{fullShare} (outVal (Iv m d) (Pv m d) (Tv m d) : Buf (Elt F) (oLoc d)))) : sProp 𝕄) :=
  (dealt d (Iv m d) (Pv m d) (Tv m d) (outVal (Iv m d) (Pv m d) (Tv m d))).symm

theorem V2_of_ne (d : Dev nD) {b : DevRef τ sig} (h : b ≠ dv main_v7) : V2 m d b = V1 m d b := Function.update_of_ne h _ _

theorem V2_out (d : Dev nD) : V2 m d (dv main_v7) = outVal (Iv m d) (Pv m d) (Tv m d) := Function.update_self _ _ _

theorem dv_mem_uc (r : Ref sig .tc) (h : (dv r).isScoped = false) : dv r ∈ ucRefs τ sig :=
  Finset.mem_filter.mpr ⟨devRef_mem_tcRefs _, by rw [h]; exact Bool.false_ne_true⟩

abbrev FIN (d : Dev nD) : sProp 𝕄 := held (SparseCore.T d) (ucRefs τ sig) (V3 m d)

/-- The TensorCore's program, from what the launch deals it to every buffer at its final contents. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (launchContents m d) from
    unscopedBufs_held d (launchContents m d), main_eq]
  iintro ⟨#Hctx, Hst, ⟨Hb, Hheld, Hts, -⟩, -⟩
  iapply (wp_seq 𝒱 none Set.univ d (ucRefs τ sig) _ opsPre (fun op h => sub_ucRefs op (List.forall_iff_forall_mem.1 opsPre_sub op h))
    (List.forall_iff_forall_mem.1 opsPre_fresh) (launchContents m d)) $$ [Hb Hheld]
  · isplitl [Hb]; · iexact Hb
    iexact Hheld
  iintro ⟨Hb, Hheld⟩
  ihave Hheld := (Entails.of_eq (show (held (SparseCore.T d) (ucRefs τ sig) (after opsPre (launchContents m d)) : sProp 𝕄)
    = iprop(held (SparseCore.T d) four (V1 m d) ∗ held (SparseCore.T d) (ucRefs τ sig \ four) (V1 m d)) from
    held_sub_split _ four_sub _)) $$ Hheld
  icases Hheld with ⟨Hfour, Hrest⟩
  ihave Hfour := (Entails.of_eq (held_four d (V1 m d))) $$ Hfour
  icases Hfour with ⟨Hi, Hp, Ht, Ho⟩
  ihave Hi := (Entails.of_eq (congrArg (fun g => (iLoc d ↦{fullShare} g : sProp 𝕄)) (V1_arg0 m d))) $$ Hi
  rw [wp_bind]
  iapply ((K (F := F)).wp_run (D (F := F)) 𝒱 (EH := EH) (P := PP m) κ d 0) $$ [Hst Hi Hp Ht Ho Hb Hts Hrest]
  isplitr; · iexact Hctx
  isplitl [Hst]; · iexact Hst
  isplitl [Hi Hp Ht Ho]
  · rw [st_eq]
    isplitl [Hi]; · iexact Hi
    isplitl [Hp]; · iexact Hp
    isplitl [Ht]; · iexact Ht
    iexact Ho
  iintro ⟨Hst, Hdn⟩
  ihave Hdn' := (Entails.of_eq (dn_eq m d)) $$ Hdn
  icases Hdn' with ⟨Hi, Hp, Ht, Ho⟩
  ihave Hfour : (held (SparseCore.T d) four (V2 m d) : sProp 𝕄) $$ [Hi Hp Ht Ho]
  · rw [held_four, V2_out, V2_of_ne m d (b := dv main_arg0) (by decide), V2_of_ne m d (b := dv main_v4) (by decide),
      V2_of_ne m d (b := dv main_v6) (by decide), V1_arg0]
    isplitl [Hi]; · iexact Hi
    isplitl [Hp]; · iexact Hp
    isplitl [Ht]; · iexact Ht
    iexact Ho
  ihave Hrest := (Entails.of_eq (held_congr (SparseCore.T d) (S := ucRefs τ sig \ four) (V := V1 m d) (V' := V2 m d) fun b hb =>
    (V2_of_ne m d (fun e => (Finset.mem_sdiff.1 hb).2 (by rw [e]; simp [four]))).symm)) $$ Hrest
  ihave Hheld : (held (SparseCore.T d) (ucRefs τ sig) (V2 m d) : sProp 𝕄) $$ [Hfour Hrest]
  · rw [held_sub_split _ four_sub]
    isplitl [Hfour] <;> iassumption
  rw [show (seq opsPost : Prog (TpuEff nD τ sig (Elt F) _ .tc) PUnit) = (seq opsPost >>= fun u => Pure.pure u) from (bind_pure _).symm]
  iapply (wp_seq 𝒱 none Set.univ d (ucRefs τ sig) _ opsPost (fun op h => sub_ucRefs op (List.forall_iff_forall_mem.1 opsPost_sub op h))
    (List.forall_iff_forall_mem.1 opsPost_fresh) (V2 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop :=
  ∀ r : Ref sig .tc, (dv r).isScoped = false → s'.mem.mem ((SparseCore.T d).loc r) = V3 m d (dv r)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact fun r hr => h _ (dv_mem_uc r hr)

/-- What holds of the end: every buffer of the TensorCore at its final contents, every semaphore at zero. -/
def QC : PUnit × MemSt nD τ sig (Elt F) → Prop := fun r =>
  (∀ (d : Dev nD) (b : Ref sig .tc), (dv b).isScoped = false → r.2.mem ((SparseCore.T d).loc b) = V3 m d (dv b)) ∧ r.2.sem = fun _ => 0

/-- Every weakly fair execution of the program, its indices in the table, ends so. -/
theorem run_main [∀ e, Nonempty (Elt F e)] (hI : ∀ d j, (Iv m d j).toNat < 20000) :
    θ_run (Cert.MseIdeal.defs (F := F)) (Cert.MseIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ hI)
    (fun q _ => match q with | 0 => SparseCore.Cfg.VecSplit.of_plain (vecSplit _ _ _ _))
    m ρ main (fun _ => iprop(emp)) (FIN m) (u₀ (F := F)) (sep_elim_left.trans (hu₀ _ _ _ _)) (hmain m ρ) (fq m) (hfin m) (QC m) (fun _ h hz => ⟨h, hz⟩)

/-! ## The final contents of the arguments and of the result -/

theorem V3_arg0 (d : Dev nD) : V3 m d (dv main_arg0) = m ((SparseCore.T d).loc main_arg0) := by
  have h : V3 m d (dv main_arg0) = V2 m d (dv main_arg0) := by unfold V3; after_results <;> rfl
  rw [h, V2_of_ne m d (by decide)]; unfold V1; after_results <;> rfl

theorem V3_arg1 (d : Dev nD) : V3 m d (dv main_arg1) = m ((SparseCore.T d).loc main_arg1) := by
  have h : V3 m d (dv main_arg1) = V2 m d (dv main_arg1) := by unfold V3; after_results <;> rfl
  rw [h, V2_of_ne m d (by decide)]; unfold V1; after_results <;> rfl

theorem V3_arg2 (d : Dev nD) : V3 m d (dv main_arg2) = m ((SparseCore.T d).loc main_arg2) := by
  have h : V3 m d (dv main_arg2) = V2 m d (dv main_arg2) := by unfold V3; after_results <;> rfl
  rw [h, V2_of_ne m d (by decide)]; unfold V1; after_results <;> rfl

theorem V3_result (d : Dev nD) : V3 m d (dv main_v9) = Host.divf (Host.reduceAdd (outVal (Iv m d) (Pv m d) (Tv m d))
    (constant S_ .f32 0x00000000#32) reducesTo_S32x16_S_d0_1 h_S_) (constant S_ .f32 0x459C4000#32) := by
  have h : V3 m d (dv main_v9) = Host.divf (Host.reduceAdd (V2 m d (dv main_v7) : FVec F S32x16 .f32)
    (constant S_ .f32 0x00000000#32) reducesTo_S32x16_S_d0_1 h_S_) (constant S_ .f32 0x459C4000#32) := by unfold V3; after_results <;> rfl
  rw [h, V2_out]

theorem Pv_eq (d : Dev nD) : Pv m d = Host.scatter scatter_S5120_S1_S5000_0_n_0_0 (fun _ b => b)
    (broadcastInDim S5120 ![] bcast_S_S5120 (constant S_ .f32 0x00000000#32)) (broadcastInDim S1 ![] bcast_S_S1 (constantI S_ 32 0#32))
    (shapeCast S5000 (extractStridedSlice S5000x1 ![0, 3] (m ((SparseCore.T d).loc main_arg1) : FVec F S5000x4 .f32) slices_S5000x4_S5000x1_0_3) shapeCasts_S5000x1_S5000) := by
  unfold Pv V1; after_results <;> rfl

theorem Tv_eq (d : Dev nD) : Tv m d = shapeCast S20000 (extractStridedSlice S20000x1 ![0, 3]
    (m ((SparseCore.T d).loc main_arg2) : FVec F S20000x4 .f32) slices_S20000x4_S20000x1_0_3) shapeCasts_S20000x1_S20000 := by
  unfold Tv V1; after_results <;> rfl

end Cert.Proof.MseTile

end

end
-- ==== Proof.MseValue.lean ====
/-
  What the program's result is at the ideal values: the sum over the 5000 rows of the squared differences, divided by
  their number; and that the reference's result is the same.
-/
module

public import proofs.«01_k».proof.Proof.MseRun
public import proofs.«01_k».proof.Proof.Mean
public import proofs.«01_k».proof.Proof.Gen.MseRefIdeal.Run

@[expose] public section

noncomputable section

namespace Cert.Proof.MseTile

open Cert.MseIdeal Cert.MseIdeal.Gen Cert.Proof.Steps Cert.Proof.Mean
open Idealize.ShloMosaic Idealize.ShloMosaic.ValueIdx Idealize.SL.Sem
open scoped BigOperators

variable (I : IVec S5120 32) (Pn : FVec Ideal S5120 .f32) (Tn : FVec Ideal S20000 .f32)

/-- The number of a subcore. -/
abbrev num (L : grid0.Coords) : ℕ := 2 * (L 1).val + (L 0).val

theorem num_lt (L : grid0.Coords) : num L < 32 := by
  have h0 : (L 0).val < 2 := (L 0).isLt
  have h1 : (L 1).val < 16 := (L 1).isLt
  show 2 * (L 1).val + (L 0).val < 32
  omega

theorem base_toNat (L : grid0.Coords) : (base L).toNat = num L * 160 := by
  have h0 : (L 0).val < 2 := (L 0).isLt
  have h1 : (L 1).val < 16 := (L 1).isLt
  show (((BitVec.ofNat 32 (L 1).val * 2#32) + BitVec.ofNat 32 (L 0).val) * 160#32).toNat = (2 * (L 1).val + (L 0).val) * 160
  simp only [BitVec.toNat_mul, BitVec.toNat_add, BitVec.toNat_ofNat]
  omega

theorem off_eq (L : grid0.Coords) : k0_off1 L 0 = num L * 160 := (show k0_off1 L 0 = (base L).toNat from rfl).trans (base_toNat L)

/-- Where lane `x` of the sixteen words from `o` of a subcore's segment lies. -/
theorem pAt_apply (L : grid0.Coords) (o : ℕ) (h : ∀ a, (![o] : Fin 1 → ℕ) a + S16.size a ≤ S160.size a) (x : S16.Idx)
    (hr : num L * 160 + o + (x 0).val < 5120) : pAt Pn L o h x = Pn (ix1 ⟨num L * 160 + o + (x 0).val, hr⟩) := by
  refine congrArg Pn (funext fun a => Fin.ext ?_)
  obtain rfl : a = 0 := Subsingleton.elim (α := Fin 1) _ _
  show k0_off1 L 0 + 1 * (o + 1 * (x 0).val) = num L * 160 + o + (x 0).val
  rw [off_eq]; omega

theorem gAt_apply (L : grid0.Coords) (o : ℕ) (h : ∀ a, (![o] : Fin 1 → ℕ) a + S16.size a ≤ S160.size a) (x : S16.Idx)
    (hr : num L * 160 + o + (x 0).val < 5120) :
    gAt I Tn L o h x = Tn (ix1 ⟨(I (ix1 ⟨num L * 160 + o + (x 0).val, hr⟩)).toNat % 20000, Nat.mod_lt _ (by decide)⟩) := by
  have e : (sI.view.readAt (Elt Ideal) (lanes o h) (segI (F := Ideal) I L) : IVec S16 32) x = I (ix1 ⟨num L * 160 + o + (x 0).val, hr⟩) := by
    refine congrArg I (funext fun a => Fin.ext ?_)
    obtain rfl : a = 0 := Subsingleton.elim (α := Fin 1) _ _
    show k0_off1 L 0 + 1 * (o + 1 * (x 0).val) = num L * 160 + o + (x 0).val
    rw [off_eq]; omega
  refine congrArg Tn (funext fun a => Fin.ext ?_)
  obtain rfl : a = 0 := Subsingleton.elim (α := Fin 1) _ _
  show ((sI.view.readAt (Elt Ideal) (lanes o h) (segI (F := Ideal) I L) : IVec S16 32) x).toNat % 20000 = _
  rw [e]

/-- Sixteen lanes' squared differences, zero where the row does not exist. -/
def lanesSq (L : grid0.Coords) (o : BitVec 32) (g p : FVec Ideal S16 .f32) : FVec Ideal S16 .f32 :=
  mulf (select (cmpi .slt (addi (broadcast S16 (Scalar.addi (base L) o)) iot) (broadcast S16 5000#32)) (subf p g)
      (broadcast S16 (Scalar.ofBits .f32 0x00000000#32)))
    (select (cmpi .slt (addi (broadcast S16 (Scalar.addi (base L) o)) iot) (broadcast S16 5000#32)) (subf p g)
      (broadcast S16 (Scalar.ofBits .f32 0x00000000#32)))

theorem exists_row (L : grid0.Coords) (o : ℕ) (ho : o < 160) (x : S16.Idx) :
    cmpi .slt (addi (broadcast S16 (Scalar.addi (base L) (BitVec.ofNat 32 o))) iot) (broadcast S16 5000#32) x
      = BitVec.ofBool (decide (num L * 160 + o + (x 0).val < 5000)) := by
  have hx : (x 0).val < 16 := (x 0).isLt
  have hn := num_lt L
  have hb := base_toNat L
  have e : (addi (broadcast S16 (Scalar.addi (base L) (BitVec.ofNat 32 o))) iot x).toNat = num L * 160 + o + (x 0).val := by
    show ((base L + BitVec.ofNat 32 o) + BitVec.ofNat 32 (0 * 16 + (x 0).val)).toNat = _
    simp only [BitVec.toNat_add, BitVec.toNat_ofNat, hb]
    omega
  show BitVec.ofBool ((addi (broadcast S16 (Scalar.addi (base L) (BitVec.ofNat 32 o))) iot x).slt 5000#32) = _
  rw [BitVec.slt_eq_decide, toInt_of_lt _ (by rw [e]; omega), e]
  have h5 : (5000#32 : BitVec 32).toInt = 5000 := by decide
  refine congrArg BitVec.ofBool (decide_eq_decide.2 ?_)
  rw [h5]; omega

theorem lanesSq_apply (L : grid0.Coords) (o : ℕ) (ho : o ≤ 144) (h : ∀ a, (![o] : Fin 1 → ℕ) a + S16.size a ≤ S160.size a) (x : S16.Idx) :
    lanesSq L (BitVec.ofNat 32 o) (gAt I Tn L o h) (pAt Pn L o h) x = rowTerm I Pn Tn (num L * 160 + o + (x 0).val) := by
  have hx : (x 0).val < 16 := (x 0).isLt
  have hn := num_lt L
  have hr : num L * 160 + o + (x 0).val < 5120 := by omega
  have key : select (cmpi .slt (addi (broadcast S16 (Scalar.addi (base L) (BitVec.ofNat 32 o))) iot) (broadcast S16 5000#32))
      (subf (pAt Pn L o h) (gAt I Tn L o h)) (broadcast S16 (Scalar.ofBits (F := Ideal) .f32 0x00000000#32)) x
      = if num L * 160 + o + (x 0).val < 5000 then
          Pn (ix1 ⟨num L * 160 + o + (x 0).val, hr⟩) - Tn (ix1 ⟨(I (ix1 ⟨num L * 160 + o + (x 0).val, hr⟩)).toNat % 20000, Nat.mod_lt _ (by decide)⟩)
        else 0 := by
    show (if cmpi .slt (addi (broadcast S16 (Scalar.addi (base L) (BitVec.ofNat 32 o))) iot) (broadcast S16 5000#32) x = 1 then
      pAt Pn L o h x - gAt I Tn L o h x else Ideal.ofBits .f32 0x00000000#32) = _
    rw [exists_row L o (by omega), pAt_apply Pn L o h x hr, gAt_apply I Tn L o h x hr, Ideal.ofBits_zero_f32]
    by_cases c : num L * 160 + o + (x 0).val < 5000
    · rw [if_pos c, decide_eq_true c]; exact if_pos rfl
    · rw [if_neg c, decide_eq_false c]; exact if_neg (by decide)
  show select _ _ _ x * select _ _ _ x = _
  rw [key]
  unfold rowTerm
  by_cases c : num L * 160 + o + (x 0).val < 5000
  · rw [if_pos c, dif_pos c]
  · rw [if_neg c, dif_neg c, mul_zero]

/-- A lane of a subcore's row is the sum of its ten rows' terms. -/
theorem tileVal_apply (L : grid0.Coords) (x : S16.Idx) :
    tileVal I Pn Tn L x = ∑ k : Fin 10, rowTerm I Pn Tn (num L * 160 + k.val * 16 + (x 0).val) := by
  have e : tileVal I Pn Tn L x =
      ((((((((((Ideal.ofBits .f32 0x00000000#32
        + lanesSq L 0#32 (gAt I Tn L 0 inb_S160_S16_0) (pAt Pn L 0 inb_S160_S16_0) x)
        + lanesSq L 16#32 (gAt I Tn L 16 inb_S160_S16_16) (pAt Pn L 16 inb_S160_S16_16) x)
        + lanesSq L 32#32 (gAt I Tn L 32 inb_S160_S16_32) (pAt Pn L 32 inb_S160_S16_32) x)
        + lanesSq L 48#32 (gAt I Tn L 48 inb_S160_S16_48) (pAt Pn L 48 inb_S160_S16_48) x)
        + lanesSq L 64#32 (gAt I Tn L 64 inb_S160_S16_64) (pAt Pn L 64 inb_S160_S16_64) x)
        + lanesSq L 80#32 (gAt I Tn L 80 inb_S160_S16_80) (pAt Pn L 80 inb_S160_S16_80) x)
        + lanesSq L 96#32 (gAt I Tn L 96 inb_S160_S16_96) (pAt Pn L 96 inb_S160_S16_96) x)
        + lanesSq L 112#32 (gAt I Tn L 112 inb_S160_S16_112) (pAt Pn L 112 inb_S160_S16_112) x)
        + lanesSq L 128#32 (gAt I Tn L 128 inb_S160_S16_128) (pAt Pn L 128 inb_S160_S16_128) x)
        + lanesSq L 144#32 (gAt I Tn L 144 inb_S160_S16_144) (pAt Pn L 144 inb_S160_S16_144) x : EReal) := rfl
  rw [e, Ideal.ofBits_zero_f32, zero_add,
    lanesSq_apply I Pn Tn L 0 (by decide), lanesSq_apply I Pn Tn L 16 (by decide), lanesSq_apply I Pn Tn L 32 (by decide),
    lanesSq_apply I Pn Tn L 48 (by decide), lanesSq_apply I Pn Tn L 64 (by decide), lanesSq_apply I Pn Tn L 80 (by decide),
    lanesSq_apply I Pn Tn L 96 (by decide), lanesSq_apply I Pn Tn L 112 (by decide), lanesSq_apply I Pn Tn L 128 (by decide),
    lanesSq_apply I Pn Tn L 144 (by decide)]
  simp only [Fin.sum_univ_succ, Fin.sum_univ_zero, add_zero, ← add_assoc]
  rfl

/-- The partial sums are together the sum over all rows. -/
theorem sum_outVal : ∑ j : S32x16.Idx, outVal I Pn Tn j = ∑ r : Fin 5000, rowTerm I Pn Tn r.val := by
  rw [sum_idx2 (n0 := 32) (n1 := 16) (fun j => outVal I Pn Tn j), ← sum_rows (rowTerm I Pn Tn) (rowTerm_beyond I Pn Tn)]
  refine Finset.sum_congr rfl fun w _ => Finset.sum_congr rfl fun l _ => ?_
  show tileVal I Pn Tn _ _ = _
  rw [tileVal_apply]
  refine Finset.sum_congr rfl fun k _ => congrArg (rowTerm I Pn Tn) ?_
  show (2 * (w.val / 2) + w.val % 2) * 160 + k.val * 16 + l.val = _
  rw [Nat.div_add_mod]

/-! ## The reference's difference -/

section Reference

open Cert.MseRefIdeal.Gen

variable (J : IVec Cert.MseRefIdeal.S5120 32) (A : FVec Ideal Cert.MseRefIdeal.S5000x4 .f32) (B : FVec Ideal Cert.MseRefIdeal.S20000x4 .f32)

/-- The intensities of the rows. -/
abbrev colP : FVec Ideal Cert.MseRefIdeal.S5000 .f32 :=
  shapeCast _ (extractStridedSlice Cert.MseRefIdeal.S5000x1 ![0, 3] A Cert.MseRefIdeal.Gen.slices_S5000x4_S5000x1_0_3) Cert.MseRefIdeal.Gen.shapeCasts_S5000x1_S5000

/-- The intensities of the table. -/
abbrev colT : FVec Ideal Cert.MseRefIdeal.S20000 .f32 :=
  shapeCast _ (extractStridedSlice Cert.MseRefIdeal.S20000x1 ![0, 3] B Cert.MseRefIdeal.Gen.slices_S20000x4_S20000x1_0_3) Cert.MseRefIdeal.Gen.shapeCasts_S20000x1_S20000

/-- The first 5000 index words. -/
abbrev words : IVec Cert.MseRefIdeal.S5000 32 := extractStridedSlice Cert.MseRefIdeal.S5000 ![0] J Cert.MseRefIdeal.Gen.slices_S5120_S5000_0

/-- The index words as the reference's gather takes them. -/
abbrev gatherWords : IVec Cert.MseRefIdeal.S5000x1 32 :=
  broadcastInDim Cert.MseRefIdeal.S5000x1 ![0] Cert.MseRefIdeal.Gen.bcast_S5000_S5000x1_0
    (select (cmpi .slt (words J) (broadcastInDim Cert.MseRefIdeal.S5000 ![] Cert.MseRefIdeal.Gen.bcast_S_S5000 (constantI Cert.MseRefIdeal.S_ 32 0#32)))
      (addi (words J) (broadcastInDim Cert.MseRefIdeal.S5000 ![] Cert.MseRefIdeal.Gen.bcast_S_S5000 (constantI Cert.MseRefIdeal.S_ 32 20000#32))) (words J))

/-- The reference's difference of intensities. -/
abbrev refDiff : FVec Ideal Cert.MseRefIdeal.S5000 .f32 :=
  subf (colP A) (Host.gather Cert.MseRefIdeal.gather_S20000_S5000x1_S5000_n_0_n_n_0_1_1 (colT B) (gatherWords J))

theorem words_apply (r : Fin 5000) : words J (ix1 r) = J (ix1 ⟨r.val, by omega⟩) := by
  refine congrArg J (funext fun a => Fin.ext ?_)
  obtain rfl : a = 0 := Subsingleton.elim (α := Fin 1) _ _
  exact Nat.zero_add _

theorem gatherWords_apply (hJ : ∀ j, (J j).toNat < 20000) (r : Fin 5000) : gatherWords J (ix2 r (0 : Fin 1)) = J (ix1 ⟨r.val, by omega⟩) := by
  have e : ∀ x : IVec Cert.MseRefIdeal.S5000 32,
      broadcastInDim Cert.MseRefIdeal.S5000x1 ![0] Cert.MseRefIdeal.Gen.bcast_S5000_S5000x1_0 x (ix2 r (0 : Fin 1)) = x (ix1 r) := by
    intro x
    refine congrArg x (funext fun a => Fin.ext ?_)
    obtain rfl : a = 0 := Subsingleton.elim (α := Fin 1) _ _
    exact congrArg Fin.val (dif_neg (show ¬ (5000 = 1) by decide))
  refine (e _).trans ?_
  have hw := hJ (ix1 ⟨r.val, by omega⟩)
  rw [← words_apply J r] at hw
  exact (if_neg (not_slt_zero _ hw)).trans (words_apply J r)

theorem refDiff_apply (hJ : ∀ j, (J j).toNat < 20000) (r : Fin 5000) : refDiff J A B (ix1 r)
    = colP A (ix1 r) - colT B (ix1 ⟨(J (ix1 ⟨r.val, by omega⟩)).toNat % 20000, Nat.mod_lt _ (by decide)⟩) := by
  have h := hJ (ix1 ⟨r.val, by omega⟩)
  show colP A (ix1 r) - Host.gather _ _ _ (ix1 r) = _
  rw [Routing.gather_take1 Cert.MseRefIdeal.gather_S20000_S5000x1_S5000_n_0_n_n_0_1_1 rfl rfl rfl rfl (colT B) (gatherWords J) r
    ⟨(J (ix1 ⟨r.val, by omega⟩)).toNat % 20000, Nat.mod_lt _ (by decide)⟩ (by
      rw [gatherWords_apply J hJ]
      refine BitVec.eq_of_toNat_eq ?_
      show _ = (BitVec.ofNat 32 ((J (ix1 ⟨r.val, by omega⟩)).toNat % 20000)).toNat
      rw [BitVec.toNat_ofNat]; omega) (by decide)]

/-- The reference's sum of squares is the sum over the rows. -/
theorem sum_refDiff (hJ : ∀ j, (J j).toNat < 20000) (Pn : FVec Ideal S5120 .f32) (hP : ∀ r : Fin 5000, Pn (ix1 ⟨r.val, by omega⟩) = colP A (ix1 r)) :
    ∑ i : Cert.MseRefIdeal.S5000.Idx, mulf (refDiff J A B) (refDiff J A B) i = ∑ r : Fin 5000, rowTerm J Pn (colT B) r.val := by
  refine Fintype.sum_equiv idxEquiv1 _ _ fun i => ?_
  obtain ⟨r, rfl⟩ : ∃ r : Fin 5000, i = ix1 r := ⟨i 0, eq_ix1 i⟩
  show refDiff J A B (ix1 r) * refDiff J A B (ix1 r) = rowTerm J Pn (colT B) r.val
  rw [refDiff_apply J A B hJ, rowTerm, dif_pos r.isLt, hP]

end Reference

/-- The program's result, from the arguments, is the reference's. -/
theorem result_eq (m : (ℓ : Loc nD τ sig) → Buf (Elt Ideal) ℓ) (d : Dev nD) (hI : ∀ j, (Iv m d j).toNat < 20000) :
    V3 m d (dv main_v9) = Host.divf (Host.reduceAdd (mulf (refDiff (Iv m d) (m ((SparseCore.T d).loc main_arg1)) (m ((SparseCore.T d).loc main_arg2)))
        (refDiff (Iv m d) (m ((SparseCore.T d).loc main_arg1)) (m ((SparseCore.T d).loc main_arg2))))
      (constant Cert.MseRefIdeal.S_ .f32 0x00000000#32) Cert.MseRefIdeal.Gen.reducesTo_S5000_S_d0 Cert.MseRefIdeal.Gen.h_S_)
      (constant Cert.MseRefIdeal.S_ .f32 0x459C4000#32) := by
  rw [V3_result]
  refine congrArg (fun z => Host.divf z (constant (F := Ideal) S_ .f32 0x459C4000#32)) (funext fun j => ?_)
  rw [total _ _ _ (fun b => b.elim0), sum_outVal]
  refine Eq.trans ?_ (total (mulf (refDiff (Iv m d) (m ((SparseCore.T d).loc main_arg1)) (m ((SparseCore.T d).loc main_arg2)))
        (refDiff (Iv m d) (m ((SparseCore.T d).loc main_arg1)) (m ((SparseCore.T d).loc main_arg2)))) Cert.MseRefIdeal.Gen.reducesTo_S5000_S_d0 Cert.MseRefIdeal.Gen.h_S_ (fun b => b.elim0) j).symm
  rw [sum_refDiff (Iv m d) (m ((SparseCore.T d).loc main_arg1)) (m ((SparseCore.T d).loc main_arg2)) hI (Pv m d) (fun r => by
    rw [Pv_eq]; exact scatter_front scatter_S5120_S1_S5000_0_n_0_0 rfl rfl rfl _ _ (fun _ => rfl) _ (by decide) r), Tv_eq]

end Cert.Proof.MseTile

end

end
-- ==== Proof.lean ====
/-
  The certificate: the claims of the generated statement, from the runs of the programs.
-/
module

public import proofs.«01_k».proof.Defs
public import proofs.«01_k».proof.Proof.Gen.MseIdeal
public import proofs.«01_k».proof.Proof.Gen.MseIdeal.Skeleton
public import proofs.«01_k».proof.Proof.Gen.MseRefIdeal
public import proofs.«01_k».proof.Proof.Gen.MseRefIdeal.Run
public import proofs.«01_k».proof.Proof.Gen.Mse
public import proofs.«01_k».proof.Proof.Gen.Pre_idx_in_range
public import proofs.«01_k».proof.Proof.Gen.NnIdeal.Frame
public import proofs.«01_k».proof.Proof.Gen.Nn.Frame
public import proofs.«01_k».proof.Proof.WholeValue
public import proofs.«01_k».proof.Proof.Gen.ReferenceIdeal
public import proofs.«01_k».proof.Proof.MseValue
public import Idealize.ShloMosaic.Adequacy
public import Idealize.ShloMosaic.Init

@[expose] public section

noncomputable section

namespace Cert.Proof

open Idealize.ShloMosaic Idealize.SL.Sem Cert.Proof.MseTile

/-- A word that passes the precondition's two comparisons is an index of the table. -/
theorem word_in_range (v : BitVec 32) (e : IntOp.andi (IntOp.cmpi .sge v 0#32) (IntOp.cmpi .slt v 20000#32) = 1#1) : v.toNat < 20000 := by
  have both : ∀ a b : Bool, IntOp.andi (BitVec.ofBool a) (BitVec.ofBool b) = 1#1 → a = true ∧ b = true := by decide
  obtain ⟨h0, h1⟩ := both _ _ e
  simp only [BitVec.sle_eq_decide, BitVec.slt_eq_decide, decide_eq_true_eq, BitVec.toInt_eq_toNat_cond, BitVec.toNat_ofNat,
    Nat.reducePow, Nat.reduceMod] at h0 h1
  omega

/-- Under the precondition every index word is an index of the table. -/
theorem words_in_range {F : FTy → Type} [FloatOps F] (I : IVec Cert.Pre_idx_in_range.S5120 32) (A : FVec F Cert.Pre_idx_in_range.S5000x4 .f32)
    (B : FVec F Cert.Pre_idx_in_range.S20000x4 .f32) (h : Cert.Pre_idx_in_range.fn (F := F) I A B = fun _ => 1#1)
    (j : Cert.Pre_idx_in_range.S5120.Idx) : (I j).toNat < 20000 :=
  word_in_range _ (congrFun h j)

/-- The SparseCore program leaves its arguments and its semaphores as they were. -/
theorem frame_mse : Cert.quiescent_Mse := fun m ρ hpre =>
  (θ_run Cert.MseIdeal.defs _ _).mono (fun _ h => ⟨fun c => ⟨(h.1 c Cert.MseIdeal.main_arg0 (by decide)).trans (V3_arg0 m c),
      (h.1 c Cert.MseIdeal.main_arg1 (by decide)).trans (V3_arg1 m c), (h.1 c Cert.MseIdeal.main_arg2 (by decide)).trans (V3_arg2 m c)⟩, h.2⟩)
    (run_main (F := Bits) m ρ fun d j => words_in_range _ _ _ (hpre d) j)

/-- The same of its reading over the extended reals. -/
theorem frame_mse_ideal : Cert.quiescent_MseIdeal := fun m ρ hpre =>
  (θ_run Cert.MseIdeal.defs _ _).mono (fun _ h => ⟨fun c => ⟨(h.1 c Cert.MseIdeal.main_arg0 (by decide)).trans (V3_arg0 m c),
      (h.1 c Cert.MseIdeal.main_arg1 (by decide)).trans (V3_arg1 m c), (h.1 c Cert.MseIdeal.main_arg2 (by decide)).trans (V3_arg2 m c)⟩, h.2⟩)
    (run_main (F := Ideal) m ρ fun d j => words_in_range _ _ _ (hpre d) j)

/-- The reference leaves its arguments as they were. -/
theorem frame_mse_ref (m : (ℓ : Loc Cert.MseRefIdeal.nD Cert.MseRefIdeal.τ Cert.MseRefIdeal.sig) → Buf (Elt Ideal) ℓ) (ρ : Dev Cert.MseRefIdeal.nD → PrngReg) :
    θ_run (Cert.MseRefIdeal.defs (F := Ideal)) (onTc (τ := Cert.MseRefIdeal.τ) (Cert.MseRefIdeal.main (F := Ideal))) ⟨m, fun _ => 0, ρ⟩ (fun r =>
      (∀ c : Dev Cert.MseRefIdeal.nD, r.2.mem (c.tc.loc Cert.MseRefIdeal.main_arg0) = m (c.tc.loc Cert.MseRefIdeal.main_arg0)
        ∧ r.2.mem (c.tc.loc Cert.MseRefIdeal.main_arg1) = m (c.tc.loc Cert.MseRefIdeal.main_arg1)
        ∧ r.2.mem (c.tc.loc Cert.MseRefIdeal.main_arg2) = m (c.tc.loc Cert.MseRefIdeal.main_arg2)) ∧ r.2.sem = fun _ => 0) :=
  (θ_run Cert.MseRefIdeal.defs _ _).mono (fun r h => ⟨fun c => (h c).2, sem_eq_zero_of_no_sems (by decide) r.2⟩)
    (Cert.MseRefIdeal.Value.run (F := Ideal) m ρ)

/-- The program and the reference, from equal arguments, have equal results. -/
theorem value_mse : Cert.algebraic_MseIdeal_MseRefIdeal := fun m ρ m' ρ' hpre heq => by
  have hI : ∀ d j, (Iv m d j).toNat < 20000 := fun d j => words_in_range _ _ _ (hpre d) j
  refine ⟨fun d => V3 m d (dv Cert.MseIdeal.main_v9), ?_, ?_⟩
  · exact (θ_run Cert.MseIdeal.defs _ _).mono (fun _ h c => ⟨h.1 c Cert.MseIdeal.main_v9 (by decide),
      (h.1 c Cert.MseIdeal.main_arg0 (by decide)).trans (V3_arg0 m c), (h.1 c Cert.MseIdeal.main_arg1 (by decide)).trans (V3_arg1 m c),
      (h.1 c Cert.MseIdeal.main_arg2 (by decide)).trans (V3_arg2 m c)⟩) (run_main (F := Ideal) m ρ hI)
  · refine (θ_run Cert.MseRefIdeal.defs _ _).mono (fun _ h c => ⟨(h c).1.trans ?_, (h c).2⟩) (Cert.MseRefIdeal.Value.run (F := Ideal) m' ρ')
    rw [(heq c).1, (heq c).2.1, (heq c).2.2]
    exact (result_eq m c (hI c)).symm

/-! ## The whole kernel -/

/-- The whole kernel leaves its arguments and its semaphores as they were. -/
theorem frame_kernel_ideal : Cert.quiescent_KernelIdeal := fun m ρ _ =>
  (θ_run Cert.KernelIdeal.defs _ _).mono (fun _ h => ⟨fun c => ⟨(h.1 c Cert.KernelIdeal.main_arg0 (by decide)).trans (Whole.V5_arg0 m c),
      (h.1 c Cert.KernelIdeal.main_arg1 (by decide)).trans (Whole.V5_arg1 m c)⟩, h.2⟩)
    (Whole.run_main (F := Ideal) m ρ fun d j => Whole.Iv_lt m d j)

/-- The reference leaves its arguments as they were. -/
theorem frame_reference_ideal : Cert.quiescent_ReferenceIdeal := fun m ρ _ =>
  (θ_run Cert.ReferenceIdeal.defs _ _).mono (fun r h => ⟨fun c => ⟨(h c Cert.ReferenceIdeal.main_arg0).trans (Ref.W3_arg0 m c),
      (h c Cert.ReferenceIdeal.main_arg1).trans (Ref.W3_arg1 m c)⟩, sem_eq_zero_of_no_sems (by decide) r.2⟩)
    (Ref.run (F := Ideal) m ρ)

/-- The whole kernel and the reference, from equal arguments, have equal results. -/
theorem value_kernel : Cert.algebraic_KernelIdeal_ReferenceIdeal := fun m ρ m' ρ' _ heq => by
  refine ⟨fun d => Whole.V5 m d (Whole.dv Cert.KernelIdeal.main_v32), ?_, ?_⟩
  · exact (θ_run Cert.KernelIdeal.defs _ _).mono (fun _ h c => ⟨h.1 c Cert.KernelIdeal.main_v32 (by decide),
      (h.1 c Cert.KernelIdeal.main_arg0 (by decide)).trans (Whole.V5_arg0 m c),
      (h.1 c Cert.KernelIdeal.main_arg1 (by decide)).trans (Whole.V5_arg1 m c)⟩) (Whole.run_main (F := Ideal) m ρ fun d j => Whole.Iv_lt m d j)
  · refine (θ_run Cert.ReferenceIdeal.defs _ _).mono (fun _ h c => ⟨(h c Cert.ReferenceIdeal.main_v32).trans ?_,
      (h c Cert.ReferenceIdeal.main_arg0).trans (Ref.W3_arg0 m' c), (h c Cert.ReferenceIdeal.main_arg1).trans (Ref.W3_arg1 m' c)⟩)
      (Ref.run (F := Ideal) m' ρ')
    rw [Ref.W3_result, (heq c).1, (heq c).2]
    exact (Whole.result_eq m c).symm

theorem claim : Cert.Claim :=
  ⟨Cert.KernelIdeal.Gen.facts, Cert.ReferenceIdeal.Gen.facts, Cert.Nn.Gen.facts, Cert.NnIdeal.Gen.facts,
    Cert.Mse.Gen.facts, Cert.MseIdeal.Gen.facts, Cert.MseRefIdeal.Gen.facts, Cert.Pre_idx_in_range.Gen.facts,
    frame_kernel_ideal, frame_reference_ideal, fun m ρ _ => Cert.Nn.Gen.frame m ρ, fun m ρ _ => Cert.NnIdeal.Gen.frame m ρ,
    frame_mse, frame_mse_ideal, fun m ρ _ => frame_mse_ref m ρ, fun m ρ _ => frame_mse_ref m ρ, value_kernel,
    IdealRules.named_const.statement Cert.NnIdeal.κ "mask" .f32 0x7149F2CA#32 ⊤ rfl, trivial, value_mse⟩

end Cert.Proof

end
